-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_reals_and_rows [hPre_reals_and_rows : Cert.Pre_reals_and_rows.Facts] (m : (ℓ : Loc Cert.KernelIdeal.nD Cert.KernelIdeal.τ Cert.KernelIdeal.sig) → Buf (Elt Ideal) ℓ) : Prop :=
  ∀ c : Dev Cert.KernelIdeal.nD,
    (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.1 = (fun _ => 1#1)
    ∧ (Cert.Pre_reals_and_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_reals_and_rows [hPre_reals_and_rows : Cert.Pre_reals_and_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.1 = (fun _ => 1#1)
    ∧ (Cert.Pre_reals_and_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))).2.2.2.2.2.2.2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_reals_and_rows [hKernelIdeal : Cert.KernelIdeal.Facts] [hPre_reals_and_rows : Cert.Pre_reals_and_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_reals_and_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_reals_and_rows [hReferenceIdeal : Cert.ReferenceIdeal.Facts] [hPre_reals_and_rows : Cert.Pre_reals_and_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_reals_and_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9)
      ∧ r.2.mem ((c.tc : Thread Cert.Reference.nD Cert.Reference.τ).loc Cert.Reference.main_arg10) = m ((c.tc : Thread Cert.Reference.nD Cert.Reference.τ).loc Cert.Reference.main_arg10)
      ∧ r.2.mem ((c.tc : Thread Cert.Reference.nD Cert.Reference.τ).loc Cert.Reference.main_arg11) = m ((c.tc : Thread Cert.Reference.nD Cert.Reference.τ).loc Cert.Reference.main_arg11)
      ∧ r.2.mem ((c.tc : Thread Cert.Reference.nD Cert.Reference.τ).loc Cert.Reference.main_arg12) = m ((c.tc : Thread Cert.Reference.nD Cert.Reference.τ).loc Cert.Reference.main_arg12)
      ∧ r.2.mem ((c.tc : Thread Cert.Reference.nD Cert.Reference.τ).loc Cert.Reference.main_arg13) = m ((c.tc : Thread Cert.Reference.nD Cert.Reference.τ).loc Cert.Reference.main_arg13)
      ∧ r.2.mem ((c.tc : Thread Cert.Reference.nD Cert.Reference.τ).loc Cert.Reference.main_arg14) = m ((c.tc : Thread Cert.Reference.nD Cert.Reference.τ).loc Cert.Reference.main_arg14)
      ∧ r.2.mem ((c.tc : Thread Cert.Reference.nD Cert.Reference.τ).loc Cert.Reference.main_arg15) = m ((c.tc : Thread Cert.Reference.nD Cert.Reference.τ).loc Cert.Reference.main_arg15)
      ∧ r.2.mem ((c.tc : Thread Cert.Reference.nD Cert.Reference.τ).loc Cert.Reference.main_arg16) = m ((c.tc : Thread Cert.Reference.nD Cert.Reference.τ).loc Cert.Reference.main_arg16)
      ∧ r.2.mem ((c.tc : Thread Cert.Reference.nD Cert.Reference.τ).loc Cert.Reference.main_arg17) = m ((c.tc : Thread Cert.Reference.nD Cert.Reference.τ).loc Cert.Reference.main_arg17)
      ∧ r.2.mem ((c.tc : Thread Cert.Reference.nD Cert.Reference.τ).loc Cert.Reference.main_arg18) = m ((c.tc : Thread Cert.Reference.nD Cert.Reference.τ).loc Cert.Reference.main_arg18)
      ∧ r.2.mem ((c.tc : Thread Cert.Reference.nD Cert.Reference.τ).loc Cert.Reference.main_arg19) = m ((c.tc : Thread Cert.Reference.nD Cert.Reference.τ).loc Cert.Reference.main_arg19)
      ∧ r.2.mem ((c.tc : Thread Cert.Reference.nD Cert.Reference.τ).loc Cert.Reference.main_arg20) = m ((c.tc : Thread Cert.Reference.nD Cert.Reference.τ).loc Cert.Reference.main_arg20)
      ∧ r.2.mem ((c.tc : Thread Cert.Reference.nD Cert.Reference.τ).loc Cert.Reference.main_arg21) = m ((c.tc : Thread Cert.Reference.nD Cert.Reference.τ).loc Cert.Reference.main_arg21))
      ∧ r.2.sem = fun _ => 0)

def preserves_Kernel_KernelIdeal : Prop :=
  IdealRules.named_const.Statement Cert.KernelIdeal.κ "root_half" .f32 0x3F3504F3#32 (((Real.sqrt 2)⁻¹ : ℝ) : EReal)

def preserves_Reference_ReferenceIdeal : Prop :=
  True

def algebraic_KernelIdeal_ReferenceIdeal_pre_reals_and_rows [hKernelIdeal : Cert.KernelIdeal.Facts] [hReferenceIdeal : Cert.ReferenceIdeal.Facts] [hPre_reals_and_rows : Cert.Pre_reals_and_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_reals_and_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v76)) (v1 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_v78) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v342) = v0 c
          ∧ r.2.mem ((c.tc : Thread Cert.ReferenceIdeal.nD Cert.ReferenceIdeal.τ).loc Cert.ReferenceIdeal.main_v409) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hReference : Cert.Reference.Facts) (hPre_reals_and_rows : Cert.Pre_reals_and_rows.Facts),
    quiescent_Kernel (hKernel := hKernel)
    ∧ quiescent_KernelIdeal (hKernelIdeal := hKernelIdeal)
    ∧ quiescent_KernelIdeal_pre_reals_and_rows (hKernelIdeal := hKernelIdeal) (hPre_reals_and_rows := hPre_reals_and_rows)
    ∧ quiescent_ReferenceIdeal (hReferenceIdeal := hReferenceIdeal)
    ∧ quiescent_ReferenceIdeal_pre_reals_and_rows (hReferenceIdeal := hReferenceIdeal) (hPre_reals_and_rows := hPre_reals_and_rows)
    ∧ quiescent_Reference (hReference := hReference)
    ∧ preserves_Kernel_KernelIdeal
    ∧ preserves_Reference_ReferenceIdeal
    ∧ algebraic_KernelIdeal_ReferenceIdeal_pre_reals_and_rows (hKernelIdeal := hKernelIdeal) (hReferenceIdeal := hReferenceIdeal) (hPre_reals_and_rows := hPre_reals_and_rows)
-- ==== Pre_reals_and_rows.lean ====
abbrev S2x2x2048x1024 : Shape := ⟨4, ![2, 2, 2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S2x2048x40 : Shape := ⟨3, ![2, 2048, 40]⟩
abbrev S_ : Shape := ⟨0, ![]⟩

class Facts : Prop where
  bcast_S_S2x2x2048x1024 : S_.BroadcastsInDim S2x2x2048x1024 (![] : Fin 0 → Fin S2x2x2048x1024.rank)
  bcast_S_S1024 : S_.BroadcastsInDim S1024 (![] : Fin 0 → Fin S1024.rank)
  bcast_S_S1024x1024 : S_.BroadcastsInDim S1024x1024 (![] : Fin 0 → Fin S1024x1024.rank)
  bcast_S_S2x2048x40 : S_.BroadcastsInDim S2x2048x40 (![] : Fin 0 → Fin S2x2048x40.rank)

variable [Facts]

def fn_part1 {F : FTy → Type} [FloatOps F] (main_arg8 : FVec F S1024 .f32) (main_arg21 : IVec S2x2048x40 32) (main_v2 : IVec S2x2x2048x1024 1) (main_v5 : IVec S1024 1) (main_v8 : IVec S1024 1) (main_v11 : IVec S1024x1024 1) (main_v14 : IVec S1024 1) (main_v17 : IVec S1024x1024 1) : IVec S2x2x2048x1024 1 × IVec S1024 1 × IVec S1024 1 × IVec S1024x1024 1 × IVec S1024 1 × IVec S1024x1024 1 × IVec S1024 1 × IVec S2x2048x40 1 × IVec S2x2048x40 1 :=
  let main_v18 : FVec F S1024 .f32 := Host.absf main_arg8
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  let main_c : IVec S_ 32 := constantI S_ 32 0#32
  let main_v21 : IVec S2x2048x40 32 := broadcastInDim S2x2048x40 ![] bcast_S_S2x2048x40 main_c
  let main_v22 : IVec S2x2048x40 1 := cmpi .sge main_arg21 main_v21
  let main_c_6 : IVec S_ 32 := constantI S_ 32 2048#32
  let main_v23 : IVec S2x2048x40 32 := broadcastInDim S2x2048x40 ![] bcast_S_S2x2048x40 main_c_6
  let main_v24 : IVec S2x2048x40 1 := cmpi .slt main_arg21 main_v23
  (main_v2, main_v5, main_v8, main_v11, main_v14, main_v17, main_v20, main_v22, main_v24)

def fn {F : FTy → Type} [FloatOps F] (main_arg0 : FVec F S2x2x2048x1024 .f32) (main_arg1 : FVec F S1024 .f32) (main_arg2 : FVec F S1024 .f32) (main_arg3 : FVec F S1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x4096 .f32) (main_arg14 : FVec F S4096 .f32) (main_arg15 : FVec F S4096 .f32) (main_arg16 : FVec F S4096 .f32) (main_arg17 : FVec F S4096x1024 .f32) (main_arg18 : FVec F S1024 .f32) (main_arg19 : FVec F S1024 .f32) (main_arg20 : FVec F S1024 .f32) (main_arg21 : IVec S2x2048x40 32) : IVec S2x2x2048x1024 1 × IVec S1024 1 × IVec S1024 1 × IVec S1024x1024 1 × IVec S1024 1 × IVec S1024x1024 1 × IVec S1024 1 × IVec S2x2048x40 1 × IVec S2x2048x40 1 :=
  let main_v0 : FVec F S2x2x2048x1024 .f32 := Host.absf main_arg0
  let main_cst : FVec F S_ .f32 := constant S_ .f32 0x7F800000#32
  let main_v1 : FVec F S2x2x2048x1024 .f32 := broadcastInDim S2x2x2048x1024 ![] bcast_S_S2x2x2048x1024 main_cst
  let main_v2 : IVec S2x2x2048x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x1024 .f32 := Host.absf main_arg5
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S1024 .f32 := Host.absf main_arg6
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg7
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  fn_part1 (F := F) main_arg8 main_arg21 main_v2 main_v5 main_v8 main_v11 main_v14 main_v17
-- ==== Kernel.lean ====
abbrev S2x2x2048x1024 : Shape := ⟨4, ![2, 2, 2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S2x2048x40 : Shape := ⟨3, ![2, 2048, 40]⟩
abbrev S2x4096x1024 : Shape := ⟨3, ![2, 4096, 1024]⟩
abbrev S1024x3072 : Shape := ⟨2, ![1024, 3072]⟩
abbrev S3072 : Shape := ⟨1, ![3072]⟩
abbrev S1x3072 : Shape := ⟨2, ![1, 3072]⟩
abbrev S2048 : Shape := ⟨1, ![2048]⟩
abbrev S2048x1 : Shape := ⟨2, ![2048, 1]⟩
abbrev S_ : Shape := ⟨0, ![]⟩
abbrev S2048x2048 : Shape := ⟨2, ![2048, 2048]⟩
abbrev S1x2048x40 : Shape := ⟨3, ![1, 2048, 40]⟩
abbrev S2048x40 : Shape := ⟨2, ![2048, 40]⟩
abbrev S2048x40x1 : Shape := ⟨3, ![2048, 40, 1]⟩
abbrev S2048x40x2 : Shape := ⟨3, ![2048, 40, 2]⟩
abbrev S1x2048x2048 : Shape := ⟨3, ![1, 2048, 2048]⟩
abbrev S2x2048x2048 : Shape := ⟨3, ![2, 2048, 2048]⟩
abbrev S1x1024 : Shape := ⟨2, ![1, 1024]⟩
abbrev S2x4096x3072 : Shape := ⟨3, ![2, 4096, 3072]⟩
abbrev S1x512x1024 : Shape := ⟨3, ![1, 512, 1024]⟩
abbrev S1x512x3072 : Shape := ⟨3, ![1, 512, 3072]⟩
abbrev S512x1024 : Shape := ⟨2, ![512, 1024]⟩
abbrev S512 : Shape := ⟨1, ![512]⟩
abbrev S512x1 : Shape := ⟨2, ![512, 1]⟩
abbrev S512x3072 : Shape := ⟨2, ![512, 3072]⟩
abbrev S2x2x16x2048 : Shape := ⟨4, ![2, 2, 16, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S1x1x16x256 : Shape := ⟨4, ![1, 1, 16, 256]⟩
abbrev S2048x1024 : Shape := ⟨2, ![2048, 1024]⟩
abbrev S256x1024 : Shape := ⟨2, ![256, 1024]⟩
abbrev S256x2048 : Shape := ⟨2, ![256, 2048]⟩
abbrev S256x64 : Shape := ⟨2, ![256, 64]⟩
abbrev S2048x64 : Shape := ⟨2, ![2048, 64]⟩
abbrev S256 : Shape := ⟨1, ![256]⟩
abbrev S1x1x1x256 : Shape := ⟨4, ![1, 1, 1, 256]⟩
abbrev S2x2x16x40 : Shape := ⟨4, ![2, 2, 16, 40]⟩
abbrev S64x2048 : Shape := ⟨2, ![64, 2048]⟩
abbrev S64x40 : Shape := ⟨2, ![64, 40]⟩
abbrev S64 : Shape := ⟨1, ![64]⟩
abbrev S64x1 : Shape := ⟨2, ![64, 1]⟩
abbrev S1x1x8x40 : Shape := ⟨4, ![1, 1, 8, 40]⟩
abbrev S1x2048x512 : Shape := ⟨3, ![1, 2048, 512]⟩
abbrev S1x1x2048x512 : Shape := ⟨4, ![1, 1, 2048, 512]⟩
abbrev S8x40 : Shape := ⟨2, ![8, 40]⟩
abbrev S40x2048 : Shape := ⟨2, ![40, 2048]⟩
abbrev S2048x512 : Shape := ⟨2, ![2048, 512]⟩
abbrev S1x40 : Shape := ⟨2, ![1, 40]⟩
abbrev S40 : Shape := ⟨1, ![40]⟩
abbrev S40x1 : Shape := ⟨2, ![40, 1]⟩
abbrev S40x64 : Shape := ⟨2, ![40, 64]⟩
abbrev S1x64 : Shape := ⟨2, ![1, 64]⟩
abbrev S1x1x2048x64 : Shape := ⟨4, ![1, 1, 2048, 64]⟩
abbrev S1x4096 : Shape := ⟨2, ![1, 4096]⟩
abbrev S256x4096 : Shape := ⟨2, ![256, 4096]⟩
abbrev S256x1 : Shape := ⟨2, ![256, 1]⟩
abbrev S1x2x2048x1024 : Shape := ⟨4, ![1, 2, 2048, 1024]⟩
abbrev S2x2048x1024 : Shape := ⟨3, ![2, 2048, 1024]⟩

abbrev nBuf : Space → Nat
  | .hbm => 119
  | .vmem => 54
  | .smem => 0
  | _ => 0

abbrev bufTy : (tb : Table) → Fin (tcTables nBuf tb) → BufTy
  | .hbm, ⟨0, _⟩ => ⟨S2x2x2048x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x4096, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x1024, .f32⟩
  | .hbm, ⟨18, _⟩ => ⟨S1024, .f32⟩
  | .hbm, ⟨19, _⟩ => ⟨S1024, .f32⟩
  | .hbm, ⟨20, _⟩ => ⟨S1024, .f32⟩
  | .hbm, ⟨21, _⟩ => ⟨S2x2048x40, .i32⟩
  | .hbm, ⟨22, _⟩ => ⟨S2x4096x1024, .f32⟩
  | .hbm, ⟨23, _⟩ => ⟨S1024x3072, .f32⟩
  | .hbm, ⟨24, _⟩ => ⟨S1024x3072, .bf16⟩
  | .hbm, ⟨25, _⟩ => ⟨S3072, .f32⟩
  | .hbm, ⟨26, _⟩ => ⟨S1x3072, .f32⟩
  | .hbm, ⟨27, _⟩ => ⟨S2048, .i32⟩
  | .hbm, ⟨28, _⟩ => ⟨S2048x1, .i32⟩
  | .hbm, ⟨29, _⟩ => ⟨S_, .f32⟩
  | .hbm, ⟨30, _⟩ => ⟨S2048x2048, .f32⟩
  | .hbm, ⟨31, _⟩ => ⟨S1x2048x40, .i32⟩
  | .hbm, ⟨32, _⟩ => ⟨S2048x40, .i32⟩
  | .hbm, ⟨33, _⟩ => ⟨S_, .i32⟩
  | .hbm, ⟨34, _⟩ => ⟨S2048x1, .i32⟩
  | .hbm, ⟨35, _⟩ => ⟨S2048x1, .i1⟩
  | .hbm, ⟨36, _⟩ => ⟨S_, .i32⟩
  | .hbm, ⟨37, _⟩ => ⟨S2048x1, .i32⟩
  | .hbm, ⟨38, _⟩ => ⟨S2048x1, .i32⟩
  | .hbm, ⟨39, _⟩ => ⟨S2048x1, .i32⟩
  | .hbm, ⟨40, _⟩ => ⟨S_, .i32⟩
  | .hbm, ⟨41, _⟩ => ⟨S2048x40, .i32⟩
  | .hbm, ⟨42, _⟩ => ⟨S2048x40, .i1⟩
  | .hbm, ⟨43, _⟩ => ⟨S_, .i32⟩
  | .hbm, ⟨44, _⟩ => ⟨S2048x40, .i32⟩
  | .hbm, ⟨45, _⟩ => ⟨S2048x40, .i32⟩
  | .hbm, ⟨46, _⟩ => ⟨S2048x40, .i32⟩
  | .hbm, ⟨47, _⟩ => ⟨S2048x40, .i32⟩
  | .hbm, ⟨48, _⟩ => ⟨S2048x40x1, .i32⟩
  | .hbm, ⟨49, _⟩ => ⟨S2048x40x1, .i32⟩
  | .hbm, ⟨50, _⟩ => ⟨S2048x40x2, .i32⟩
  | .hbm, ⟨51, _⟩ => ⟨S_, .f32⟩
  | .hbm, ⟨52, _⟩ => ⟨S2048x40, .f32⟩
  | .hbm, ⟨53, _⟩ => ⟨S2048x2048, .f32⟩
  | .hbm, ⟨54, _⟩ => ⟨S_, .f32⟩
  | .hbm, ⟨55, _⟩ => ⟨S2048x2048, .f32⟩
  | .hbm, ⟨56, _⟩ => ⟨S1x2048x40, .i32⟩
  | .hbm, ⟨57, _⟩ => ⟨S2048x40, .i32⟩
  | .hbm, ⟨58, _⟩ => ⟨S_, .i32⟩
  | .hbm, ⟨59, _⟩ => ⟨S2048x1, .i32⟩
  | .hbm, ⟨60, _⟩ => ⟨S2048x1, .i1⟩
  | .hbm, ⟨61, _⟩ => ⟨S_, .i32⟩
  | .hbm, ⟨62, _⟩ => ⟨S2048x1, .i32⟩
  | .hbm, ⟨63, _⟩ => ⟨S2048x1, .i32⟩
  | .hbm, ⟨64, _⟩ => ⟨S2048x1, .i32⟩
  | .hbm, ⟨65, _⟩ => ⟨S_, .i32⟩
  | .hbm, ⟨66, _⟩ => ⟨S2048x40, .i32⟩
  | .hbm, ⟨67, _⟩ => ⟨S2048x40, .i1⟩
  | .hbm, ⟨68, _⟩ => ⟨S_, .i32⟩
  | .hbm, ⟨69, _⟩ => ⟨S2048x40, .i32⟩
  | .hbm, ⟨70, _⟩ => ⟨S2048x40, .i32⟩
  | .hbm, ⟨71, _⟩ => ⟨S2048x40, .i32⟩
  | .hbm, ⟨72, _⟩ => ⟨S2048x40, .i32⟩
  | .hbm, ⟨73, _⟩ => ⟨S2048x40x1, .i32⟩
  | .hbm, ⟨74, _⟩ => ⟨S2048x40x1, .i32⟩
  | .hbm, ⟨75, _⟩ => ⟨S2048x40x2, .i32⟩
  | .hbm, ⟨76, _⟩ => ⟨S_, .f32⟩
  | .hbm, ⟨77, _⟩ => ⟨S2048x40, .f32⟩
  | .hbm, ⟨78, _⟩ => ⟨S2048x2048, .f32⟩
  | .hbm, ⟨79, _⟩ => ⟨S1x2048x2048, .f32⟩
  | .hbm, ⟨80, _⟩ => ⟨S1x2048x2048, .f32⟩
  | .hbm, ⟨81, _⟩ => ⟨S2x2048x2048, .f32⟩
  | .hbm, ⟨82, _⟩ => ⟨S_, .f32⟩
  | .hbm, ⟨83, _⟩ => ⟨S2x2048x2048, .f32⟩
  | .hbm, ⟨84, _⟩ => ⟨S2x2048x2048, .i1⟩
  | .hbm, ⟨85, _⟩ => ⟨S_, .f32⟩
  | .hbm, ⟨86, _⟩ => ⟨S_, .f32⟩
  | .hbm, ⟨87, _⟩ => ⟨S2x2048x2048, .f32⟩
  | .hbm, ⟨88, _⟩ => ⟨S2x2048x2048, .f32⟩
  | .hbm, ⟨89, _⟩ => ⟨S2x2048x2048, .f32⟩
  | .hbm, ⟨90, _⟩ => ⟨S2x2048x2048, .bf16⟩
  | .hbm, ⟨91, _⟩ => ⟨S2x2048x2048, .bf16⟩
  | .hbm, ⟨92, _⟩ => ⟨S1x1024, .f32⟩
  | .hbm, ⟨93, _⟩ => ⟨S1x1024, .f32⟩
  | .hbm, ⟨94, _⟩ => ⟨S2x4096x3072, .bf16⟩
  | .hbm, ⟨95, _⟩ => ⟨S2x4096x1024, .f32⟩
  | .hbm, ⟨96, _⟩ => ⟨S2x2x16x2048, .f32⟩
  | .hbm, ⟨97, _⟩ => ⟨S2x2x16x40, .i32⟩
  | .hbm, ⟨98, _⟩ => ⟨S2x2x2048x1024, .bf16⟩
  | .hbm, ⟨99, _⟩ => ⟨S2x4096x1024, .bf16⟩
  | .hbm, ⟨100, _⟩ => ⟨S1024x1024, .bf16⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S2x4096x1024, .bf16⟩
  | .hbm, ⟨105, _⟩ => ⟨S1024x4096, .bf16⟩
  | .hbm, ⟨106, _⟩ => ⟨S1x4096, .f32⟩
  | .hbm, ⟨107, _⟩ => ⟨S1x4096, .f32⟩
  | .hbm, ⟨108, _⟩ => ⟨S1x4096, .f32⟩
  | .hbm, ⟨109, _⟩ => ⟨S4096x1024, .bf16⟩
  | .hbm, ⟨110, _⟩ => ⟨S1x1024, .f32⟩
  | .hbm, ⟨111, _⟩ => ⟨S1x1024, .f32⟩
  | .hbm, ⟨112, _⟩ => ⟨S1x1024, .f32⟩
  | .hbm, ⟨113, _⟩ => ⟨S2x4096x1024, .f32⟩
  | .hbm, ⟨114, _⟩ => ⟨S2x2x2048x1024, .f32⟩
  | .hbm, ⟨115, _⟩ => ⟨S1x2x2048x1024, .f32⟩
  | .hbm, ⟨116, _⟩ => ⟨S2x2048x1024, .f32⟩
  | .hbm, ⟨117, _⟩ => ⟨S1x2x2048x1024, .f32⟩
  | .hbm, ⟨118, _⟩ => ⟨S2x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1x3072, .f32⟩
  | .local _ .vmem, ⟨6, _⟩ => ⟨S1x512x3072, .bf16⟩
  | .local _ .vmem, ⟨7, _⟩ => ⟨S1x512x3072, .bf16⟩
  | .local _ .vmem, ⟨8, _⟩ => ⟨S1x512x1024, .f32⟩
  | .local _ .vmem, ⟨9, _⟩ => ⟨S1x512x1024, .f32⟩
  | .local _ .vmem, ⟨10, _⟩ => ⟨S1x256x1024, .bf16⟩
  | .local _ .vmem, ⟨11, _⟩ => ⟨S1x256x1024, .bf16⟩
  | .local _ .vmem, ⟨12, _⟩ => ⟨S1x2048x1024, .bf16⟩
  | .local _ .vmem, ⟨13, _⟩ => ⟨S1x2048x1024, .bf16⟩
  | .local _ .vmem, ⟨14, _⟩ => ⟨S1x256x2048, .bf16⟩
  | .local _ .vmem, ⟨15, _⟩ => ⟨S1x256x2048, .bf16⟩
  | .local _ .vmem, ⟨16, _⟩ => ⟨S1x256x2048, .bf16⟩
  | .local _ .vmem, ⟨17, _⟩ => ⟨S1x256x2048, .bf16⟩
  | .local _ .vmem, ⟨18, _⟩ => ⟨S1x1x16x256, .f32⟩
  | .local _ .vmem, ⟨19, _⟩ => ⟨S1x1x16x256, .f32⟩
  | .local _ .vmem, ⟨20, _⟩ => ⟨S2x2x16x2048, .f32⟩
  | .local _ .vmem, ⟨21, _⟩ => ⟨S2x2x16x40, .i32⟩
  | .local _ .vmem, ⟨22, _⟩ => ⟨S1x1x8x40, .i32⟩
  | .local _ .vmem, ⟨23, _⟩ => ⟨S1x1x8x40, .i32⟩
  | .local _ .vmem, ⟨24, _⟩ => ⟨S1x2048x512, .bf16⟩
  | .local _ .vmem, ⟨25, _⟩ => ⟨S1x2048x512, .bf16⟩
  | .local _ .vmem, ⟨26, _⟩ => ⟨S1x2048x512, .bf16⟩
  | .local _ .vmem, ⟨27, _⟩ => ⟨S1x2048x512, .bf16⟩
  | .local _ .vmem, ⟨28, _⟩ => ⟨S1x2048x512, .bf16⟩
  | .local _ .vmem, ⟨29, _⟩ => ⟨S1x2048x512, .bf16⟩
  | .local _ .vmem, ⟨30, _⟩ => ⟨S1x1x2048x512, .bf16⟩
  | .local _ .vmem, ⟨31, _⟩ => ⟨S1x1x2048x512, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .f32⟩
  | .local _ .vmem, ⟨35, _⟩ => ⟨S1x512x1024, .f32⟩
  | .local _ .vmem, ⟨36, _⟩ => ⟨S1024x1024, .bf16⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x512x1024, .bf16⟩
  | .local _ .vmem, ⟨41, _⟩ => ⟨S1x512x1024, .bf16⟩
  | .local _ .vmem, ⟨42, _⟩ => ⟨S1x256x1024, .bf16⟩
  | .local _ .vmem, ⟨43, _⟩ => ⟨S1x256x1024, .bf16⟩
  | .local _ .vmem, ⟨44, _⟩ => ⟨S1024x4096, .bf16⟩
  | .local _ .vmem, ⟨45, _⟩ => ⟨S1x4096, .f32⟩
  | .local _ .vmem, ⟨46, _⟩ => ⟨S1x4096, .f32⟩
  | .local _ .vmem, ⟨47, _⟩ => ⟨S1x4096, .f32⟩
  | .local _ .vmem, ⟨48, _⟩ => ⟨S4096x1024, .bf16⟩
  | .local _ .vmem, ⟨49, _⟩ => ⟨S1x1024, .f32⟩
  | .local _ .vmem, ⟨50, _⟩ => ⟨S1x1024, .f32⟩
  | .local _ .vmem, ⟨51, _⟩ => ⟨S1x1024, .f32⟩
  | .local _ .vmem, ⟨52, _⟩ => ⟨S1x256x1024, .f32⟩
  | .local _ .vmem, ⟨53, _⟩ => ⟨S1x256x1024, .f32⟩
  | _, _ => ⟨S2x2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_cst : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_c : Ref sig .tc := ⟨.hbm, 33, rfl⟩
abbrev main_v10 : Ref sig .tc := ⟨.hbm, 34, rfl⟩
abbrev main_v11 : Ref sig .tc := ⟨.hbm, 35, rfl⟩
abbrev main_c_0 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_cst_3 : Ref sig .tc := ⟨.hbm, 51, rfl⟩
abbrev main_v24 : Ref sig .tc := ⟨.hbm, 52, rfl⟩
abbrev main_v25 : Ref sig .tc := ⟨.hbm, 53, rfl⟩
abbrev main_cst_4 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_5 : Ref sig .tc := ⟨.hbm, 58, rfl⟩
abbrev main_v29 : Ref sig .tc := ⟨.hbm, 59, rfl⟩
abbrev main_v30 : Ref sig .tc := ⟨.hbm, 60, rfl⟩
abbrev main_c_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_c_7 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_10 : Ref sig .tc := ⟨.hbm, 82, rfl⟩
abbrev main_v48 : Ref sig .tc := ⟨.hbm, 83, rfl⟩
abbrev main_v49 : Ref sig .tc := ⟨.hbm, 84, rfl⟩
abbrev main_cst_11 : Ref sig .tc := ⟨.hbm, 85, rfl⟩
abbrev main_cst_12 : Ref sig .tc := ⟨.hbm, 86, rfl⟩
abbrev main_call0_v0 : Ref sig .tc := ⟨.hbm, 87, rfl⟩
abbrev main_call0_v1 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55_0 : Ref sig .tc := ⟨.hbm, 94, rfl⟩
abbrev main_v55_1 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc2_stg0_0 : Ref sig .tc := ⟨.vmem, 20, rfl⟩
abbrev cc2_stg1_0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg4_0 : Ref sig .tc := ⟨.vmem, 47, rfl⟩
abbrev cc5_stg5_0 : Ref sig .tc := ⟨.vmem, 48, rfl⟩
abbrev cc5_stg6_0 : Ref sig .tc := ⟨.vmem, 49, rfl⟩
abbrev cc5_stg7_0 : Ref sig .tc := ⟨.vmem, 50, rfl⟩
abbrev cc5_stg8_0 : Ref sig .tc := ⟨.vmem, 51, rfl⟩
abbrev cc5_stg9_0 : Ref sig .tc := ⟨.vmem, 52, rfl⟩
abbrev cc5_stg9_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem1_0 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc5_sem0_0 : DmaSem sig := 42
abbrev cc5_sem0_1 : DmaSem sig := 43
abbrev cc5_sem1_0 : DmaSem sig := 44
abbrev cc5_sem2_0 : DmaSem sig := 45
abbrev cc5_sem3_0 : DmaSem sig := 46
abbrev cc5_sem4_0 : DmaSem sig := 47
abbrev cc5_sem5_0 : DmaSem sig := 48
abbrev cc5_sem6_0 : DmaSem sig := 49
abbrev cc5_sem7_0 : DmaSem sig := 50
abbrev cc5_sem8_0 : DmaSem sig := 51
abbrev cc5_sem9_0 : DmaSem sig := 52
abbrev cc5_sem9_1 : DmaSem sig := 53

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![2, 2, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let c8_i32 : BitVec 32 := 8#32
  let v1 : BitVec 32 := Scalar.muli arg1 c8_i32
  let v2 : BitVec 32 := Scalar.addi v1 arg2
  let c0_i32 : BitVec 32 := 0#32
  let c0_i32_0 : BitVec 32 := 0#32
  ![v0.toNat, v2.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1x16x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev grid2 : Pipeline.Grid := ⟨1, ![1], ![false]⟩

@[reducible] def k2_t1_loop : Scf.Loop 32 :=
  let c0_i32_3 : BitVec 32 := 0#32
  let c40_i32 : BitVec 32 := 40#32
  let v6 : BitVec 32 := Scalar.addi c0_i32_3 c40_i32
  let c1_i32 : BitVec 32 := 1#32
  ⟨c0_i32_3, v6, c1_i32⟩
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage2_0 : Fin 1 → Memref sig .tc .vmem S2x2x16x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2x2x16x40 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev grid3 : Pipeline.Grid := ⟨3, ![2, 2, 2], ![false, false, false]⟩

def cc3_transform_0 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi c1_i32 arg0
  let c0_i32 : BitVec 32 := 0#32
  ![v0.toNat, arg1.toNat, arg2.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  ![arg0.toNat, arg1.toNat, v0.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg2
  let c0_i32 : BitVec 32 := 0#32
  ![arg0.toNat, arg1.toNat, v0.toNat]

def cc3_transform_4 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

abbrev stage3_0 : Fin 2 → Memref sig .tc .vmem S1x1x8x40 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S1x2048x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true, true]

abbrev stage3_2 : Fin 2 → Memref sig .tc .vmem S1x2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, true]

abbrev stage3_3 : Fin 2 → Memref sig .tc .vmem S1x2048x512 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, true]

abbrev stage3_4 : Fin 2 → Memref sig .tc .vmem S1x1x2048x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨2, ![2, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x512x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S1024x1024 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x1024 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x512x1024 .bf16 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev grid5 : Pipeline.Grid := ⟨2, ![2, 16], ![false, false]⟩

def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x256x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 1 → Memref sig .tc .vmem S1024x4096 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, false]

abbrev stage5_2 : Fin 1 → Memref sig .tc .vmem S1x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false, false]

abbrev stage5_3 : Fin 1 → Memref sig .tc .vmem S1x4096 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x4096 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S4096x1024 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S1x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 1 → Memref sig .tc .vmem S1x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false, false]

abbrev stage5_8 : Fin 1 → Memref sig .tc .vmem S1x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev stage5_9 : Fin 2 → Memref sig .tc .vmem S1x256x1024 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true, true]
-- ==== KernelIdeal.lean ====
variable {F : FTy → Type} [FloatOps F] [Named F]
def κ : String → Option EReal := fun
  | "root_half" => some (((Real.sqrt 2)⁻¹ : ℝ) : EReal)
  | _ => none
-- ==== Reference.lean ====
abbrev S2x2x2048x1024 : Shape := ⟨4, ![2, 2, 2048, 1024]⟩
abbrev S1024 : Shape := ⟨1, ![1024]⟩
abbrev S1024x1024 : Shape := ⟨2, ![1024, 1024]⟩
abbrev S1024x4096 : Shape := ⟨2, ![1024, 4096]⟩
abbrev S4096 : Shape := ⟨1, ![4096]⟩
abbrev S4096x1024 : Shape := ⟨2, ![4096, 1024]⟩
abbrev S2x2048x40 : Shape := ⟨3, ![2, 2048, 40]⟩
abbrev S1x2x2048x1024 : Shape := ⟨4, ![1, 2, 2048, 1024]⟩
abbrev S2x2048x1024 : Shape := ⟨3, ![2, 2048, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1x2048x40 : Shape := ⟨3, ![1, 2048, 40]⟩
abbrev S2048x40 : Shape := ⟨2, ![2048, 40]⟩
abbrev S2x2048x16x64 : Shape := ⟨4, ![2, 2048, 16, 64]⟩
abbrev S2x16x2048x64 : Shape := ⟨4, ![2, 16, 2048, 64]⟩
abbrev S2048x40x1 : Shape := ⟨3, ![2048, 40, 1]⟩
abbrev S2x16x2048x40x64 : Shape := ⟨5, ![2, 16, 2048, 40, 64]⟩
abbrev S2x16x2048x40 : Shape := ⟨4, ![2, 16, 2048, 40]⟩
abbrev S2x16x2048 : Shape := ⟨3, ![2, 16, 2048]⟩
abbrev S2x16x40 : Shape := ⟨3, ![2, 16, 40]⟩
abbrev S2x16x40x1 : Shape := ⟨4, ![2, 16, 40, 1]⟩
abbrev S1 : Shape := ⟨1, ![1]⟩
abbrev S1x1x1x1 : Shape := ⟨4, ![1, 1, 1, 1]⟩
abbrev S2x16x40x64 : Shape := ⟨4, ![2, 16, 40, 64]⟩
abbrev S2x16x40x2048 : Shape := ⟨4, ![2, 16, 40, 2048]⟩
abbrev S2x16x64 : Shape := ⟨3, ![2, 16, 64]⟩
abbrev S2x16x1x64 : Shape := ⟨4, ![2, 16, 1, 64]⟩
abbrev S2 : Shape := ⟨1, ![2]⟩
abbrev S2x1x1 : Shape := ⟨3, ![2, 1, 1]⟩
abbrev S16 : Shape := ⟨1, ![16]⟩
abbrev S1x16x1 : Shape := ⟨3, ![1, 16, 1]⟩
abbrev S2x16x40x3 : Shape := ⟨4, ![2, 16, 40, 3]⟩
abbrev S2x2048x4096 : Shape := ⟨3, ![2, 2048, 4096]⟩
abbrev S1x1x4096 : Shape := ⟨3, ![1, 1, 4096]⟩

abbrev nBuf : Space → Nat
  | .hbm => 558
  | .vmem => 0
  | .smem => 0
  | _ => 0

abbrev hbmTy0_0 (i : Nat) : BufTy := match i % 128 with
  | 0 => ⟨S2x2x2048x1024, .f32⟩
  | 1 => ⟨S1024, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S1024x1024, .f32⟩
  | 8 => ⟨S1024, .f32⟩
  | 9 => ⟨S1024x1024, .f32⟩
  | 10 => ⟨S1024, .f32⟩
  | 11 => ⟨S1024x1024, .f32⟩
  | 12 => ⟨S1024, .f32⟩
  | 13 => ⟨S1024x4096, .f32⟩
  | 14 => ⟨S4096, .f32⟩
  | 15 => ⟨S4096, .f32⟩
  | 16 => ⟨S4096, .f32⟩
  | 17 => ⟨S4096x1024, .f32⟩
  | 18 => ⟨S1024, .f32⟩
  | 19 => ⟨S1024, .f32⟩
  | 20 => ⟨S1024, .f32⟩
  | 21 => ⟨S2x2048x40, .i32⟩
  | 22 => ⟨S1x2x2048x1024, .f32⟩
  | 23 => ⟨S2x2048x1024, .f32⟩
  | 24 => ⟨S_, .f32⟩
  | 25 => ⟨S2x2048, .f32⟩
  | 26 => ⟨S2x2048x1, .f32⟩
  | 27 => ⟨S_, .f32⟩
  | 28 => ⟨S2x2048x1, .f32⟩
  | 29 => ⟨S2x2048x1, .f32⟩
  | 30 => ⟨S2x2048x1024, .f32⟩
  | 31 => ⟨S2x2048x1024, .f32⟩
  | 32 => ⟨S2x2048x1024, .f32⟩
  | 33 => ⟨S_, .f32⟩
  | 34 => ⟨S2x2048, .f32⟩
  | 35 => ⟨S2x2048x1, .f32⟩
  | 36 => ⟨S_, .f32⟩
  | 37 => ⟨S2x2048x1, .f32⟩
  | 38 => ⟨S2x2048x1, .f32⟩
  | 39 => ⟨S2x2048x1024, .f32⟩
  | 40 => ⟨S2x2048x1024, .f32⟩
  | 41 => ⟨S_, .f32⟩
  | 42 => ⟨S2x2048x1, .f32⟩
  | 43 => ⟨S2x2048x1, .f32⟩
  | 44 => ⟨S2x2048x1, .f32⟩
  | 45 => ⟨S2x2048x1024, .f32⟩
  | 46 => ⟨S2x2048x1024, .f32⟩
  | 47 => ⟨S1x1x1024, .f32⟩
  | 48 => ⟨S2x2048x1024, .f32⟩
  | 49 => ⟨S2x2048x1024, .f32⟩
  | 50 => ⟨S1x1x1024, .f32⟩
  | 51 => ⟨S2x2048x1024, .f32⟩
  | 52 => ⟨S2x2048x1024, .f32⟩
  | 53 => ⟨S1x2x2048x1024, .f32⟩
  | 54 => ⟨S2x2048x1024, .f32⟩
  | 55 => ⟨S_, .f32⟩
  | 56 => ⟨S2x2048, .f32⟩
  | 57 => ⟨S2x2048x1, .f32⟩
  | 58 => ⟨S_, .f32⟩
  | 59 => ⟨S2x2048x1, .f32⟩
  | 60 => ⟨S2x2048x1, .f32⟩
  | 61 => ⟨S2x2048x1024, .f32⟩
  | 62 => ⟨S2x2048x1024, .f32⟩
  | 63 => ⟨S2x2048x1024, .f32⟩
  | 64 => ⟨S_, .f32⟩
  | 65 => ⟨S2x2048, .f32⟩
  | 66 => ⟨S2x2048x1, .f32⟩
  | 67 => ⟨S_, .f32⟩
  | 68 => ⟨S2x2048x1, .f32⟩
  | 69 => ⟨S2x2048x1, .f32⟩
  | 70 => ⟨S2x2048x1024, .f32⟩
  | 71 => ⟨S2x2048x1024, .f32⟩
  | 72 => ⟨S_, .f32⟩
  | 73 => ⟨S2x2048x1, .f32⟩
  | 74 => ⟨S2x2048x1, .f32⟩
  | 75 => ⟨S2x2048x1, .f32⟩
  | 76 => ⟨S2x2048x1024, .f32⟩
  | 77 => ⟨S2x2048x1024, .f32⟩
  | 78 => ⟨S1x1x1024, .f32⟩
  | 79 => ⟨S2x2048x1024, .f32⟩
  | 80 => ⟨S2x2048x1024, .f32⟩
  | 81 => ⟨S1x1x1024, .f32⟩
  | 82 => ⟨S2x2048x1024, .f32⟩
  | 83 => ⟨S2x2048x1024, .f32⟩
  | 84 => ⟨S1x2048x40, .i32⟩
  | 85 => ⟨S2048x40, .i32⟩
  | 86 => ⟨S2x2048x1024, .f32⟩
  | 87 => ⟨S1x1x1024, .f32⟩
  | 88 => ⟨S2x2048x1024, .f32⟩
  | 89 => ⟨S2x2048x1024, .f32⟩
  | 90 => ⟨S2x2048x16x64, .f32⟩
  | 91 => ⟨S2x2048x1024, .f32⟩
  | 92 => ⟨S1x1x1024, .f32⟩
  | 93 => ⟨S2x2048x1024, .f32⟩
  | 94 => ⟨S2x2048x1024, .f32⟩
  | 95 => ⟨S2x2048x16x64, .f32⟩
  | 96 => ⟨S2x2048x1024, .f32⟩
  | 97 => ⟨S1x1x1024, .f32⟩
  | 98 => ⟨S2x2048x1024, .f32⟩
  | 99 => ⟨S2x2048x1024, .f32⟩
  | 100 => ⟨S2x2048x16x64, .f32⟩
  | 101 => ⟨S2x16x2048x64, .f32⟩
  | 102 => ⟨S2x16x2048x64, .f32⟩
  | 103 => ⟨S2x16x2048x64, .f32⟩
  | 104 => ⟨S_, .i32⟩
  | 105 => ⟨S2048x40, .i32⟩
  | 106 => ⟨S2048x40, .i1⟩
  | 107 => ⟨S_, .i32⟩
  | 108 => ⟨S2048x40, .i32⟩
  | 109 => ⟨S2048x40, .i32⟩
  | 110 => ⟨S2048x40, .i32⟩
  | 111 => ⟨S2048x40x1, .i32⟩
  | 112 => ⟨S2x16x2048x40x64, .f32⟩
  | 113 => ⟨S2x16x2048x40, .f32⟩
  | 114 => ⟨S_, .f32⟩
  | 115 => ⟨S2x16x2048, .f32⟩
  | 116 => ⟨S_, .f32⟩
  | 117 => ⟨S2x16x2048, .f32⟩
  | 118 => ⟨S_, .f32⟩
  | 119 => ⟨S2x16x2048, .f32⟩
  | 120 => ⟨S2x16x2048, .f32⟩
  | 121 => ⟨S2x16x2048, .f32⟩
  | 122 => ⟨S2x16x40, .f32⟩
  | 123 => ⟨S2x16x40, .i32⟩
  | 124 => ⟨S2x16x40x1, .i32⟩
  | 125 => ⟨S_, .i32⟩
  | 126 => ⟨S2x16x40x1, .i32⟩
  | 127 => ⟨S2x16x40x1, .i1⟩
  | _ => ⟨S2x2x2048x1024, .f32⟩

abbrev hbmTy0_1 (i : Nat) : BufTy := match i % 128 with
  | 0 => ⟨S_, .i32⟩
  | 1 => ⟨S2x16x40x1, .i32⟩
  | 2 => ⟨S2x16x40x1, .i32⟩
  | 3 => ⟨S2x16x40x1, .i32⟩
  | 4 => ⟨S1, .i32⟩
  | 5 => ⟨S_, .i32⟩
  | 6 => ⟨S2x16x40x1, .i32⟩
  | 7 => ⟨S2x16x40x1, .i1⟩
  | 8 => ⟨S1x1x1x1, .i32⟩
  | 9 => ⟨S2x16x40x1, .i32⟩
  | 10 => ⟨S2x16x40x1, .i1⟩
  | 11 => ⟨S2x16x40x1, .i1⟩
  | 12 => ⟨S_, .i1⟩
  | 13 => ⟨S2x16x40, .i1⟩
  | 14 => ⟨S2x16x40x64, .f32⟩
  | 15 => ⟨S2x16x40x64, .i1⟩
  | 16 => ⟨S_, .f32⟩
  | 17 => ⟨S2x16x40x64, .f32⟩
  | 18 => ⟨S2x16x40x64, .f32⟩
  | 19 => ⟨S2x16x40x2048, .f32⟩
  | 20 => ⟨S_, .f32⟩
  | 21 => ⟨S2x16x40x2048, .f32⟩
  | 22 => ⟨S2x16x40x2048, .f32⟩
  | 23 => ⟨S_, .f32⟩
  | 24 => ⟨S2x16x64, .f32⟩
  | 25 => ⟨S2x16x1x64, .f32⟩
  | 26 => ⟨S_, .f32⟩
  | 27 => ⟨S2x16x1x64, .f32⟩
  | 28 => ⟨S2x16x1x64, .f32⟩
  | 29 => ⟨S2x16x2048x64, .f32⟩
  | 30 => ⟨S_, .f32⟩
  | 31 => ⟨S2x16x40, .f32⟩
  | 32 => ⟨S_, .f32⟩
  | 33 => ⟨S2x16x40, .f32⟩
  | 34 => ⟨S2x16x40, .f32⟩
  | 35 => ⟨S2x16x40x1, .f32⟩
  | 36 => ⟨S2x16x40x2048, .f32⟩
  | 37 => ⟨S2x16x40x2048, .f32⟩
  | 38 => ⟨S2x16x40x2048, .f32⟩
  | 39 => ⟨S_, .f32⟩
  | 40 => ⟨S2x16x40, .f32⟩
  | 41 => ⟨S2x16x40x1, .f32⟩
  | 42 => ⟨S2x16x40x2048, .f32⟩
  | 43 => ⟨S2x16x40x2048, .f32⟩
  | 44 => ⟨S2x16x40x64, .f32⟩
  | 45 => ⟨S2, .i32⟩
  | 46 => ⟨S2x1x1, .i32⟩
  | 47 => ⟨S16, .i32⟩
  | 48 => ⟨S1x16x1, .i32⟩
  | 49 => ⟨S_, .i32⟩
  | 50 => ⟨S2x1x1, .i32⟩
  | 51 => ⟨S2x1x1, .i1⟩
  | 52 => ⟨S_, .i32⟩
  | 53 => ⟨S2x1x1, .i32⟩
  | 54 => ⟨S2x1x1, .i32⟩
  | 55 => ⟨S2x1x1, .i32⟩
  | 56 => ⟨S_, .i32⟩
  | 57 => ⟨S1x16x1, .i32⟩
  | 58 => ⟨S1x16x1, .i1⟩
  | 59 => ⟨S_, .i32⟩
  | 60 => ⟨S1x16x1, .i32⟩
  | 61 => ⟨S1x16x1, .i32⟩
  | 62 => ⟨S1x16x1, .i32⟩
  | 63 => ⟨S_, .i32⟩
  | 64 => ⟨S2x16x40, .i32⟩
  | 65 => ⟨S2x16x40, .i1⟩
  | 66 => ⟨S_, .i32⟩
  | 67 => ⟨S2x16x40, .i32⟩
  | 68 => ⟨S2x16x40, .i32⟩
  | 69 => ⟨S2x16x40, .i32⟩
  | 70 => ⟨S2x16x40, .i32⟩
  | 71 => ⟨S2x16x40, .i32⟩
  | 72 => ⟨S2x16x40x1, .i32⟩
  | 73 => ⟨S2x16x40x1, .i32⟩
  | 74 => ⟨S2x16x40x1, .i32⟩
  | 75 => ⟨S2x16x40x3, .i32⟩
  | 76 => ⟨S2x16x2048x64, .f32⟩
  | 77 => ⟨S2x2048x16x64, .f32⟩
  | 78 => ⟨S2x2048x1024, .f32⟩
  | 79 => ⟨S2x2048x1024, .f32⟩
  | 80 => ⟨S1x1x1024, .f32⟩
  | 81 => ⟨S2x2048x1024, .f32⟩
  | 82 => ⟨S2x2048x1024, .f32⟩
  | 83 => ⟨S1x2048x40, .i32⟩
  | 84 => ⟨S2048x40, .i32⟩
  | 85 => ⟨S2x2048x1024, .f32⟩
  | 86 => ⟨S1x1x1024, .f32⟩
  | 87 => ⟨S2x2048x1024, .f32⟩
  | 88 => ⟨S2x2048x1024, .f32⟩
  | 89 => ⟨S2x2048x16x64, .f32⟩
  | 90 => ⟨S2x2048x1024, .f32⟩
  | 91 => ⟨S1x1x1024, .f32⟩
  | 92 => ⟨S2x2048x1024, .f32⟩
  | 93 => ⟨S2x2048x1024, .f32⟩
  | 94 => ⟨S2x2048x16x64, .f32⟩
  | 95 => ⟨S2x2048x1024, .f32⟩
  | 96 => ⟨S1x1x1024, .f32⟩
  | 97 => ⟨S2x2048x1024, .f32⟩
  | 98 => ⟨S2x2048x1024, .f32⟩
  | 99 => ⟨S2x2048x16x64, .f32⟩
  | 100 => ⟨S2x16x2048x64, .f32⟩
  | 101 => ⟨S2x16x2048x64, .f32⟩
  | 102 => ⟨S2x16x2048x64, .f32⟩
  | 103 => ⟨S_, .i32⟩
  | 104 => ⟨S2048x40, .i32⟩
  | 105 => ⟨S2048x40, .i1⟩
  | 106 => ⟨S_, .i32⟩
  | 107 => ⟨S2048x40, .i32⟩
  | 108 => ⟨S2048x40, .i32⟩
  | 109 => ⟨S2048x40, .i32⟩
  | 110 => ⟨S2048x40x1, .i32⟩
  | 111 => ⟨S2x16x2048x40x64, .f32⟩
  | 112 => ⟨S2x16x2048x40, .f32⟩
  | 113 => ⟨S_, .f32⟩
  | 114 => ⟨S2x16x2048, .f32⟩
  | 115 => ⟨S_, .f32⟩
  | 116 => ⟨S2x16x2048, .f32⟩
  | 117 => ⟨S_, .f32⟩
  | 118 => ⟨S2x16x2048, .f32⟩
  | 119 => ⟨S2x16x2048, .f32⟩
  | 120 => ⟨S2x16x2048, .f32⟩
  | 121 => ⟨S2x16x40, .f32⟩
  | 122 => ⟨S2x16x40, .i32⟩
  | 123 => ⟨S2x16x40x1, .i32⟩
  | 124 => ⟨S_, .i32⟩
  | 125 => ⟨S2x16x40x1, .i32⟩
  | 126 => ⟨S2x16x40x1, .i1⟩
  | 127 => ⟨S_, .i32⟩
  | _ => ⟨S2x2x2048x1024, .f32⟩

abbrev hbmTy0_2 (i : Nat) : BufTy := match i % 128 with
  | 0 => ⟨S2x16x40x1, .i32⟩
  | 1 => ⟨S2x16x40x1, .i32⟩
  | 2 => ⟨S2x16x40x1, .i32⟩
  | 3 => ⟨S1, .i32⟩
  | 4 => ⟨S_, .i32⟩
  | 5 => ⟨S2x16x40x1, .i32⟩
  | 6 => ⟨S2x16x40x1, .i1⟩
  | 7 => ⟨S1x1x1x1, .i32⟩
  | 8 => ⟨S2x16x40x1, .i32⟩
  | 9 => ⟨S2x16x40x1, .i1⟩
  | 10 => ⟨S2x16x40x1, .i1⟩
  | 11 => ⟨S_, .i1⟩
  | 12 => ⟨S2x16x40, .i1⟩
  | 13 => ⟨S2x16x40x64, .f32⟩
  | 14 => ⟨S2x16x40x64, .i1⟩
  | 15 => ⟨S_, .f32⟩
  | 16 => ⟨S2x16x40x64, .f32⟩
  | 17 => ⟨S2x16x40x64, .f32⟩
  | 18 => ⟨S2x16x40x2048, .f32⟩
  | 19 => ⟨S_, .f32⟩
  | 20 => ⟨S2x16x40x2048, .f32⟩
  | 21 => ⟨S2x16x40x2048, .f32⟩
  | 22 => ⟨S_, .f32⟩
  | 23 => ⟨S2x16x64, .f32⟩
  | 24 => ⟨S2x16x1x64, .f32⟩
  | 25 => ⟨S_, .f32⟩
  | 26 => ⟨S2x16x1x64, .f32⟩
  | 27 => ⟨S2x16x1x64, .f32⟩
  | 28 => ⟨S2x16x2048x64, .f32⟩
  | 29 => ⟨S_, .f32⟩
  | 30 => ⟨S2x16x40, .f32⟩
  | 31 => ⟨S_, .f32⟩
  | 32 => ⟨S2x16x40, .f32⟩
  | 33 => ⟨S2x16x40, .f32⟩
  | 34 => ⟨S2x16x40x1, .f32⟩
  | 35 => ⟨S2x16x40x2048, .f32⟩
  | 36 => ⟨S2x16x40x2048, .f32⟩
  | 37 => ⟨S2x16x40x2048, .f32⟩
  | 38 => ⟨S_, .f32⟩
  | 39 => ⟨S2x16x40, .f32⟩
  | 40 => ⟨S2x16x40x1, .f32⟩
  | 41 => ⟨S2x16x40x2048, .f32⟩
  | 42 => ⟨S2x16x40x2048, .f32⟩
  | 43 => ⟨S2x16x40x64, .f32⟩
  | 44 => ⟨S2, .i32⟩
  | 45 => ⟨S2x1x1, .i32⟩
  | 46 => ⟨S16, .i32⟩
  | 47 => ⟨S1x16x1, .i32⟩
  | 48 => ⟨S_, .i32⟩
  | 49 => ⟨S2x1x1, .i32⟩
  | 50 => ⟨S2x1x1, .i1⟩
  | 51 => ⟨S_, .i32⟩
  | 52 => ⟨S2x1x1, .i32⟩
  | 53 => ⟨S2x1x1, .i32⟩
  | 54 => ⟨S2x1x1, .i32⟩
  | 55 => ⟨S_, .i32⟩
  | 56 => ⟨S1x16x1, .i32⟩
  | 57 => ⟨S1x16x1, .i1⟩
  | 58 => ⟨S_, .i32⟩
  | 59 => ⟨S1x16x1, .i32⟩
  | 60 => ⟨S1x16x1, .i32⟩
  | 61 => ⟨S1x16x1, .i32⟩
  | 62 => ⟨S_, .i32⟩
  | 63 => ⟨S2x16x40, .i32⟩
  | 64 => ⟨S2x16x40, .i1⟩
  | 65 => ⟨S_, .i32⟩
  | 66 => ⟨S2x16x40, .i32⟩
  | 67 => ⟨S2x16x40, .i32⟩
  | 68 => ⟨S2x16x40, .i32⟩
  | 69 => ⟨S2x16x40, .i32⟩
  | 70 => ⟨S2x16x40, .i32⟩
  | 71 => ⟨S2x16x40x1, .i32⟩
  | 72 => ⟨S2x16x40x1, .i32⟩
  | 73 => ⟨S2x16x40x1, .i32⟩
  | 74 => ⟨S2x16x40x3, .i32⟩
  | 75 => ⟨S2x16x2048x64, .f32⟩
  | 76 => ⟨S2x2048x16x64, .f32⟩
  | 77 => ⟨S2x2048x1024, .f32⟩
  | 78 => ⟨S2x2048x1024, .f32⟩
  | 79 => ⟨S1x1x1024, .f32⟩
  | 80 => ⟨S2x2048x1024, .f32⟩
  | 81 => ⟨S2x2048x1024, .f32⟩
  | 82 => ⟨S2x2048x1024, .f32⟩
  | 83 => ⟨S_, .f32⟩
  | 84 => ⟨S2x2048, .f32⟩
  | 85 => ⟨S2x2048x1, .f32⟩
  | 86 => ⟨S_, .f32⟩
  | 87 => ⟨S2x2048x1, .f32⟩
  | 88 => ⟨S2x2048x1, .f32⟩
  | 89 => ⟨S2x2048x1024, .f32⟩
  | 90 => ⟨S2x2048x1024, .f32⟩
  | 91 => ⟨S2x2048x1024, .f32⟩
  | 92 => ⟨S_, .f32⟩
  | 93 => ⟨S2x2048, .f32⟩
  | 94 => ⟨S2x2048x1, .f32⟩
  | 95 => ⟨S_, .f32⟩
  | 96 => ⟨S2x2048x1, .f32⟩
  | 97 => ⟨S2x2048x1, .f32⟩
  | 98 => ⟨S2x2048x1024, .f32⟩
  | 99 => ⟨S2x2048x1024, .f32⟩
  | 100 => ⟨S_, .f32⟩
  | 101 => ⟨S2x2048x1, .f32⟩
  | 102 => ⟨S2x2048x1, .f32⟩
  | 103 => ⟨S2x2048x1, .f32⟩
  | 104 => ⟨S2x2048x1024, .f32⟩
  | 105 => ⟨S2x2048x1024, .f32⟩
  | 106 => ⟨S1x1x1024, .f32⟩
  | 107 => ⟨S2x2048x1024, .f32⟩
  | 108 => ⟨S2x2048x1024, .f32⟩
  | 109 => ⟨S1x1x1024, .f32⟩
  | 110 => ⟨S2x2048x1024, .f32⟩
  | 111 => ⟨S2x2048x1024, .f32⟩
  | 112 => ⟨S2x2048x1024, .f32⟩
  | 113 => ⟨S_, .f32⟩
  | 114 => ⟨S2x2048, .f32⟩
  | 115 => ⟨S2x2048x1, .f32⟩
  | 116 => ⟨S_, .f32⟩
  | 117 => ⟨S2x2048x1, .f32⟩
  | 118 => ⟨S2x2048x1, .f32⟩
  | 119 => ⟨S2x2048x1024, .f32⟩
  | 120 => ⟨S2x2048x1024, .f32⟩
  | 121 => ⟨S2x2048x1024, .f32⟩
  | 122 => ⟨S_, .f32⟩
  | 123 => ⟨S2x2048, .f32⟩
  | 124 => ⟨S2x2048x1, .f32⟩
  | 125 => ⟨S_, .f32⟩
  | 126 => ⟨S2x2048x1, .f32⟩
  | 127 => ⟨S2x2048x1, .f32⟩
  | _ => ⟨S2x2x2048x1024, .f32⟩

abbrev hbmTy0_3 (i : Nat) : BufTy := match i % 128 with
  | 0 => ⟨S2x2048x1024, .f32⟩
  | 1 => ⟨S2x2048x1024, .f32⟩
  | 2 => ⟨S_, .f32⟩
  | 3 => ⟨S2x2048x1, .f32⟩
  | 4 => ⟨S2x2048x1, .f32⟩
  | 5 => ⟨S2x2048x1, .f32⟩
  | 6 => ⟨S2x2048x1024, .f32⟩
  | 7 => ⟨S2x2048x1024, .f32⟩
  | 8 => ⟨S1x1x1024, .f32⟩
  | 9 => ⟨S2x2048x1024, .f32⟩
  | 10 => ⟨S2x2048x1024, .f32⟩
  | 11 => ⟨S1x1x1024, .f32⟩
  | 12 => ⟨S2x2048x1024, .f32⟩
  | 13 => ⟨S2x2048x1024, .f32⟩
  | 14 => ⟨S2x2048x4096, .f32⟩
  | 15 => ⟨S1x1x4096, .f32⟩
  | 16 => ⟨S2x2048x4096, .f32⟩
  | 17 => ⟨S2x2048x4096, .f32⟩
  | 18 => ⟨S_, .f32⟩
  | 19 => ⟨S2x2048, .f32⟩
  | 20 => ⟨S2x2048x1, .f32⟩
  | 21 => ⟨S_, .f32⟩
  | 22 => ⟨S2x2048x1, .f32⟩
  | 23 => ⟨S2x2048x1, .f32⟩
  | 24 => ⟨S2x2048x4096, .f32⟩
  | 25 => ⟨S2x2048x4096, .f32⟩
  | 26 => ⟨S2x2048x4096, .f32⟩
  | 27 => ⟨S_, .f32⟩
  | 28 => ⟨S2x2048, .f32⟩
  | 29 => ⟨S2x2048x1, .f32⟩
  | 30 => ⟨S_, .f32⟩
  | 31 => ⟨S2x2048x1, .f32⟩
  | 32 => ⟨S2x2048x1, .f32⟩
  | 33 => ⟨S2x2048x4096, .f32⟩
  | 34 => ⟨S2x2048x4096, .f32⟩
  | 35 => ⟨S_, .f32⟩
  | 36 => ⟨S2x2048x1, .f32⟩
  | 37 => ⟨S2x2048x1, .f32⟩
  | 38 => ⟨S2x2048x1, .f32⟩
  | 39 => ⟨S2x2048x4096, .f32⟩
  | 40 => ⟨S2x2048x4096, .f32⟩
  | 41 => ⟨S1x1x4096, .f32⟩
  | 42 => ⟨S2x2048x4096, .f32⟩
  | 43 => ⟨S2x2048x4096, .f32⟩
  | 44 => ⟨S1x1x4096, .f32⟩
  | 45 => ⟨S2x2048x4096, .f32⟩
  | 46 => ⟨S2x2048x4096, .f32⟩
  | 47 => ⟨S_, .f32⟩
  | 48 => ⟨S2x2048x4096, .f32⟩
  | 49 => ⟨S2x2048x4096, .f32⟩
  | 50 => ⟨S_, .f32⟩
  | 51 => ⟨S_, .f32⟩
  | 52 => ⟨S_, .f32⟩
  | 53 => ⟨S2x2048x4096, .f32⟩
  | 54 => ⟨S2x2048x4096, .f32⟩
  | 55 => ⟨S2x2048x4096, .f32⟩
  | 56 => ⟨S_, .f32⟩
  | 57 => ⟨S2x2048x4096, .f32⟩
  | 58 => ⟨S2x2048x4096, .f32⟩
  | 59 => ⟨S2x2048x4096, .f32⟩
  | 60 => ⟨S2x2048x1024, .f32⟩
  | 61 => ⟨S1x1x1024, .f32⟩
  | 62 => ⟨S2x2048x1024, .f32⟩
  | 63 => ⟨S2x2048x1024, .f32⟩
  | 64 => ⟨S_, .f32⟩
  | 65 => ⟨S2x2048, .f32⟩
  | 66 => ⟨S2x2048x1, .f32⟩
  | 67 => ⟨S_, .f32⟩
  | 68 => ⟨S2x2048x1, .f32⟩
  | 69 => ⟨S2x2048x1, .f32⟩
  | 70 => ⟨S2x2048x1024, .f32⟩
  | 71 => ⟨S2x2048x1024, .f32⟩
  | 72 => ⟨S2x2048x1024, .f32⟩
  | 73 => ⟨S_, .f32⟩
  | 74 => ⟨S2x2048, .f32⟩
  | 75 => ⟨S2x2048x1, .f32⟩
  | 76 => ⟨S_, .f32⟩
  | 77 => ⟨S2x2048x1, .f32⟩
  | 78 => ⟨S2x2048x1, .f32⟩
  | 79 => ⟨S2x2048x1024, .f32⟩
  | 80 => ⟨S2x2048x1024, .f32⟩
  | 81 => ⟨S_, .f32⟩
  | 82 => ⟨S2x2048x1, .f32⟩
  | 83 => ⟨S2x2048x1, .f32⟩
  | 84 => ⟨S2x2048x1, .f32⟩
  | 85 => ⟨S2x2048x1024, .f32⟩
  | 86 => ⟨S2x2048x1024, .f32⟩
  | 87 => ⟨S1x1x1024, .f32⟩
  | 88 => ⟨S2x2048x1024, .f32⟩
  | 89 => ⟨S2x2048x1024, .f32⟩
  | 90 => ⟨S1x1x1024, .f32⟩
  | 91 => ⟨S2x2048x1024, .f32⟩
  | 92 => ⟨S2x2048x1024, .f32⟩
  | 93 => ⟨S2x2048x1024, .f32⟩
  | 94 => ⟨S2x2048x4096, .f32⟩
  | 95 => ⟨S1x1x4096, .f32⟩
  | 96 => ⟨S2x2048x4096, .f32⟩
  | 97 => ⟨S2x2048x4096, .f32⟩
  | 98 => ⟨S_, .f32⟩
  | 99 => ⟨S2x2048, .f32⟩
  | 100 => ⟨S2x2048x1, .f32⟩
  | 101 => ⟨S_, .f32⟩
  | 102 => ⟨S2x2048x1, .f32⟩
  | 103 => ⟨S2x2048x1, .f32⟩
  | 104 => ⟨S2x2048x4096, .f32⟩
  | 105 => ⟨S2x2048x4096, .f32⟩
  | 106 => ⟨S2x2048x4096, .f32⟩
  | 107 => ⟨S_, .f32⟩
  | 108 => ⟨S2x2048, .f32⟩
  | 109 => ⟨S2x2048x1, .f32⟩
  | 110 => ⟨S_, .f32⟩
  | 111 => ⟨S2x2048x1, .f32⟩
  | 112 => ⟨S2x2048x1, .f32⟩
  | 113 => ⟨S2x2048x4096, .f32⟩
  | 114 => ⟨S2x2048x4096, .f32⟩
  | 115 => ⟨S_, .f32⟩
  | 116 => ⟨S2x2048x1, .f32⟩
  | 117 => ⟨S2x2048x1, .f32⟩
  | 118 => ⟨S2x2048x1, .f32⟩
  | 119 => ⟨S2x2048x4096, .f32⟩
  | 120 => ⟨S2x2048x4096, .f32⟩
  | 121 => ⟨S1x1x4096, .f32⟩
  | 122 => ⟨S2x2048x4096, .f32⟩
  | 123 => ⟨S2x2048x4096, .f32⟩
  | 124 => ⟨S1x1x4096, .f32⟩
  | 125 => ⟨S2x2048x4096, .f32⟩
  | 126 => ⟨S2x2048x4096, .f32⟩
  | 127 => ⟨S_, .f32⟩
  | _ => ⟨S2x2x2048x1024, .f32⟩

abbrev hbmTy0_4 (i : Nat) : BufTy := match i % 128 with
  | 0 => ⟨S2x2048x4096, .f32⟩
  | 1 => ⟨S2x2048x4096, .f32⟩
  | 2 => ⟨S_, .f32⟩
  | 3 => ⟨S_, .f32⟩
  | 4 => ⟨S_, .f32⟩
  | 5 => ⟨S2x2048x4096, .f32⟩
  | 6 => ⟨S2x2048x4096, .f32⟩
  | 7 => ⟨S2x2048x4096, .f32⟩
  | 8 => ⟨S_, .f32⟩
  | 9 => ⟨S2x2048x4096, .f32⟩
  | 10 => ⟨S2x2048x4096, .f32⟩
  | 11 => ⟨S2x2048x4096, .f32⟩
  | 12 => ⟨S2x2048x1024, .f32⟩
  | 13 => ⟨S1x1x1024, .f32⟩
  | 14 => ⟨S2x2048x1024, .f32⟩
  | 15 => ⟨S2x2048x1024, .f32⟩
  | 16 => ⟨S_, .f32⟩
  | 17 => ⟨S2x2048, .f32⟩
  | 18 => ⟨S2x2048x1, .f32⟩
  | 19 => ⟨S_, .f32⟩
  | 20 => ⟨S2x2048x1, .f32⟩
  | 21 => ⟨S2x2048x1, .f32⟩
  | 22 => ⟨S2x2048x1024, .f32⟩
  | 23 => ⟨S2x2048x1024, .f32⟩
  | 24 => ⟨S2x2048x1024, .f32⟩
  | 25 => ⟨S_, .f32⟩
  | 26 => ⟨S2x2048, .f32⟩
  | 27 => ⟨S2x2048x1, .f32⟩
  | 28 => ⟨S_, .f32⟩
  | 29 => ⟨S2x2048x1, .f32⟩
  | 30 => ⟨S2x2048x1, .f32⟩
  | 31 => ⟨S2x2048x1024, .f32⟩
  | 32 => ⟨S2x2048x1024, .f32⟩
  | 33 => ⟨S_, .f32⟩
  | 34 => ⟨S2x2048x1, .f32⟩
  | 35 => ⟨S2x2048x1, .f32⟩
  | 36 => ⟨S2x2048x1, .f32⟩
  | 37 => ⟨S2x2048x1024, .f32⟩
  | 38 => ⟨S2x2048x1024, .f32⟩
  | 39 => ⟨S1x1x1024, .f32⟩
  | 40 => ⟨S2x2048x1024, .f32⟩
  | 41 => ⟨S2x2048x1024, .f32⟩
  | 42 => ⟨S1x1x1024, .f32⟩
  | 43 => ⟨S2x2048x1024, .f32⟩
  | 44 => ⟨S2x2048x1024, .f32⟩
  | 45 => ⟨S2x2048x1024, .f32⟩
  | _ => ⟨S2x2x2048x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x2x2048x1024, .f32⟩

abbrev bufTy : (tb : Table) → Fin (tcTables nBuf tb) → BufTy
  | .hbm, ⟨i, _⟩ => hbmTy i
  | _, _ => ⟨S2x2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_v3 : Ref sig .tc := ⟨.hbm, 26, rfl⟩
abbrev main_cst_0 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst_1 : Ref sig .tc := ⟨.hbm, 33, rfl⟩
abbrev main_v9 : Ref sig .tc := ⟨.hbm, 34, rfl⟩
abbrev main_v10 : Ref sig .tc := ⟨.hbm, 35, rfl⟩
abbrev main_cst_2 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_3 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_6 : Ref sig .tc := ⟨.hbm, 64, rfl⟩
abbrev main_v35 : Ref sig .tc := ⟨.hbm, 65, rfl⟩
abbrev main_v36 : Ref sig .tc := ⟨.hbm, 66, rfl⟩
abbrev main_cst_7 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_8 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c : Ref sig .tc := ⟨.hbm, 104, rfl⟩
abbrev main_v72 : Ref sig .tc := ⟨.hbm, 105, rfl⟩
abbrev main_v73 : Ref sig .tc := ⟨.hbm, 106, rfl⟩
abbrev main_c_9 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_10 : Ref sig .tc := ⟨.hbm, 114, rfl⟩
abbrev main_v80 : Ref sig .tc := ⟨.hbm, 115, rfl⟩
abbrev main_cst_11 : Ref sig .tc := ⟨.hbm, 116, rfl⟩
abbrev main_v81 : Ref sig .tc := ⟨.hbm, 117, rfl⟩
abbrev main_cst_12 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_values : Ref sig .tc := ⟨.hbm, 122, rfl⟩
abbrev main_indices : Ref sig .tc := ⟨.hbm, 123, rfl⟩
abbrev main_v85 : Ref sig .tc := ⟨.hbm, 124, rfl⟩
abbrev main_call0_c : Ref sig .tc := ⟨.hbm, 125, rfl⟩
abbrev main_call0_v0 : Ref sig .tc := ⟨.hbm, 126, rfl⟩
abbrev main_call0_v1 : Ref sig .tc := ⟨.hbm, 127, rfl⟩
abbrev main_call0_c_0 : Ref sig .tc := ⟨.hbm, 128, rfl⟩
abbrev main_call0_v2 : Ref sig .tc := ⟨.hbm, 129, rfl⟩
abbrev main_call0_v3 : Ref sig .tc := ⟨.hbm, 130, rfl⟩
abbrev main_call0_v4 : Ref sig .tc := ⟨.hbm, 131, rfl⟩
abbrev main_call0_c_1 : Ref sig .tc := ⟨.hbm, 132, rfl⟩
abbrev main_call0_c_2 : Ref sig .tc := ⟨.hbm, 133, rfl⟩
abbrev main_call0_v5 : Ref sig .tc := ⟨.hbm, 134, rfl⟩
abbrev main_call0_v6 : Ref sig .tc := ⟨.hbm, 135, rfl⟩
abbrev main_call0_v7 : Ref sig .tc := ⟨.hbm, 136, rfl⟩
abbrev main_call0_v8 : Ref sig .tc := ⟨.hbm, 137, rfl⟩
abbrev main_call0_v9 : Ref sig .tc := ⟨.hbm, 138, rfl⟩
abbrev main_call0_v10 : Ref sig .tc := ⟨.hbm, 139, rfl⟩
abbrev main_call0_c_3 : Ref sig .tc := ⟨.hbm, 140, rfl⟩
abbrev main_call0_v11 : Ref sig .tc := ⟨.hbm, 141, rfl⟩
abbrev main_call0_v12 : Ref sig .tc := ⟨.hbm, 142, rfl⟩
abbrev main_call0_v13 : Ref sig .tc := ⟨.hbm, 143, rfl⟩
abbrev main_call0_cst : Ref sig .tc := ⟨.hbm, 144, rfl⟩
abbrev main_call0_v14 : Ref sig .tc := ⟨.hbm, 145, rfl⟩
abbrev main_v86 : Ref sig .tc := ⟨.hbm, 146, rfl⟩
abbrev main_v87 : Ref sig .tc := ⟨.hbm, 147, rfl⟩
abbrev main_cst_13 : Ref sig .tc := ⟨.hbm, 148, rfl⟩
abbrev main_v88 : Ref sig .tc := ⟨.hbm, 149, rfl⟩
abbrev main_v89 : Ref sig .tc := ⟨.hbm, 150, rfl⟩
abbrev main_cst_14 : Ref sig .tc := ⟨.hbm, 151, rfl⟩
abbrev main_v90 : Ref sig .tc := ⟨.hbm, 152, rfl⟩
abbrev main_v91 : Ref sig .tc := ⟨.hbm, 153, rfl⟩
abbrev main_cst_15 : Ref sig .tc := ⟨.hbm, 154, rfl⟩
abbrev main_v92 : Ref sig .tc := ⟨.hbm, 155, rfl⟩
abbrev main_v93 : Ref sig .tc := ⟨.hbm, 156, rfl⟩
abbrev main_v94 : Ref sig .tc := ⟨.hbm, 157, rfl⟩
abbrev main_cst_16 : Ref sig .tc := ⟨.hbm, 158, rfl⟩
abbrev main_v95 : Ref sig .tc := ⟨.hbm, 159, rfl⟩
abbrev main_cst_17 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_cst_18 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_c_19 : Ref sig .tc := ⟨.hbm, 177, rfl⟩
abbrev main_v111 : Ref sig .tc := ⟨.hbm, 178, rfl⟩
abbrev main_v112 : Ref sig .tc := ⟨.hbm, 179, rfl⟩
abbrev main_c_20 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_c_21 : Ref sig .tc := ⟨.hbm, 184, rfl⟩
abbrev main_v116 : Ref sig .tc := ⟨.hbm, 185, rfl⟩
abbrev main_v117 : Ref sig .tc := ⟨.hbm, 186, rfl⟩
abbrev main_c_22 : Ref sig .tc := ⟨.hbm, 187, rfl⟩
abbrev main_v118 : Ref sig .tc := ⟨.hbm, 188, rfl⟩
abbrev main_v119 : Ref sig .tc := ⟨.hbm, 189, rfl⟩
abbrev main_v120 : Ref sig .tc := ⟨.hbm, 190, rfl⟩
abbrev main_c_23 : Ref sig .tc := ⟨.hbm, 191, rfl⟩
abbrev main_v121 : Ref sig .tc := ⟨.hbm, 192, rfl⟩
abbrev main_v122 : Ref sig .tc := ⟨.hbm, 193, rfl⟩
abbrev main_c_24 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_v148 : Ref sig .tc := ⟨.hbm, 220, rfl⟩
abbrev main_v149 : Ref sig .tc := ⟨.hbm, 221, rfl⟩
abbrev main_v150 : Ref sig .tc := ⟨.hbm, 222, rfl⟩
abbrev main_v151 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_c_25 : Ref sig .tc := ⟨.hbm, 231, rfl⟩
abbrev main_v159 : Ref sig .tc := ⟨.hbm, 232, rfl⟩
abbrev main_v160 : Ref sig .tc := ⟨.hbm, 233, rfl⟩
abbrev main_c_26 : Ref sig .tc := ⟨.hbm, 234, rfl⟩
abbrev main_v161 : Ref sig .tc := ⟨.hbm, 235, rfl⟩
abbrev main_v162 : Ref sig .tc := ⟨.hbm, 236, rfl⟩
abbrev main_v163 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_cst_27 : Ref sig .tc := ⟨.hbm, 241, rfl⟩
abbrev main_v167 : Ref sig .tc := ⟨.hbm, 242, rfl⟩
abbrev main_cst_28 : Ref sig .tc := ⟨.hbm, 243, rfl⟩
abbrev main_v168 : Ref sig .tc := ⟨.hbm, 244, rfl⟩
abbrev main_cst_29 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_values_30 : Ref sig .tc := ⟨.hbm, 249, rfl⟩
abbrev main_indices_31 : Ref sig .tc := ⟨.hbm, 250, rfl⟩
abbrev main_v172 : Ref sig .tc := ⟨.hbm, 251, rfl⟩
abbrev main_call1_c : Ref sig .tc := ⟨.hbm, 252, rfl⟩
abbrev main_call1_v0 : Ref sig .tc := ⟨.hbm, 253, rfl⟩
abbrev main_call1_v1 : Ref sig .tc := ⟨.hbm, 254, rfl⟩
abbrev main_call1_c_0 : Ref sig .tc := ⟨.hbm, 255, rfl⟩
abbrev main_call1_v2 : Ref sig .tc := ⟨.hbm, 256, rfl⟩
abbrev main_call1_v3 : Ref sig .tc := ⟨.hbm, 257, rfl⟩
abbrev main_call1_v4 : Ref sig .tc := ⟨.hbm, 258, rfl⟩
abbrev main_call1_c_1 : Ref sig .tc := ⟨.hbm, 259, rfl⟩
abbrev main_call1_c_2 : Ref sig .tc := ⟨.hbm, 260, rfl⟩
abbrev main_call1_v5 : Ref sig .tc := ⟨.hbm, 261, rfl⟩
abbrev main_call1_v6 : Ref sig .tc := ⟨.hbm, 262, rfl⟩
abbrev main_call1_v7 : Ref sig .tc := ⟨.hbm, 263, rfl⟩
abbrev main_call1_v8 : Ref sig .tc := ⟨.hbm, 264, rfl⟩
abbrev main_call1_v9 : Ref sig .tc := ⟨.hbm, 265, rfl⟩
abbrev main_call1_v10 : Ref sig .tc := ⟨.hbm, 266, rfl⟩
abbrev main_call1_c_3 : Ref sig .tc := ⟨.hbm, 267, rfl⟩
abbrev main_call1_v11 : Ref sig .tc := ⟨.hbm, 268, rfl⟩
abbrev main_call1_v12 : Ref sig .tc := ⟨.hbm, 269, rfl⟩
abbrev main_call1_v13 : Ref sig .tc := ⟨.hbm, 270, rfl⟩
abbrev main_call1_cst : Ref sig .tc := ⟨.hbm, 271, rfl⟩
abbrev main_call1_v14 : Ref sig .tc := ⟨.hbm, 272, rfl⟩
abbrev main_v173 : Ref sig .tc := ⟨.hbm, 273, rfl⟩
abbrev main_v174 : Ref sig .tc := ⟨.hbm, 274, rfl⟩
abbrev main_cst_32 : Ref sig .tc := ⟨.hbm, 275, rfl⟩
abbrev main_v175 : Ref sig .tc := ⟨.hbm, 276, rfl⟩
abbrev main_v176 : Ref sig .tc := ⟨.hbm, 277, rfl⟩
abbrev main_cst_33 : Ref sig .tc := ⟨.hbm, 278, rfl⟩
abbrev main_v177 : Ref sig .tc := ⟨.hbm, 279, rfl⟩
abbrev main_v178 : Ref sig .tc := ⟨.hbm, 280, rfl⟩
abbrev main_cst_34 : Ref sig .tc := ⟨.hbm, 281, rfl⟩
abbrev main_v179 : Ref sig .tc := ⟨.hbm, 282, rfl⟩
abbrev main_v180 : Ref sig .tc := ⟨.hbm, 283, rfl⟩
abbrev main_v181 : Ref sig .tc := ⟨.hbm, 284, rfl⟩
abbrev main_cst_35 : Ref sig .tc := ⟨.hbm, 285, rfl⟩
abbrev main_v182 : Ref sig .tc := ⟨.hbm, 286, rfl⟩
abbrev main_cst_36 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_cst_37 : Ref sig .tc := ⟨.hbm, 294, rfl⟩
abbrev main_v189 : Ref sig .tc := ⟨.hbm, 295, rfl⟩
abbrev main_v190 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_c_38 : Ref sig .tc := ⟨.hbm, 304, rfl⟩
abbrev main_v198 : Ref sig .tc := ⟨.hbm, 305, rfl⟩
abbrev main_v199 : Ref sig .tc := ⟨.hbm, 306, rfl⟩
abbrev main_c_39 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_c_40 : Ref sig .tc := ⟨.hbm, 311, rfl⟩
abbrev main_v203 : Ref sig .tc := ⟨.hbm, 312, rfl⟩
abbrev main_v204 : Ref sig .tc := ⟨.hbm, 313, rfl⟩
abbrev main_c_41 : Ref sig .tc := ⟨.hbm, 314, rfl⟩
abbrev main_v205 : Ref sig .tc := ⟨.hbm, 315, rfl⟩
abbrev main_v206 : Ref sig .tc := ⟨.hbm, 316, rfl⟩
abbrev main_v207 : Ref sig .tc := ⟨.hbm, 317, rfl⟩
abbrev main_c_42 : Ref sig .tc := ⟨.hbm, 318, rfl⟩
abbrev main_v208 : Ref sig .tc := ⟨.hbm, 319, rfl⟩
abbrev main_v209 : Ref sig .tc := ⟨.hbm, 320, rfl⟩
abbrev main_c_43 : Ref sig .tc := ⟨.hbm, 321, rfl⟩
abbrev main_v210 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_cst_44 : Ref sig .tc := ⟨.hbm, 339, rfl⟩
abbrev main_v227 : Ref sig .tc := ⟨.hbm, 340, rfl⟩
abbrev main_v228 : Ref sig .tc := ⟨.hbm, 341, rfl⟩
abbrev main_cst_45 : Ref sig .tc := ⟨.hbm, 342, rfl⟩
abbrev main_v229 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_cst_46 : Ref sig .tc := ⟨.hbm, 348, rfl⟩
abbrev main_v234 : Ref sig .tc := ⟨.hbm, 349, rfl⟩
abbrev main_v235 : Ref sig .tc := ⟨.hbm, 350, rfl⟩
abbrev main_cst_47 : Ref sig .tc := ⟨.hbm, 351, rfl⟩
abbrev main_v236 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_cst_48 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_v246 : Ref sig .tc := ⟨.hbm, 363, rfl⟩
abbrev main_v247 : Ref sig .tc := ⟨.hbm, 364, rfl⟩
abbrev main_v248 : Ref sig .tc := ⟨.hbm, 365, rfl⟩
abbrev main_v249 : Ref sig .tc := ⟨.hbm, 366, rfl⟩
abbrev main_v250 : Ref sig .tc := ⟨.hbm, 367, rfl⟩
abbrev main_v251 : Ref sig .tc := ⟨.hbm, 368, rfl⟩
abbrev main_cst_49 : Ref sig .tc := ⟨.hbm, 369, rfl⟩
abbrev main_v252 : Ref sig .tc := ⟨.hbm, 370, rfl⟩
abbrev main_v253 : Ref sig .tc := ⟨.hbm, 371, rfl⟩
abbrev main_cst_50 : Ref sig .tc := ⟨.hbm, 372, rfl⟩
abbrev main_v254 : Ref sig .tc := ⟨.hbm, 373, rfl⟩
abbrev main_v255 : Ref sig .tc := ⟨.hbm, 374, rfl⟩
abbrev main_v256 : Ref sig .tc := ⟨.hbm, 375, rfl⟩
abbrev main_v257 : Ref sig .tc := ⟨.hbm, 376, rfl⟩
abbrev main_v258 : Ref sig .tc := ⟨.hbm, 377, rfl⟩
abbrev main_cst_51 : Ref sig .tc := ⟨.hbm, 378, rfl⟩
abbrev main_v259 : Ref sig .tc := ⟨.hbm, 379, rfl⟩
abbrev main_v260 : Ref sig .tc := ⟨.hbm, 380, rfl⟩
abbrev main_cst_52 : Ref sig .tc := ⟨.hbm, 381, rfl⟩
abbrev main_v261 : Ref sig .tc := ⟨.hbm, 382, rfl⟩
abbrev main_v262 : Ref sig .tc := ⟨.hbm, 383, rfl⟩
abbrev main_v263 : Ref sig .tc := ⟨.hbm, 384, rfl⟩
abbrev main_v264 : Ref sig .tc := ⟨.hbm, 385, rfl⟩
abbrev main_cst_53 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_v268 : Ref sig .tc := ⟨.hbm, 390, rfl⟩
abbrev main_v269 : Ref sig .tc := ⟨.hbm, 391, rfl⟩
abbrev main_v270 : Ref sig .tc := ⟨.hbm, 392, rfl⟩
abbrev main_v271 : Ref sig .tc := ⟨.hbm, 393, rfl⟩
abbrev main_v272 : Ref sig .tc := ⟨.hbm, 394, rfl⟩
abbrev main_v273 : Ref sig .tc := ⟨.hbm, 395, rfl⟩
abbrev main_v274 : Ref sig .tc := ⟨.hbm, 396, rfl⟩
abbrev main_v275 : Ref sig .tc := ⟨.hbm, 397, rfl⟩
abbrev main_v276 : Ref sig .tc := ⟨.hbm, 398, rfl⟩
abbrev main_v277 : Ref sig .tc := ⟨.hbm, 399, rfl⟩
abbrev main_v278 : Ref sig .tc := ⟨.hbm, 400, rfl⟩
abbrev main_v279 : Ref sig .tc := ⟨.hbm, 401, rfl⟩
abbrev main_cst_54 : Ref sig .tc := ⟨.hbm, 402, rfl⟩
abbrev main_v280 : Ref sig .tc := ⟨.hbm, 403, rfl⟩
abbrev main_v281 : Ref sig .tc := ⟨.hbm, 404, rfl⟩
abbrev main_cst_55 : Ref sig .tc := ⟨.hbm, 405, rfl⟩
abbrev main_v282 : Ref sig .tc := ⟨.hbm, 406, rfl⟩
abbrev main_v283 : Ref sig .tc := ⟨.hbm, 407, rfl⟩
abbrev main_v284 : Ref sig .tc := ⟨.hbm, 408, rfl⟩
abbrev main_v285 : Ref sig .tc := ⟨.hbm, 409, rfl⟩
abbrev main_v286 : Ref sig .tc := ⟨.hbm, 410, rfl⟩
abbrev main_cst_56 : Ref sig .tc := ⟨.hbm, 411, rfl⟩
abbrev main_v287 : Ref sig .tc := ⟨.hbm, 412, rfl⟩
abbrev main_v288 : Ref sig .tc := ⟨.hbm, 413, rfl⟩
abbrev main_cst_57 : Ref sig .tc := ⟨.hbm, 414, rfl⟩
abbrev main_v289 : Ref sig .tc := ⟨.hbm, 415, rfl⟩
abbrev main_v290 : Ref sig .tc := ⟨.hbm, 416, rfl⟩
abbrev main_v291 : Ref sig .tc := ⟨.hbm, 417, rfl⟩
abbrev main_v292 : Ref sig .tc := ⟨.hbm, 418, rfl⟩
abbrev main_cst_58 : Ref sig .tc := ⟨.hbm, 419, rfl⟩
abbrev main_v293 : Ref sig .tc := ⟨.hbm, 420, rfl⟩
abbrev main_v294 : Ref sig .tc := ⟨.hbm, 421, rfl⟩
abbrev main_v295 : Ref sig .tc := ⟨.hbm, 422, rfl⟩
abbrev main_v296 : Ref sig .tc := ⟨.hbm, 423, rfl⟩
abbrev main_v297 : Ref sig .tc := ⟨.hbm, 424, rfl⟩
abbrev main_v298 : Ref sig .tc := ⟨.hbm, 425, rfl⟩
abbrev main_v299 : Ref sig .tc := ⟨.hbm, 426, rfl⟩
abbrev main_v300 : Ref sig .tc := ⟨.hbm, 427, rfl⟩
abbrev main_v301 : Ref sig .tc := ⟨.hbm, 428, rfl⟩
abbrev main_v302 : Ref sig .tc := ⟨.hbm, 429, rfl⟩
abbrev main_v303 : Ref sig .tc := ⟨.hbm, 430, rfl⟩
abbrev main_cst_59 : Ref sig .tc := ⟨.hbm, 431, rfl⟩
abbrev main_v304 : Ref sig .tc := ⟨.hbm, 432, rfl⟩
abbrev main_v305 : Ref sig .tc := ⟨.hbm, 433, rfl⟩
abbrev main_cst_60 : Ref sig .tc := ⟨.hbm, 434, rfl⟩
abbrev main_v306 : Ref sig .tc := ⟨.hbm, 435, rfl⟩
abbrev main_v307 : Ref sig .tc := ⟨.hbm, 436, rfl⟩
abbrev main_v308 : Ref sig .tc := ⟨.hbm, 437, rfl⟩
abbrev main_v309 : Ref sig .tc := ⟨.hbm, 438, rfl⟩
abbrev main_v310 : Ref sig .tc := ⟨.hbm, 439, rfl⟩
abbrev main_cst_61 : Ref sig .tc := ⟨.hbm, 440, rfl⟩
abbrev main_v311 : Ref sig .tc := ⟨.hbm, 441, rfl⟩
abbrev main_v312 : Ref sig .tc := ⟨.hbm, 442, rfl⟩
abbrev main_v313 : Ref sig .tc := ⟨.hbm, 443, rfl⟩
abbrev main_v314 : Ref sig .tc := ⟨.hbm, 444, rfl⟩
abbrev main_v315 : Ref sig .tc := ⟨.hbm, 445, rfl⟩
abbrev main_v316 : Ref sig .tc := ⟨.hbm, 446, rfl⟩
abbrev main_v317 : Ref sig .tc := ⟨.hbm, 447, rfl⟩
abbrev main_cst_62 : Ref sig .tc := ⟨.hbm, 448, rfl⟩
abbrev main_v318 : Ref sig .tc := ⟨.hbm, 449, rfl⟩
abbrev main_v319 : Ref sig .tc := ⟨.hbm, 450, rfl⟩
abbrev main_cst_63 : Ref sig .tc := ⟨.hbm, 451, rfl⟩
abbrev main_v320 : Ref sig .tc := ⟨.hbm, 452, rfl⟩
abbrev main_v321 : Ref sig .tc := ⟨.hbm, 453, rfl⟩
abbrev main_v322 : Ref sig .tc := ⟨.hbm, 454, rfl⟩
abbrev main_v323 : Ref sig .tc := ⟨.hbm, 455, rfl⟩
abbrev main_v324 : Ref sig .tc := ⟨.hbm, 456, rfl⟩
abbrev main_cst_64 : Ref sig .tc := ⟨.hbm, 457, rfl⟩
abbrev main_v325 : Ref sig .tc := ⟨.hbm, 458, rfl⟩
abbrev main_v326 : Ref sig .tc := ⟨.hbm, 459, rfl⟩
abbrev main_cst_65 : Ref sig .tc := ⟨.hbm, 460, rfl⟩
abbrev main_v327 : Ref sig .tc := ⟨.hbm, 461, rfl⟩
abbrev main_v328 : Ref sig .tc := ⟨.hbm, 462, rfl⟩
abbrev main_v329 : Ref sig .tc := ⟨.hbm, 463, rfl⟩
abbrev main_v330 : Ref sig .tc := ⟨.hbm, 464, rfl⟩
abbrev main_cst_66 : Ref sig .tc := ⟨.hbm, 465, rfl⟩
abbrev main_v331 : Ref sig .tc := ⟨.hbm, 466, rfl⟩
abbrev main_v332 : Ref sig .tc := ⟨.hbm, 467, rfl⟩
abbrev main_v333 : Ref sig .tc := ⟨.hbm, 468, rfl⟩
abbrev main_v334 : Ref sig .tc := ⟨.hbm, 469, rfl⟩
abbrev main_v335 : Ref sig .tc := ⟨.hbm, 470, rfl⟩
abbrev main_v336 : Ref sig .tc := ⟨.hbm, 471, rfl⟩
abbrev main_v337 : Ref sig .tc := ⟨.hbm, 472, rfl⟩
abbrev main_v338 : Ref sig .tc := ⟨.hbm, 473, rfl⟩
abbrev main_v339 : Ref sig .tc := ⟨.hbm, 474, rfl⟩
abbrev main_v340 : Ref sig .tc := ⟨.hbm, 475, rfl⟩
abbrev main_v341 : Ref sig .tc := ⟨.hbm, 476, rfl⟩
abbrev main_v342 : Ref sig .tc := ⟨.hbm, 477, rfl⟩
abbrev main_v343 : Ref sig .tc := ⟨.hbm, 478, rfl⟩
abbrev main_v344 : Ref sig .tc := ⟨.hbm, 479, rfl⟩
abbrev main_v345 : Ref sig .tc := ⟨.hbm, 480, rfl⟩
abbrev main_v346 : Ref sig .tc := ⟨.hbm, 481, rfl⟩
abbrev main_cst_67 : Ref sig .tc := ⟨.hbm, 482, rfl⟩
abbrev main_v347 : Ref sig .tc := ⟨.hbm, 483, rfl⟩
abbrev main_v348 : Ref sig .tc := ⟨.hbm, 484, rfl⟩
abbrev main_cst_68 : Ref sig .tc := ⟨.hbm, 485, rfl⟩
abbrev main_v349 : Ref sig .tc := ⟨.hbm, 486, rfl⟩
abbrev main_v350 : Ref sig .tc := ⟨.hbm, 487, rfl⟩
abbrev main_v351 : Ref sig .tc := ⟨.hbm, 488, rfl⟩
abbrev main_v352 : Ref sig .tc := ⟨.hbm, 489, rfl⟩
abbrev main_v353 : Ref sig .tc := ⟨.hbm, 490, rfl⟩
abbrev main_cst_69 : Ref sig .tc := ⟨.hbm, 491, rfl⟩
abbrev main_v354 : Ref sig .tc := ⟨.hbm, 492, rfl⟩
abbrev main_v355 : Ref sig .tc := ⟨.hbm, 493, rfl⟩
abbrev main_cst_70 : Ref sig .tc := ⟨.hbm, 494, rfl⟩
abbrev main_v356 : Ref sig .tc := ⟨.hbm, 495, rfl⟩
abbrev main_v357 : Ref sig .tc := ⟨.hbm, 496, rfl⟩
abbrev main_v358 : Ref sig .tc := ⟨.hbm, 497, rfl⟩
abbrev main_v359 : Ref sig .tc := ⟨.hbm, 498, rfl⟩
abbrev main_cst_71 : Ref sig .tc := ⟨.hbm, 499, rfl⟩
abbrev main_v360 : Ref sig .tc := ⟨.hbm, 500, rfl⟩
abbrev main_v361 : Ref sig .tc := ⟨.hbm, 501, rfl⟩
abbrev main_v362 : Ref sig .tc := ⟨.hbm, 502, rfl⟩
abbrev main_v363 : Ref sig .tc := ⟨.hbm, 503, rfl⟩
abbrev main_v364 : Ref sig .tc := ⟨.hbm, 504, rfl⟩
abbrev main_v365 : Ref sig .tc := ⟨.hbm, 505, rfl⟩
abbrev main_v366 : Ref sig .tc := ⟨.hbm, 506, rfl⟩
abbrev main_v367 : Ref sig .tc := ⟨.hbm, 507, rfl⟩
abbrev main_v368 : Ref sig .tc := ⟨.hbm, 508, rfl⟩
abbrev main_v369 : Ref sig .tc := ⟨.hbm, 509, rfl⟩
abbrev main_v370 : Ref sig .tc := ⟨.hbm, 510, rfl⟩
abbrev main_cst_72 : Ref sig .tc := ⟨.hbm, 511, rfl⟩
abbrev main_v371 : Ref sig .tc := ⟨.hbm, 512, rfl⟩
abbrev main_v372 : Ref sig .tc := ⟨.hbm, 513, rfl⟩
abbrev main_cst_73 : Ref sig .tc := ⟨.hbm, 514, rfl⟩
abbrev main_v373 : Ref sig .tc := ⟨.hbm, 515, rfl⟩
abbrev main_v374 : Ref sig .tc := ⟨.hbm, 516, rfl⟩
abbrev main_v375 : Ref sig .tc := ⟨.hbm, 517, rfl⟩
abbrev main_v376 : Ref sig .tc := ⟨.hbm, 518, rfl⟩
abbrev main_v377 : Ref sig .tc := ⟨.hbm, 519, rfl⟩
abbrev main_cst_74 : Ref sig .tc := ⟨.hbm, 520, rfl⟩
abbrev main_v378 : Ref sig .tc := ⟨.hbm, 521, rfl⟩
abbrev main_v379 : Ref sig .tc := ⟨.hbm, 522, rfl⟩
abbrev main_v380 : Ref sig .tc := ⟨.hbm, 523, rfl⟩
abbrev main_v381 : Ref sig .tc := ⟨.hbm, 524, rfl⟩
abbrev main_v382 : Ref sig .tc := ⟨.hbm, 525, rfl⟩
abbrev main_v383 : Ref sig .tc := ⟨.hbm, 526, rfl⟩
abbrev main_v384 : Ref sig .tc := ⟨.hbm, 527, rfl⟩
abbrev main_cst_75 : Ref sig .tc := ⟨.hbm, 528, rfl⟩
abbrev main_v385 : Ref sig .tc := ⟨.hbm, 529, rfl⟩
abbrev main_v386 : Ref sig .tc := ⟨.hbm, 530, rfl⟩
abbrev main_cst_76 : Ref sig .tc := ⟨.hbm, 531, rfl⟩
abbrev main_v387 : Ref sig .tc := ⟨.hbm, 532, rfl⟩
abbrev main_v388 : Ref sig .tc := ⟨.hbm, 533, rfl⟩
abbrev main_v389 : Ref sig .tc := ⟨.hbm, 534, rfl⟩
abbrev main_v390 : Ref sig .tc := ⟨.hbm, 535, rfl⟩
abbrev main_v391 : Ref sig .tc := ⟨.hbm, 536, rfl⟩
abbrev main_cst_77 : Ref sig .tc := ⟨.hbm, 537, rfl⟩
abbrev main_v392 : Ref sig .tc := ⟨.hbm, 538, rfl⟩
abbrev main_v393 : Ref sig .tc := ⟨.hbm, 539, rfl⟩
abbrev main_cst_78 : Ref sig .tc := ⟨.hbm, 540, rfl⟩
abbrev main_v394 : Ref sig .tc := ⟨.hbm, 541, rfl⟩
abbrev main_v395 : Ref sig .tc := ⟨.hbm, 542, rfl⟩
abbrev main_v396 : Ref sig .tc := ⟨.hbm, 543, rfl⟩
abbrev main_v397 : Ref sig .tc := ⟨.hbm, 544, rfl⟩
abbrev main_cst_79 : Ref sig .tc := ⟨.hbm, 545, rfl⟩
abbrev main_v398 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_v402 : Ref sig .tc := ⟨.hbm, 550, rfl⟩
abbrev main_v403 : Ref sig .tc := ⟨.hbm, 551, rfl⟩
abbrev main_v404 : Ref sig .tc := ⟨.hbm, 552, rfl⟩
abbrev main_v405 : Ref sig .tc := ⟨.hbm, 553, rfl⟩
abbrev main_v406 : Ref sig .tc := ⟨.hbm, 554, rfl⟩
abbrev main_v407 : Ref sig .tc := ⟨.hbm, 555, rfl⟩
abbrev main_v408 : Ref sig .tc := ⟨.hbm, 556, rfl⟩
abbrev main_v409 : Ref sig .tc := ⟨.hbm, 557, rfl⟩

abbrev nD : Nat := 1
abbrev τ : Topo := Topo.v7x

variable {F : FTy → Type} [FloatOps F]
-- ==== Proof.Spec.lean ====
/-
  The block's mathematics, over plain coordinates: layer normalisation, an affine map, the GELU.
-/
module

public import Idealize.ShloMosaic.Lib.Pointwise

@[expose] public section

noncomputable section

namespace Cert.Spec

open Idealize.ShloMosaic

/-- The offsets of a whole block are zero, of two axes. -/
theorem z2 : (![0, 0] : Fin 2 → ℕ) = fun _ => 0 := by decide
/-- The offsets of a whole block are zero, of three axes. -/
theorem z3 : (![0, 0, 0] : Fin 3 → ℕ) = fun _ => 0 := by decide
/-- The offsets of a whole block are zero, of four axes. -/
theorem z4 : (![0, 0, 0, 0] : Fin 4 → ℕ) = fun _ => 0 := by decide

/-- The extended real an f32 word denotes. -/
abbrev lit (w : BitVec 32) : EReal := Ideal.ofBits .f32 w

/-- The mean of a row, the count given as the divisor `d`. -/
def mean {n : ℕ} (d : EReal) (x : Fin n → EReal) : EReal := Ideal.div (∑ k, x k) d

/-- Layer normalisation of the row `x` with gain `g` and offset `b`. -/
def lnorm {n : ℕ} (d : EReal) (x g b : Fin n → EReal) (j : Fin n) : EReal :=
  Ideal.div (x j - mean d x)
      (Ideal.sqrt (mean d (fun k => (x k - mean d x) * (x k - mean d x)) + lit 0x3727C5AC#32)) * g j + b j

/-- The affine map `x · w + b`. -/
def dense {m n : ℕ} (x : Fin m → EReal) (w : Fin m → Fin n → EReal) (b : Fin n → EReal) (j : Fin n) : EReal :=
  (∑ k, x k * w k j) + b j

/-- The GELU in its error-function form. -/
def gelu (t : EReal) : EReal :=
  t * lit 0x3F000000#32 * (1 + Ideal.erf (t * (((Real.sqrt 2)⁻¹ : ℝ) : EReal)))

/-- Column `e` of head `h`: the heads stand side by side, 64 columns each. -/
def hd (h : Fin 16) (e : Fin 64) : Fin 1024 := ⟨h.val * 64 + e.val, by omega⟩

/-- The other stream. -/
def other (c : Fin 2) : Fin 2 := ⟨1 - c.val, by omega⟩

/-- Row `l` of batch `b`, the batches one after the other. -/
def br (b : Fin 2) (l : Fin 2048) : Fin 4096 := ⟨b.val * 2048 + l.val, by omega⟩

/-- Column `j` of part `p` (0 the queries, 1 the keys, 2 the values) of the joint product. -/
def col (p : Fin 3) (j : Fin 1024) : Fin 3072 := ⟨p.val * 1024 + j.val, by omega⟩

/-- The sparsity measure of one query row `q` in one head, added up through the counts `w` of the sampled keys:
    the largest score among the keys whose `bias` is 0 (the others' is minus infinity), less the counted sum of
    the scores over 2048. -/
def mker (q : Fin 1024 → EReal) (k : Fin 2048 → Fin 1024 → EReal) (w bias : Fin 2048 → EReal) (h : Fin 16) : EReal :=
  Finset.univ.fold max (lit 0xFF800000#32) (fun s : Fin 2048 => (∑ e : Fin 64, q (hd h e) * k s (hd h e)) + bias s)
    - (∑ e : Fin 64, q (hd h e) * (∑ s : Fin 2048, w s * k s (hd h e))) * lit 0x3A000000#32

/-- The softmax of the row `x` at `j`, shifted by its maximum. -/
def softmax {n : ℕ} (x : Fin n → EReal) (j : Fin n) : EReal :=
  Ideal.div (Ideal.exp (x j - Finset.univ.fold max (lit 0xFF800000#32) x))
    (∑ k, Ideal.exp (x k - Finset.univ.fold max (lit 0xFF800000#32) x))

/-- The mark of row `s` as the selected row `i`. -/
def mark (i : BitVec 32) (s : Fin 2048) : EReal := if BitVec.ofNat 32 s.val = i then 1 else 0

/-- The context of one head as the kernel writes it: the selected query rows, picked out by marks, attend over the
    keys; row `s` is given its attention if it is marked and the mean of the values if it is not. -/
def ctxker (sel : Fin 40 → BitVec 32) (q k v : Fin 2048 → Fin 64 → EReal) (s : Fin 2048) (e : Fin 64) : EReal :=
  (∑ u : Fin 40, mark (sel u) s *
      (∑ t : Fin 2048, softmax (fun t : Fin 2048 =>
          (∑ f : Fin 64, (∑ r : Fin 2048, mark (sel u) r * q r f) * k t f) * lit 0x3E000000#32) t * v t e))
    + (1 - ∑ u : Fin 40, mark (sel u) s) * Ideal.div (∑ t : Fin 2048, v t e) (lit 0x45000000#32)

/-! ### The pieces agree where their operands do -/

/-- Equal summands give equal sums. -/
theorem add_congr {a b c d : EReal} (h : a = b) (k : c = d) : a + c = b + d := by rw [h, k]

/-- Equal operands give equal values of `dense`. -/
theorem dense_congr {m n n' : ℕ} {x x' : Fin m → EReal} {w : Fin m → Fin n → EReal} {w' : Fin m → Fin n' → EReal} {b : Fin n → EReal}
    {b' : Fin n' → EReal} (j : Fin n) (j' : Fin n')
    (hx : ∀ k, x k = x' k) (hw : ∀ k, w k j = w' k j') (hb : b j = b' j') : dense x w b j = dense x' w' b' j' := by
  unfold dense; rw [hb, Finset.sum_congr rfl fun k _ => by rw [hx, hw]]

/-- Equal operands give equal values of `lnorm`. -/
theorem lnorm_congr {n : ℕ} (d : EReal) {x x' g g' b b' : Fin n → EReal} (j : Fin n)
    (hx : ∀ k, x k = x' k) (hg : ∀ k, g k = g' k) (hb : ∀ k, b k = b' k) : lnorm d x g b j = lnorm d x' g' b' j := by
  rw [funext hx, funext hg, funext hb]

/-- Equal operands give equal values of `mker`. -/
theorem mker_congr {q q' : Fin 1024 → EReal} {k k' : Fin 2048 → Fin 1024 → EReal} {w w' s s' : Fin 2048 → EReal} (h : Fin 16)
    (hq : ∀ j, q j = q' j) (hk : ∀ r j, k r j = k' r j) (hw : ∀ r, w r = w' r) (hs : ∀ r, s r = s' r) :
    mker q k w s h = mker q' k' w' s' h := by
  rw [funext hq, funext fun r => funext (hk r), funext hw, funext hs]

/-- Equal operands give equal values of `ctxker`. -/
theorem ctxker_congr {i i' : Fin 40 → BitVec 32} {q q' k k' v v' : Fin 2048 → Fin 64 → EReal} (s : Fin 2048) (e : Fin 64)
    (hi : ∀ u, i u = i' u) (hq : ∀ r f, q r f = q' r f) (hk : ∀ r f, k r f = k' r f) (hv : ∀ r f, v r f = v' r f) :
    ctxker i q k v s e = ctxker i' q' k' v' s e := by
  rw [funext hi, funext fun r => funext (hq r), funext fun r => funext (hk r), funext fun r => funext (hv r)]

end Cert.Spec

end
-- ==== Proof.Select.lean ====
/-
  The forty most outstanding rows of a measure: two ways of picking them pick the same set.
-/
module

public import Idealize.ShloMosaic.Lib.Pointwise
public import Idealize.ShloMosaic.Lib.SortPrefix

@[expose] public section

noncomputable section

namespace Cert.Select

open Idealize.ShloMosaic

/-- Row `a` stands before row `b`: a larger measure, or the same measure and a smaller index. -/
def before {n : ℕ} (m : Fin n → EReal) (a b : Fin n) : Prop := m b < m a ∨ (m a = m b ∧ a < b)

/-- No two rows stand before each other. -/
theorem before_asymm {n : ℕ} {m : Fin n → EReal} {a b : Fin n} (h : before m a b) (h' : before m b a) : False := by
  rcases h with h | ⟨h, hl⟩ <;> rcases h' with h' | ⟨h', hl'⟩
  · exact absurd h (not_lt.mpr h'.le)
  · exact absurd h (by rw [h']; exact lt_irrefl _)
  · exact absurd h' (by rw [h]; exact lt_irrefl _)
  · exact absurd hl (not_lt.mpr hl'.le)

/-- `σ` lists `k` different rows, each of them before every row it leaves out. -/
def IsTop {n k : ℕ} (m : Fin n → EReal) (σ : Fin k → Fin n) : Prop :=
  Function.Injective σ ∧ ∀ u t, (∀ j, σ j ≠ t) → before m (σ u) t

/-- Two such lists name the same rows. -/
theorem IsTop.mem_of_mem {n k : ℕ} {m : Fin n → EReal} {σ τ : Fin k → Fin n} (hσ : IsTop m σ) (hτ : IsTop m τ) (s : Fin n)
    (h : ∃ u, σ u = s) : ∃ u, τ u = s := by
  classical
  by_contra hn
  obtain ⟨u, rfl⟩ := h
  have hcard : (Finset.univ.image σ).card = (Finset.univ.image τ).card := by
    rw [Finset.card_image_of_injective _ hσ.1, Finset.card_image_of_injective _ hτ.1]
  have hne : ∃ w, ∀ j, σ j ≠ τ w := by
    by_contra hall
    have hsub : Finset.univ.image τ ⊆ Finset.univ.image σ := by
      intro x hx
      obtain ⟨w, -, rfl⟩ := Finset.mem_image.mp hx
      by_contra hx'
      exact hall ⟨w, fun j hj => hx' (Finset.mem_image.mpr ⟨j, Finset.mem_univ _, hj⟩)⟩
    have heq := Finset.eq_of_subset_of_card_le hsub hcard.le
    have : σ u ∈ Finset.univ.image τ := heq ▸ Finset.mem_image.mpr ⟨u, Finset.mem_univ _, rfl⟩
    obtain ⟨w, -, hw⟩ := Finset.mem_image.mp this
    exact hn ⟨w, hw⟩
  obtain ⟨w, hw⟩ := hne
  exact before_asymm (hσ.2 u (τ w) hw) (hτ.2 w (σ u) fun j hj => hn ⟨j, hj⟩)

/-- Two lists of the largest rows hold the same rows. -/
theorem IsTop.mem_iff {n k : ℕ} {m : Fin n → EReal} {σ τ : Fin k → Fin n} (hσ : IsTop m σ) (hτ : IsTop m τ) (s : Fin n) :
    (∃ u, σ u = s) ↔ ∃ u, τ u = s := ⟨hσ.mem_of_mem hτ s, hτ.mem_of_mem hσ s⟩

/-! ## A stable sort by the measure alone -/

/-- Placing `a` into a list ordered by `before`, all of whose rows come after `a`, keeps the order. -/
theorem insert_ordered {n : ℕ} (m : Fin n → EReal) (a : Fin n) (l : List (Fin n)) (hl : l.Pairwise (before m)) (ha : ∀ b ∈ l, a < b) :
    (insertBefore (fun x y => decide (m y < m x)) a l).Pairwise (before m) := by
  induction l with
  | nil => simp [insertBefore]
  | cons b l ih =>
    rw [List.pairwise_cons] at hl
    unfold insertBefore
    split
    · rename_i hb
      have hb : m a < m b := by simpa using hb
      rw [List.pairwise_cons]
      refine ⟨fun c hc => ?_, ih hl.2 fun c hc => ha c (List.mem_cons_of_mem _ hc)⟩
      have hc' : c = a ∨ c ∈ l := by
        have := (perm_insertBefore (fun x y => decide (m y < m x)) a l).mem_iff.mp hc
        simpa using this
      rcases hc' with rfl | hc'
      · exact Or.inl hb
      · exact hl.1 c hc'
    · rename_i hb
      have hb : m b ≤ m a := by simpa using hb
      have hab : before m a b := by
        rcases lt_or_eq_of_le hb with h | h
        · exact Or.inl h
        · exact Or.inr ⟨h.symm, ha b List.mem_cons_self⟩
      rw [List.pairwise_cons, List.pairwise_cons]
      refine ⟨fun c hc => ?_, hl⟩
      rcases List.mem_cons.mp hc with rfl | hc'
      · exact hab
      · have hmc : m c ≤ m b := by
          rcases hl.1 c hc' with h | ⟨h, -⟩
          · exact h.le
          · exact h.symm.le
        rcases lt_or_eq_of_le (hmc.trans hb) with h | h
        · exact Or.inl h
        · exact Or.inr ⟨h.symm, ha c hc⟩

/-- The stable sort by the measure of an increasing list is ordered by `before`. -/
theorem sort_ordered {n : ℕ} (m : Fin n → EReal) (l : List (Fin n)) (hl : l.Pairwise (· < ·)) :
    (stableSort (fun x y => decide (m y < m x)) l).Pairwise (before m) := by
  induction l with
  | nil => exact List.Pairwise.nil
  | cons a l ih =>
    rw [List.pairwise_cons] at hl
    exact insert_ordered m a _ (ih hl.2) fun b hb => hl.1 b ((perm_stableSort _ l).mem_iff.mp hb)

/-- The first `k` positions of the stable sort by the measure are `k` different rows before every other. -/
theorem isTop_sorted {n k : ℕ} (hk : k ≤ n) (m : Fin n → EReal) :
    IsTop m fun u : Fin k => sortedFrom (fun x y => decide (m y < m x)) (u.castLE hk) := by
  have hs := sort_ordered m (List.finRange n) (List.pairwise_lt_finRange n)
  have hp := perm_stableSort (fun x y => decide (m y < m x)) (List.finRange n)
  have hget : ∀ i j : Fin n, i < j → before m (sortedFrom (fun x y => decide (m y < m x)) i) (sortedFrom (fun x y => decide (m y < m x)) j) :=
    fun i j hij => List.pairwise_iff_get.mp hs _ _ hij
  refine ⟨fun u v huv => ?_, fun u t ht => ?_⟩
  · rcases lt_trichotomy u v with h | h | h
    · have := hget (u.castLE hk) (v.castLE hk) h
      rw [show sortedFrom _ (u.castLE hk) = sortedFrom _ (v.castLE hk) from huv] at this
      exact (before_asymm this this).elim
    · exact h
    · have := hget (v.castLE hk) (u.castLE hk) h
      rw [show sortedFrom _ (u.castLE hk) = sortedFrom _ (v.castLE hk) from huv] at this
      exact (before_asymm this this).elim
  · have hmem : t ∈ stableSort (fun x y => decide (m y < m x)) (List.finRange n) := hp.mem_iff.mpr (List.mem_finRange t)
    obtain ⟨i, hi⟩ := List.get_of_mem hmem
    have hin : i.val < n := lt_of_lt_of_eq i.isLt (by rw [length_stableSort, List.length_finRange])
    have hi' : sortedFrom (fun x y => decide (m y < m x)) ⟨i.val, hin⟩ = t := hi
    by_cases hik : i.val < k
    · exact absurd hi' (ht ⟨i.val, hik⟩)
    · rw [← hi']
      exact hget _ _ (show u.val < i.val by omega)

/-! ## Taking the first largest row, forty times -/

/-- A row of `m` that no other exceeds, the first of them. -/
def IsFirst {n : ℕ} (m : Fin n → EReal) (p : Fin n) : Prop := (∀ y, m y ≤ m p) ∧ ∀ y, y < p → m y < m p

/-- A first largest row exists. -/
theorem exists_isFirst {n : ℕ} [NeZero n] (m : Fin n → EReal) : ∃ p, IsFirst m p := by
  classical
  obtain ⟨x, -, hx⟩ := Finset.exists_max_image Finset.univ m ⟨0, Finset.mem_univ _⟩
  have hne : (Finset.univ.filter fun y => m y = m x).Nonempty := ⟨x, by simp⟩
  refine ⟨(Finset.univ.filter fun y => m y = m x).min' hne, fun y => ?_, fun y hy => ?_⟩
  · have := Finset.min'_mem _ hne
    rw [(Finset.mem_filter.mp this).2]
    exact hx y (Finset.mem_univ _)
  · have h1 := (Finset.mem_filter.mp (Finset.min'_mem _ hne)).2
    rw [h1]
    refine lt_of_le_of_ne (hx y (Finset.mem_univ _)) fun h => ?_
    exact absurd hy (not_lt.mpr (Finset.min'_le _ _ (by simp [h])))

/-- The first largest row. -/
def pick {n : ℕ} [NeZero n] (m : Fin n → EReal) : Fin n := Classical.choose (exists_isFirst m)

/-- The picked row is the first largest. -/
theorem pick_spec {n : ℕ} [NeZero n] (m : Fin n → EReal) : IsFirst m (pick m) := Classical.choose_spec (exists_isFirst m)

/-- The measure after `i` rounds, the rows taken so far at minus infinity. -/
def left {n : ℕ} [NeZero n] (m : Fin n → EReal) : ℕ → Fin n → EReal
  | 0 => m
  | i + 1 => fun s => if s = pick (left m i) then ⊥ else left m i s

/-- The rows already taken are at minus infinity, the others untouched. -/
theorem left_eq {n : ℕ} [NeZero n] (m : Fin n → EReal) (i : ℕ) (s : Fin n) :
    ((∃ j < i, pick (left m j) = s) → left m i s = ⊥) ∧ ((∀ j < i, pick (left m j) ≠ s) → left m i s = m s) := by
  induction i with
  | zero => exact ⟨fun ⟨j, hj, _⟩ => absurd hj (Nat.not_lt_zero _), fun _ => rfl⟩
  | succ i ih =>
    constructor
    · rintro ⟨j, hj, hjs⟩
      show (if s = pick (left m i) then (⊥ : EReal) else left m i s) = ⊥
      split
      · rfl
      · rename_i hne
        refine ih.1 ⟨j, ?_, hjs⟩
        rcases Nat.lt_succ_iff_lt_or_eq.mp hj with h | h
        · exact h
        · subst h; exact absurd hjs.symm hne
    · intro h
      show (if s = pick (left m i) then (⊥ : EReal) else left m i s) = m s
      rw [if_neg fun he => h i (Nat.lt_succ_self i) he.symm]
      exact ih.2 fun j hj => h j (Nat.lt_succ_of_lt hj)

/-- Where no row's measure is minus infinity, the rounds take different rows, each before every row never taken. -/
theorem isTop_pick {n k : ℕ} [NeZero n] (hk : k ≤ n) (m : Fin n → EReal) (hm : ∀ s, m s ≠ ⊥) :
    IsTop m fun u : Fin k => pick (left m u.val) := by
  classical
  -- a round before the n-th takes a row not taken before
  have hnew : ∀ i, i < n → ∀ j < i, pick (left m j) ≠ pick (left m i) := by
    intro i hi j hj he
    have hex : ∃ t : Fin n, ∀ j < i, pick (left m j) ≠ t := by
      by_contra hall
      push Not at hall
      have hsub : (Finset.univ : Finset (Fin n)) ⊆ (Finset.range i).image fun j => pick (left m j) := by
        intro t _
        obtain ⟨j, hj, hjt⟩ := hall t
        exact Finset.mem_image.mpr ⟨j, Finset.mem_range.mpr hj, hjt⟩
      have := (Finset.card_le_card hsub).trans Finset.card_image_le
      rw [Finset.card_univ, Fintype.card_fin, Finset.card_range] at this
      omega
    obtain ⟨t, ht⟩ := hex
    have h1 := (left_eq m i t).2 ht
    have h2 := (left_eq m i (pick (left m i))).1 ⟨j, hj, he⟩
    have h3 := (pick_spec (left m i)).1 t
    rw [h1, h2] at h3
    exact hm t (le_bot_iff.mp h3)
  refine ⟨fun u v huv => ?_, fun u t ht => ?_⟩
  · rcases lt_trichotomy u.val v.val with h | h | h
    · exact absurd huv (hnew v.val (by omega) u.val h)
    · exact Fin.ext h
    · exact absurd huv.symm (hnew u.val (by omega) v.val h)
  · have hpu := (left_eq m u.val (pick (left m u.val))).2 fun j hj => hnew u.val (by omega) j hj
    have htu := (left_eq m u.val t).2 fun j hj => ht ⟨j, by omega⟩
    have hs := pick_spec (left m u.val)
    have hle := hs.1 t
    rw [hpu, htu] at hle
    rcases lt_or_eq_of_le hle with h | h
    · exact Or.inl h
    · refine Or.inr ⟨h.symm, ?_⟩
      have hne : pick (left m u.val) ≠ t := ht u
      rcases lt_or_gt_of_ne hne with hl | hg
      · exact hl
      · have := hs.2 t hg
        rw [hpu, htu, h] at this
        exact absurd this (lt_irrefl _)

end Cert.Select

end
-- ==== Proof.Model.lean ====
/-
  The block as a whole, in the problem's own coordinates: stream `c`, batch `b`, row `l`, feature `j`. The layers
  before and after the attention are stated once, for any context; the two ways to the context follow.
-/
module

public import proofs.«01_k».proof.Proof.Spec
public import proofs.«01_k».proof.Proof.Select

@[expose] public section

noncomputable section

namespace Cert.Spec

open Idealize.ShloMosaic Cert.Select

/-- The block's operands. -/
structure Par where
  X : Fin 2 → Fin 2 → Fin 2048 → Fin 1024 → EReal
  g1 : Fin 1024 → EReal
  b1 : Fin 1024 → EReal
  g2 : Fin 1024 → EReal
  b2 : Fin 1024 → EReal
  Wq : Fin 1024 → Fin 1024 → EReal
  bq : Fin 1024 → EReal
  Wk : Fin 1024 → Fin 1024 → EReal
  bk : Fin 1024 → EReal
  Wv : Fin 1024 → Fin 1024 → EReal
  bv : Fin 1024 → EReal
  Wo : Fin 1024 → Fin 1024 → EReal
  bo : Fin 1024 → EReal
  F1 : Fin 1024 → Fin 4096 → EReal
  f1 : Fin 4096 → EReal
  m1 : Fin 4096 → EReal
  n1 : Fin 4096 → EReal
  F2 : Fin 4096 → Fin 1024 → EReal
  f2 : Fin 1024 → EReal
  m2 : Fin 1024 → EReal
  n2 : Fin 1024 → EReal
  idx : Fin 2 → Fin 2048 → Fin 40 → Fin 2048

variable (P : Par)

/-- The normalised input. -/
def xn (c b : Fin 2) (l : Fin 2048) (j : Fin 1024) : EReal := lnorm (lit 0x44800000#32) (P.X c b l) P.g1 P.b1 j

/-- The queries of a stream. -/
def qq (c b : Fin 2) (l : Fin 2048) (j : Fin 1024) : EReal := dense (xn P c b l) P.Wq P.bq j
/-- The keys. -/
def kk (c b : Fin 2) (l : Fin 2048) (j : Fin 1024) : EReal := dense (xn P c b l) P.Wk P.bk j
/-- The values. -/
def vv (c b : Fin 2) (l : Fin 2048) (j : Fin 1024) : EReal := dense (xn P c b l) P.Wv P.bv j

/-- The head of a column. -/
def hOf (j : Fin 1024) : Fin 16 := ⟨j.val / 64, by omega⟩
/-- The place in the head of a column. -/
def eOf (j : Fin 1024) : Fin 64 := ⟨j.val % 64, by omega⟩

/-- The layers after the attention, of one row: the output map and the residual, normalised; then the two-layer
    map with its own normalisations and residual. -/
def yrow (x ctx : Fin 1024 → EReal) : Fin 1024 → EReal :=
  lnorm (lit 0x44800000#32) (fun o => dense ctx P.Wo P.bo o + x o) P.g2 P.b2
/-- The two-layer map with its normalisations and residual, of one row. -/
def mlp (y : Fin 1024 → EReal) (j : Fin 1024) : EReal :=
  y j + lnorm (lit 0x44800000#32)
    (dense (fun k => gelu (lnorm (lit 0x45800000#32) (dense y P.F1 P.f1) P.m1 P.n1 k)) P.F2 P.f2) P.m2 P.n2 j

/-- The counts of the sampled keys, and the mask they give. -/
def cnt (c : Fin 2) (l s : Fin 2048) : EReal := (((Finset.univ.filter fun u => P.idx c l u = s).card : ℝ) : EReal)
/-- The bias of a key for a query: zero if sampled, minus infinity if not. -/
def msk (c : Fin 2) (l s : Fin 2048) : EReal := if (0 : EReal) < cnt P c l s then 0 else ⊥

/-- The sparsity measure through the counts. -/
def mK (c b : Fin 2) (h : Fin 16) (l : Fin 2048) : EReal :=
  mker (qq P (other c) b l) (kk P c b) (cnt P c l) (msk P c l) h

/-- The context with the selection by repeated maximum. -/
def ctxK (c b : Fin 2) (l : Fin 2048) (j : Fin 1024) : EReal :=
  ctxker (fun u => BitVec.ofNat 32 (pick (left (mK P c b (hOf j)) u.val)).val)
    (fun r f => qq P (other c) b r (hd (hOf j) f)) (fun r f => kk P c b r (hd (hOf j) f)) (fun r f => vv P c b r (hd (hOf j) f)) l (eOf j)

/-- The block through the counts. -/
def outK (c b : Fin 2) (l : Fin 2048) (j : Fin 1024) : EReal := mlp P (yrow P (xn P c b l) (ctxK P c b l)) j

/-- The score of row `l` against row `s` in one head. -/
def score (c b : Fin 2) (h : Fin 16) (l s : Fin 2048) : EReal := ∑ e : Fin 64, qq P (other c) b l (hd h e) * kk P c b s (hd h e)

/-- The sparsity measure as the problem states it: the largest of the sampled scores, less their sum over 2048. -/
def mR (c b : Fin 2) (h : Fin 16) (l : Fin 2048) : EReal :=
  Finset.univ.fold max (lit 0xFF800000#32) (fun u : Fin 40 => score P c b h l (P.idx c l u))
    - Ideal.div (∑ u : Fin 40, score P c b h l (P.idx c l u)) (lit 0x45000000#32)

/-- The attention of row `l` in one head, at feature `e`. -/
def att (c b : Fin 2) (h : Fin 16) (l : Fin 2048) (e : Fin 64) : EReal :=
  ∑ t : Fin 2048, softmax (fun t : Fin 2048 => score P c b h l t * lit 0x3E000000#32) t * vv P c b t (hd h e)

/-- The mean of the values in one head, at feature `e`. -/
def vmean (c b : Fin 2) (h : Fin 16) (e : Fin 64) : EReal := Ideal.div (∑ t : Fin 2048, vv P c b t (hd h e)) (lit 0x45000000#32)

/-- The context for a selection of rows in every head: the attention for a selected row, the mean for another. -/
def ctxR (S : Fin 2 → Fin 2 → Fin 16 → Finset (Fin 2048)) (c b : Fin 2) (l : Fin 2048) (j : Fin 1024) : EReal :=
  if l ∈ S c b (hOf j) then att P c b (hOf j) l (eOf j) else vmean P c b (hOf j) (eOf j)

end Cert.Spec

end
-- ==== Proof.RefA.lean ====
/-
  The reference's normalisations, affine maps and two-layer map, read at an element.
-/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Tactic.CleanTypes

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

/-- A stream of the input. -/
def strm0 (x : FVec Ideal S2x2x2048x1024 .f32) : FVec Ideal S2x2048x1024 .f32 :=
  shapeCast _ (extractStridedSlice S1x2x2048x1024 ![0, 0, 0, 0] x slices_S2x2x2048x1024_S1x2x2048x1024_0_0_0_0) shapeCasts_S1x2x2048x1024_S2x2048x1024
/-- The second stream of the input. -/
def strm1 (x : FVec Ideal S2x2x2048x1024 .f32) : FVec Ideal S2x2048x1024 .f32 :=
  shapeCast _ (extractStridedSlice S1x2x2048x1024 ![1, 0, 0, 0] x slices_S2x2x2048x1024_S1x2x2048x1024_1_0_0_0) shapeCasts_S1x2x2048x1024_S2x2048x1024

/-- The entry of `strm0` at an index. -/
theorem strm0_apply (x : FVec Ideal S2x2x2048x1024 .f32) (b : Fin 2) (l : Fin 2048) (j : Fin 1024) : strm0 x (ix3 b l j) = x (ix4 0 b l j) := by
  unfold strm0
  pointwise
/-- The entry of `strm1` at an index. -/
theorem strm1_apply (x : FVec Ideal S2x2x2048x1024 .f32) (b : Fin 2) (l : Fin 2048) (j : Fin 1024) : strm1 x (ix3 b l j) = x (ix4 1 b l j) := by
  unfold strm1
  pointwise

/-- The normalisation of every row. -/
def nrm (x : FVec Ideal S2x2048x1024 .f32) (g b : FVec Ideal S1024 .f32) : FVec Ideal S2x2048x1024 .f32 :=
  addf (mulf (Host.divf (subf x (broadcastInDim S2x2048x1024 ![0, 1, 2] bcast_S2x2048x1_S2x2048x1024_0_1_2 (Host.divf (broadcastInDim S2x2048x1 ![0, 1] bcast_S2x2048_S2x2048x1_0_1 (Host.reduceAdd x (constant S_ .f32 0x00000000#32) reducesTo_S2x2048x1024_S2x2048_d2 h_S_)) (broadcastInDim S2x2048x1 ![] bcast_S_S2x2048x1 (constant S_ .f32 0x44800000#32))))) (broadcastInDim S2x2048x1024 ![0, 1, 2] bcast_S2x2048x1_S2x2048x1024_0_1_2 (Host.sqrt (addf (Host.divf (broadcastInDim S2x2048x1 ![0, 1] bcast_S2x2048_S2x2048x1_0_1 (Host.reduceAdd (mulf (subf x (broadcastInDim S2x2048x1024 ![0, 1, 2] bcast_S2x2048x1_S2x2048x1024_0_1_2 (Host.divf (broadcastInDim S2x2048x1 ![0, 1] bcast_S2x2048_S2x2048x1_0_1 (Host.reduceAdd x (constant S_ .f32 0x00000000#32) reducesTo_S2x2048x1024_S2x2048_d2 h_S_)) (broadcastInDim S2x2048x1 ![] bcast_S_S2x2048x1 (constant S_ .f32 0x44800000#32))))) (subf x (broadcastInDim S2x2048x1024 ![0, 1, 2] bcast_S2x2048x1_S2x2048x1024_0_1_2 (Host.divf (broadcastInDim S2x2048x1 ![0, 1] bcast_S2x2048_S2x2048x1_0_1 (Host.reduceAdd x (constant S_ .f32 0x00000000#32) reducesTo_S2x2048x1024_S2x2048_d2 h_S_)) (broadcastInDim S2x2048x1 ![] bcast_S_S2x2048x1 (constant S_ .f32 0x44800000#32)))))) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x3727C5AC#32)))))) (broadcastInDim S2x2048x1024 ![0, 1, 2] bcast_S1x1x1024_S2x2048x1024_0_1_2 (broadcastInDim S1x1x1024 ![2] bcast_S1024_S1x1x1024_2 g))) (broadcastInDim S2x2048x1024 ![0, 1, 2] bcast_S1x1x1024_S2x2048x1024_0_1_2 (broadcastInDim S1x1x1024 ![2] bcast_S1024_S1x1x1024_2 b))

/-- The entry of `nrm` at an index. -/
theorem nrm_apply (x : FVec Ideal S2x2048x1024 .f32) (g b : FVec Ideal S1024 .f32) (n : Fin 2) (l : Fin 2048) (j : Fin 1024) :
    nrm x g b (ix3 n l j) = lnorm (lit 0x44800000#32) (fun k => x (ix3 n l k)) (fun k => g (ix1 k)) (fun k => b (ix1 k)) j := by
  unfold nrm lnorm mean
  clean_types
  pointwise

/-- The normalisation of every row of the wide layer. -/
def nrm4 (x : FVec Ideal S2x2048x4096 .f32) (g b : FVec Ideal S4096 .f32) : FVec Ideal S2x2048x4096 .f32 :=
  addf (mulf (Host.divf (subf x (broadcastInDim S2x2048x4096 ![0, 1, 2] bcast_S2x2048x1_S2x2048x4096_0_1_2 (Host.divf (broadcastInDim S2x2048x1 ![0, 1] bcast_S2x2048_S2x2048x1_0_1 (Host.reduceAdd x (constant S_ .f32 0x00000000#32) reducesTo_S2x2048x4096_S2x2048_d2 h_S_)) (broadcastInDim S2x2048x1 ![] bcast_S_S2x2048x1 (constant S_ .f32 0x45800000#32))))) (broadcastInDim S2x2048x4096 ![0, 1, 2] bcast_S2x2048x1_S2x2048x4096_0_1_2 (Host.sqrt (addf (Host.divf (broadcastInDim S2x2048x1 ![0, 1] bcast_S2x2048_S2x2048x1_0_1 (Host.reduceAdd (mulf (subf x (broadcastInDim S2x2048x4096 ![0, 1, 2] bcast_S2x2048x1_S2x2048x4096_0_1_2 (Host.divf (broadcastInDim S2x2048x1 ![0, 1] bcast_S2x2048_S2x2048x1_0_1 (Host.reduceAdd x (constant S_ .f32 0x00000000#32) reducesTo_S2x2048x4096_S2x2048_d2 h_S_)) (broadcastInDim S2x2048x1 ![] bcast_S_S2x2048x1 (constant S_ .f32 0x45800000#32))))) (subf x (broadcastInDim S2x2048x4096 ![0, 1, 2] bcast_S2x2048x1_S2x2048x4096_0_1_2 (Host.divf (broadcastInDim S2x2048x1 ![0, 1] bcast_S2x2048_S2x2048x1_0_1 (Host.reduceAdd x (constant S_ .f32 0x00000000#32) reducesTo_S2x2048x4096_S2x2048_d2 h_S_)) (broadcastInDim S2x2048x1 ![] bcast_S_S2x2048x1 (constant S_ .f32 0x45800000#32)))))) (constant S_ .f32 0x00000000#32) reducesTo_S2x2048x4096_S2x2048_d2 h_S_)) (broadcastInDim S2x2048x1 ![] bcast_S_S2x2048x1 (constant S_ .f32 0x45800000#32))) (broadcastInDim S2x2048x1 ![] bcast_S_S2x2048x1 (constant S_ .f32 0x3727C5AC#32)))))) (broadcastInDim S2x2048x4096 ![0, 1, 2] bcast_S1x1x4096_S2x2048x4096_0_1_2 (broadcastInDim S1x1x4096 ![2] bcast_S4096_S1x1x4096_2 g))) (broadcastInDim S2x2048x4096 ![0, 1, 2] bcast_S1x1x4096_S2x2048x4096_0_1_2 (broadcastInDim S1x1x4096 ![2] bcast_S4096_S1x1x4096_2 b))

/-- The entry of `nrm4` at an index. -/
theorem nrm4_apply (x : FVec Ideal S2x2048x4096 .f32) (g b : FVec Ideal S4096 .f32) (n : Fin 2) (l : Fin 2048) (j : Fin 4096) :
    nrm4 x g b (ix3 n l j) = lnorm (lit 0x45800000#32) (fun k => x (ix3 n l k)) (fun k => g (ix1 k)) (fun k => b (ix1 k)) j := by
  unfold nrm4 lnorm mean
  clean_types
  pointwise

/-- The affine map of every row, its columns parted into heads. -/
def proj (x : FVec Ideal S2x2048x1024 .f32) (w : FVec Ideal S1024x1024 .f32) (b : FVec Ideal S1024 .f32) : FVec Ideal S2x16x2048x64 .f32 :=
  transpose S2x16x2048x64 [0, 2, 1, 3] (shapeCast _ (addf (Host.dotGeneral dot_S2x2048x1024_S1024x1024_S2x2048x1024_2_0_01_1_n_n none x w) (broadcastInDim S2x2048x1024 ![0, 1, 2] bcast_S1x1x1024_S2x2048x1024_0_1_2 (broadcastInDim S1x1x1024 ![2] bcast_S1024_S1x1x1024_2 b))) shapeCasts_S2x2048x1024_S2x2048x16x64) transposes_S2x2048x16x64_S2x16x2048x64_0_2_1_3

/-- The entry of `proj` at an index. -/
theorem proj_apply (x : FVec Ideal S2x2048x1024 .f32) (w : FVec Ideal S1024x1024 .f32) (b : FVec Ideal S1024 .f32) (n : Fin 2) (h : Fin 16) (l : Fin 2048) (e : Fin 64) :
    proj x w b (ix4 n h l e) = dense (fun k => x (ix3 n l k)) (fun k j => w (ix2 k j)) (fun j => b (ix1 j)) (hd h e) := by
  unfold proj dense
  clean_types
  pointwise
  rfl

/-- The first map of the two-layer map. -/
def fc1 (x : FVec Ideal S2x2048x1024 .f32) (w : FVec Ideal S1024x4096 .f32) (b : FVec Ideal S4096 .f32) : FVec Ideal S2x2048x4096 .f32 :=
  addf (Host.dotGeneral dot_S2x2048x1024_S1024x4096_S2x2048x4096_2_0_01_1_n_n none x w) (broadcastInDim S2x2048x4096 ![0, 1, 2] bcast_S1x1x4096_S2x2048x4096_0_1_2 (broadcastInDim S1x1x4096 ![2] bcast_S4096_S1x1x4096_2 b))

/-- The entry of `fc1` at an index. -/
theorem fc1_apply (x : FVec Ideal S2x2048x1024 .f32) (w : FVec Ideal S1024x4096 .f32) (b : FVec Ideal S4096 .f32) (n : Fin 2) (l : Fin 2048) (j : Fin 4096) :
    fc1 x w b (ix3 n l j) = dense (fun k => x (ix3 n l k)) (fun k j => w (ix2 k j)) (fun j => b (ix1 j)) j := by
  unfold fc1 dense
  clean_types
  pointwise

/-- Division by the root of two is multiplication by its inverse. -/
theorem half_root (t : EReal) : Ideal.div t (Ideal.sqrt (lit 0x40000000#32)) = t * (((Real.sqrt 2)⁻¹ : ℝ) : EReal) := by
  have h2 : lit 0x40000000#32 = ((2 : ℝ) : EReal) := by
    simp [lit, Ideal.ofBits, Ideal.ieee, -EReal.coe_mul]
    norm_num
  have hs : Ideal.sqrt ((2 : ℝ) : EReal) = ((Real.sqrt 2 : ℝ) : EReal) := by
    show (if (2 : ℝ) < 0 then (⊥ : EReal) else _) = _
    rw [if_neg (by norm_num)]
  have hp : (0 : ℝ) < Real.sqrt 2 := Real.sqrt_pos.2 (by norm_num)
  rw [h2, hs, Ideal.div, if_neg (by exact_mod_cast hp.ne'), EReal.coe_inv]

/-- The second map, of the activated values. -/
def fc2 (x : FVec Ideal S2x2048x4096 .f32) (w : FVec Ideal S4096x1024 .f32) (b : FVec Ideal S1024 .f32) : FVec Ideal S2x2048x1024 .f32 :=
  addf (Host.dotGeneral dot_S2x2048x4096_S4096x1024_S2x2048x1024_2_0_01_1_n_n none (mulf (mulf (broadcastInDim S2x2048x4096 ![] bcast_S_S2x2048x4096 (constant S_ .f32 0x3F000000#32)) x) (addf (broadcastInDim S2x2048x4096 ![] bcast_S_S2x2048x4096 (constant S_ .f32 0x3F800000#32)) (Host.erf (Host.divf x (broadcastInDim S2x2048x4096 ![] bcast_S_S2x2048x4096 (id (Host.sqrt (constant S_ .f32 0x40000000#32)))))))) w) (broadcastInDim S2x2048x1024 ![0, 1, 2] bcast_S1x1x1024_S2x2048x1024_0_1_2 (broadcastInDim S1x1x1024 ![2] bcast_S1024_S1x1x1024_2 b))

/-- The entry of `fc2` at an index. -/
theorem fc2_apply (x : FVec Ideal S2x2048x4096 .f32) (w : FVec Ideal S4096x1024 .f32) (b : FVec Ideal S1024 .f32) (n : Fin 2) (l : Fin 2048) (j : Fin 1024) :
    fc2 x w b (ix3 n l j) = dense (fun k => gelu (x (ix3 n l k))) (fun k j => w (ix2 k j)) (fun j => b (ix1 j)) j := by
  unfold fc2 dense
  clean_types
  pointwise
  refine congrArg (fun z => z + b (ix1 j)) (Finset.sum_congr rfl fun k _ => congrArg (fun z => z * w (ix2 k j)) ?_)
  show Ideal.ofBits FTy.f32 1056964608#32 * x (ix3 n l k) * (1 + Ideal.erf (Ideal.div (x (ix3 n l k)) (Ideal.sqrt (lit 0x40000000#32)))) = _
  rw [half_root, gelu, mul_comm (Ideal.ofBits FTy.f32 1056964608#32)]

end Cert.Proof.Ref

end
-- ==== Proof.RefM.lean ====
/-
  The maximum and the sum along the last axis of a rank 4 tensor, read at an element.
-/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Tactic.CleanTypes
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

open Cert.Select

/-- The maximum along the last axis of a rank 4 tensor, at an index. -/
theorem reduceMax_last {n0 n1 n2 n3 : Nat} {u : Shape} (z : FVec Ideal ⟨4, ![n0, n1, n2, n3]⟩ .f32) (init : FVec Ideal u .f32)
    (r : (⟨4, ![n0, n1, n2, n3]⟩ : Shape).ReducesTo [3] ⟨3, ![n0, n1, n2]⟩) (hu : 0 < u.numel) (b : Fin n0) (h : Fin n1) (l : Fin n2) :
    Host.reduce FloatOps.maximumf z init r hu (ix3 b h l)
      = Finset.univ.fold max (init (Shape.Idx.first hu)) (fun k : Fin n3 => z (ix4 b h l k)) := by
  refine (Host.reduce_eq_fold (f := (max : EReal → EReal → EReal)) z init r hu (ix3 b h l)).trans ?_
  exact r.fold_fiber_r4_a3 (ix3 b h l) max (init (Shape.Idx.first hu)) z

/-- The sum along the last axis of a rank 4 tensor, at an index. -/
theorem reduceAdd_last {n0 n1 n2 n3 : Nat} {u : Shape} (z : FVec Ideal ⟨4, ![n0, n1, n2, n3]⟩ .f32) (init : FVec Ideal u .f32)
    (r : (⟨4, ![n0, n1, n2, n3]⟩ : Shape).ReducesTo [3] ⟨3, ![n0, n1, n2]⟩) (hu : 0 < u.numel) (b : Fin n0) (h : Fin n1) (l : Fin n2) :
    Host.reduceAdd z init r hu (ix3 b h l)
      = init (Shape.Idx.first hu) + ∑ k : Fin n3, z (ix4 b h l k) :=
  Ideal.hostReduceAdd_r4_a3 r z (init (Shape.Idx.first hu)) (ix3 b h l)

end Cert.Proof.Ref

end
-- ==== Proof.RefB.lean ====
/-
  The reference's sampled scores and the measure that they give, read at an element.
-/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Tactic.CleanTypes
public import Idealize.ShloMosaic.Lib.Routing.OpsPair
public import Idealize.ShloMosaic.Lib.Routing.OpsSet
public import proofs.«01_k».proof.Proof.RefM

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

open Cert.Select

/-- A stream's sampled keys. -/
def smp0 (x : IVec S2x2048x40 32) : IVec S2048x40 32 :=
  shapeCast _ (extractStridedSlice S1x2048x40 ![0, 0, 0] x slices_S2x2048x40_S1x2048x40_0_0_0) shapeCasts_S1x2048x40_S2048x40
/-- The samples of the second stream. -/
def smp1 (x : IVec S2x2048x40 32) : IVec S2048x40 32 :=
  shapeCast _ (extractStridedSlice S1x2048x40 ![1, 0, 0] x slices_S2x2048x40_S1x2048x40_1_0_0) shapeCasts_S1x2048x40_S2048x40

/-- The entry of `smp0` at an index. -/
theorem smp0_apply (x : IVec S2x2048x40 32) (l : Fin 2048) (u : Fin 40) : smp0 x (ix2 l u) = x (ix3 0 l u) := by
  unfold smp0
  pointwise
/-- The entry of `smp1` at an index. -/
theorem smp1_apply (x : IVec S2x2048x40 32) (l : Fin 2048) (u : Fin 40) : smp1 x (ix2 l u) = x (ix3 1 l u) := by
  unfold smp1
  pointwise

/-- The place a sampled key is read at: a negative place counts from the end. -/
def wrapS (s : IVec S2048x40 32) : IVec S2048x40x1 32 :=
  broadcastInDim S2048x40x1 ![0, 1] bcast_S2048x40_S2048x40x1_0_1 (select (cmpi .slt s (broadcastInDim S2048x40 ![] bcast_S_S2048x40 (constantI S_ 32 0#32))) (addi s (broadcastInDim S2048x40 ![] bcast_S_S2048x40 (constantI S_ 32 2048#32))) s)

/-- A sampled key, wrapped from the end where negative, is itself. -/
theorem wrapS_apply (s : IVec S2048x40 32) (l : Fin 2048) (u : Fin 40) (z : Fin 1) (f : Fin 2048) (h : s (ix2 l u) = BitVec.ofNat 32 f.val) :
    wrapS s (ix3 l u z) = BitVec.ofNat 32 f.val := by
  unfold wrapS
  pointwise
  rw [h]
  exact Routing.wrap_of_lt _ _ (by rw [BitVec.toNat_ofNat]; have := f.isLt; omega)

/-- The scores of every row against its sampled keys. -/
def smpl (q k : FVec Ideal S2x16x2048x64 .f32) (s : IVec S2048x40 32) : FVec Ideal S2x16x2048x40 .f32 :=
  Host.dotGeneral dot_S2x16x2048x64_S2x16x2048x40x64_S2x16x2048x40_3_4_n_3_012_012 none q (Host.gather gather_S2x16x2048x64_S2048x40x1_S2x16x2048x40x64_014_2_n_n_2_2_216164 k (wrapS s))

/-- The sampled keys, read. -/
theorem gatherS_apply (k : FVec Ideal S2x16x2048x64 .f32) (w : IVec S2048x40x1 32) (b : Fin 2) (h : Fin 16) (l : Fin 2048) (u : Fin 40) (e : Fin 64) (f : Fin 2048)
    (hw : w (ix3 l u 0) = BitVec.ofNat 32 f.val) :
    Host.gather gather_S2x16x2048x64_S2048x40x1_S2x16x2048x40x64_014_2_n_n_2_2_216164 k w (ix5 b h l u e) = k (ix4 b h f e) := by
  unfold Host.gather
  refine congrArg k (funext fun a => Fin.ext ?_)
  match a with
  | ⟨0, _⟩ => show 0 + 0 + b.val = b.val; omega
  | ⟨1, _⟩ => show 0 + 0 + h.val = h.val; omega
  | ⟨2, _⟩ =>
    have hi : gather_S2x16x2048x64_S2048x40x1_S2x16x2048x40x64_014_2_n_n_2_2_216164.siIdx (ix5 b h l u e) ⟨0, by decide⟩ = ix3 l u 0 := by
      funext p
      match p with
      | ⟨0, _⟩ => rfl
      | ⟨1, _⟩ => rfl
      | ⟨2, _⟩ => rfl
    show min (w (gather_S2x16x2048x64_S2048x40x1_S2x16x2048x40x64_014_2_n_n_2_2_216164.siIdx (ix5 b h l u e) ⟨0, by decide⟩)).toInt.toNat (2048 - 1) + 0 + 0 = f.val
    rw [hi, hw, BitVec.toInt_eq_toNat_of_lt (by rw [BitVec.toNat_ofNat]; have := f.isLt; omega), BitVec.toNat_ofNat, Int.toNat_natCast]
    have := f.isLt
    omega
  | ⟨3, _⟩ => show 0 + 0 + e.val = e.val; omega

/-- The entry of `smpl` at an index. -/
theorem smpl_apply (q k : FVec Ideal S2x16x2048x64 .f32) (s : IVec S2048x40 32) (f : Fin 2048 → Fin 40 → Fin 2048) (hs : ∀ l u, s (ix2 l u) = BitVec.ofNat 32 (f l u).val)
    (b : Fin 2) (h : Fin 16) (l : Fin 2048) (u : Fin 40) : smpl q k s (ix4 b h l u) = ∑ e : Fin 64, q (ix4 b h l e) * k (ix4 b h (f l u) e) := by
  unfold smpl
  pointwise
  refine Finset.sum_congr rfl fun e _ => ?_
  rw [gatherS_apply k (wrapS s) b h l u e (f l u) (wrapS_apply s l u 0 _ (hs l u))]

/-- The difference of a maximum and a sum over a count, at an index. -/
theorem gap_apply (m a : FVec Ideal S2x16x2048 .f32) (i : S2x16x2048.Idx) :
    subf m (Host.divf a (broadcastInDim S2x16x2048 ![] bcast_S_S2x16x2048 (constant S_ .f32 0x45000000#32))) i
      = m i - Ideal.div (a i) (lit 0x45000000#32) := rfl

/-- The sparsity measure of every row. -/
def meas (z : FVec Ideal S2x16x2048x40 .f32) : FVec Ideal S2x16x2048 .f32 :=
  subf (Host.reduce FloatOps.maximumf z (constant S_ .f32 0xFF800000#32) reducesTo_S2x16x2048x40_S2x16x2048_d3 h_S_) (Host.divf (Host.reduceAdd z (constant S_ .f32 0x00000000#32) reducesTo_S2x16x2048x40_S2x16x2048_d3 h_S_) (broadcastInDim S2x16x2048 ![] bcast_S_S2x16x2048 (constant S_ .f32 0x45000000#32)))

/-- The entry of `meas` at an index. -/
theorem meas_apply (z : FVec Ideal S2x16x2048x40 .f32) (b : Fin 2) (h : Fin 16) (l : Fin 2048) :
    meas z (ix3 b h l) = Finset.univ.fold max (lit 0xFF800000#32) (fun u : Fin 40 => z (ix4 b h l u))
      - Ideal.div (∑ u : Fin 40, z (ix4 b h l u)) (lit 0x45000000#32) := by
  have h0 : constant (F := Ideal) S_ .f32 0x00000000#32 (Shape.Idx.first h_S_) = (0 : EReal) := by
    show Ideal.ofBits FTy.f32 0#32 = 0
    simp [Ideal.ofBits, Ideal.ieee]
  have h1 := reduceMax_last z (constant S_ .f32 0xFF800000#32) reducesTo_S2x16x2048x40_S2x16x2048_d3 h_S_ b h l
  have h2 := reduceAdd_last z (constant S_ .f32 0x00000000#32) reducesTo_S2x16x2048x40_S2x16x2048_d3 h_S_ b h l
  rw [h0, zero_add] at h2
  exact (gap_apply _ _ _).trans (congrArg₂ (fun x y => x - Ideal.div y (lit 0x45000000#32)) h1 h2)

end Cert.Proof.Ref

end
-- ==== Proof.RefG.lean ====
/-
  The selected rows, as the reference reads them.
-/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Tactic.CleanTypes
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

open Cert.Select

/-- The selected rows, read. -/
theorem gatherT_apply (k : FVec Ideal S2x16x2048x64 .f32) (w : IVec S2x16x40x1 32) (b : Fin 2) (h : Fin 16) (u : Fin 40) (e : Fin 64) (f : Fin 2048)
    (hw : w (ix4 b h u 0) = BitVec.ofNat 32 f.val) :
    Host.gather gather_S2x16x2048x64_S2x16x40x1_S2x16x40x64_3_2_01_01_2_3_11164 k w (ix4 b h u e) = k (ix4 b h f e) := by
  unfold Host.gather
  refine congrArg k (funext fun a => Fin.ext ?_)
  match a with
  | ⟨0, _⟩ => show 0 + b.val + 0 = b.val; omega
  | ⟨1, _⟩ => show 0 + h.val + 0 = h.val; omega
  | ⟨2, _⟩ =>
    have hi : gather_S2x16x2048x64_S2x16x40x1_S2x16x40x64_3_2_01_01_2_3_11164.siIdx (ix4 b h u e) ⟨0, by decide⟩ = ix4 b h u 0 := by
      funext p
      match p with
      | ⟨0, _⟩ => rfl
      | ⟨1, _⟩ => rfl
      | ⟨2, _⟩ => rfl
      | ⟨3, _⟩ => rfl
    show min (w (gather_S2x16x2048x64_S2x16x40x1_S2x16x40x64_3_2_01_01_2_3_11164.siIdx (ix4 b h u e) ⟨0, by decide⟩)).toInt.toNat (2048 - 1) + 0 + 0 = f.val
    rw [hi, hw, BitVec.toInt_eq_toNat_of_lt (by rw [BitVec.toNat_ofNat]; have := f.isLt; omega), BitVec.toNat_ofNat, Int.toNat_natCast]
    have := f.isLt
    omega
  | ⟨3, _⟩ => show 0 + 0 + e.val = e.val; omega

end Cert.Proof.Ref

end
-- ==== Proof.RefC.lean ====
/-
  The reference's attention of the selected rows, and its output map, read at an element.
-/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Tactic.CleanTypes
public import Idealize.ShloMosaic.Lib.Routing.OpsPair
public import Idealize.ShloMosaic.Lib.Routing.OpsSet
public import Idealize.ShloMosaic.Lib.StableHlo.Predicate
public import proofs.«01_k».proof.Proof.RefG
public import proofs.«01_k».proof.Proof.RefM

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

open Cert.Select

/-- The scaled scores of the selected rows. -/
def logit (q k : FVec Ideal S2x16x2048x64 .f32) (w : IVec S2x16x40x1 32) : FVec Ideal S2x16x40x2048 .f32 :=
  mulf (Host.dotGeneral dot_S2x16x40x64_S2x16x2048x64_S2x16x40x2048_3_3_2_2_01_01 none (select (broadcastInDim S2x16x40x64 ![0, 1, 2] bcast_S2x16x40_S2x16x40x64_0_1_2 (Host.reduce IntOp.andi (andi (cmpi .sge w (broadcastInDim S2x16x40x1 ![] bcast_S_S2x16x40x1 (constantI S_ 32 0#32))) (cmpi .sle w (broadcastInDim S2x16x40x1 ![0, 1, 2, 3] bcast_S1x1x1x1_S2x16x40x1_0_1_2_3 (broadcastInDim S1x1x1x1 ![3] bcast_S1_S1x1x1x1_3 (constantI S1 32 2047#32))))) (constantI S_ 1 1#1) reducesTo_S2x16x40x1_S2x16x40_d3 h_S_)) (Host.gather gather_S2x16x2048x64_S2x16x40x1_S2x16x40x64_3_2_01_01_2_3_11164 q w) (broadcastInDim S2x16x40x64 ![] bcast_S_S2x16x40x64 (constant S_ .f32 0x7FC00000#32))) k) (broadcastInDim S2x16x40x2048 ![] bcast_S_S2x16x40x2048 (constant S_ .f32 0x3E000000#32))

/-- The entry of `logit` at an index. -/
theorem logit_apply (q k : FVec Ideal S2x16x2048x64 .f32) (w : IVec S2x16x40x1 32) (b : Fin 2) (h : Fin 16) (u : Fin 40) (t : Fin 2048) (f : Fin 2048)
    (hw : w (ix4 b h u 0) = BitVec.ofNat 32 f.val) :
    logit q k w (ix4 b h u t) = (∑ e : Fin 64, q (ix4 b h f e) * k (ix4 b h t e)) * lit 0x3E000000#32 := by
  unfold logit
  clean_types
  pointwise
  refine congrArg (fun z => z * Ideal.ofBits FTy.f32 0x3E000000#32) (Finset.sum_congr rfl fun e _ => congrArg (fun z => z * k (ix4 b h t e)) ?_)
  rw [gatherT_apply q w b h u e f hw]
  have hf := f.isLt
  have ht : (w (ix4 b h u 0)).toNat = f.val := by rw [hw, BitVec.toNat_ofNat]; omega
  have h1 : IntOp.cmpi CmpIPredicate.sge (w (ix4 b h u 0)) 0#32 = 1#1 := by
    rw [Predicate.sge_iff_toNat (by omega) (by decide)]; exact Nat.zero_le _
  have h2 : IntOp.cmpi CmpIPredicate.sle (w (ix4 b h u 0)) 2047#32 = 1#1 := by
    rw [Predicate.sle_iff_toNat (by omega) (by decide), ht]; show f.val ≤ 2047; omega
  have h3 : (Finset.univ : Finset (Fin 1)) = {(0 : Fin 1)} := by decide
  rw [h3, Finset.fold_singleton, h1, h2]
  rfl

/-- The exponentials of the scores `z` shifted by the row maxima `m`. -/
def expo (z : FVec Ideal S2x16x40x2048 .f32) (m : FVec Ideal S2x16x40 .f32) : FVec Ideal S2x16x40x2048 .f32 :=
  Host.exp (subf z (broadcastInDim S2x16x40x2048 ![0, 1, 2, 3] bcast_S2x16x40x1_S2x16x40x2048_0_1_2_3 (broadcastInDim S2x16x40x1 ![0, 1, 2] bcast_S2x16x40_S2x16x40x1_0_1_2 (maximumf (broadcastInDim S2x16x40 ![] bcast_S_S2x16x40 (constant S_ .f32 0xFF800000#32)) m))))

/-- The entry of `expo` at an index. -/
theorem expo_apply (z : FVec Ideal S2x16x40x2048 .f32) (m : FVec Ideal S2x16x40 .f32) (b : Fin 2) (h : Fin 16) (u : Fin 40) (t : Fin 2048) :
    expo z m (ix4 b h u t) = Ideal.exp (z (ix4 b h u t) - m (ix3 b h u)) := by
  unfold expo
  clean_types
  pointwise
  have hb : Ideal.ofBits FTy.f32 4286578688#32 = (⊥ : EReal) := by simp [Ideal.ofBits, Ideal.ieee]
  rw [hb, max_eq_right bot_le]

/-- The mean of the values `v` weighted by `x` over its row sums `d`. -/
def wmean (x : FVec Ideal S2x16x40x2048 .f32) (d : FVec Ideal S2x16x40 .f32) (v : FVec Ideal S2x16x2048x64 .f32) : FVec Ideal S2x16x40x64 .f32 :=
  Host.dotGeneral dot_S2x16x40x2048_S2x16x2048x64_S2x16x40x64_3_2_2_3_01_01 none (Host.divf x (broadcastInDim S2x16x40x2048 ![0, 1, 2, 3] bcast_S2x16x40x1_S2x16x40x2048_0_1_2_3 (broadcastInDim S2x16x40x1 ![0, 1, 2] bcast_S2x16x40_S2x16x40x1_0_1_2 d))) v

/-- The entry of `wmean` at an index. -/
theorem wmean_apply (x : FVec Ideal S2x16x40x2048 .f32) (d : FVec Ideal S2x16x40 .f32) (v : FVec Ideal S2x16x2048x64 .f32) (b : Fin 2) (h : Fin 16) (u : Fin 40) (e : Fin 64) :
    wmean x d v (ix4 b h u e) = ∑ t : Fin 2048, Ideal.div (x (ix4 b h u t)) (d (ix3 b h u)) * v (ix4 b h t e) := by
  unfold wmean
  clean_types
  pointwise

/-- The attention of the selected rows. -/
def attn (z : FVec Ideal S2x16x40x2048 .f32) (v : FVec Ideal S2x16x2048x64 .f32) : FVec Ideal S2x16x40x64 .f32 :=
  Host.dotGeneral dot_S2x16x40x2048_S2x16x2048x64_S2x16x40x64_3_2_2_3_01_01 none (Host.divf (Host.exp (subf z (broadcastInDim S2x16x40x2048 ![0, 1, 2, 3] bcast_S2x16x40x1_S2x16x40x2048_0_1_2_3 (broadcastInDim S2x16x40x1 ![0, 1, 2] bcast_S2x16x40_S2x16x40x1_0_1_2 (maximumf (broadcastInDim S2x16x40 ![] bcast_S_S2x16x40 (constant S_ .f32 0xFF800000#32)) (Host.reduce FloatOps.maximumf z (constant S_ .f32 0xFF800000#32) reducesTo_S2x16x40x2048_S2x16x40_d3 h_S_)))))) (broadcastInDim S2x16x40x2048 ![0, 1, 2, 3] bcast_S2x16x40x1_S2x16x40x2048_0_1_2_3 (broadcastInDim S2x16x40x1 ![0, 1, 2] bcast_S2x16x40_S2x16x40x1_0_1_2 (Host.reduceAdd (Host.exp (subf z (broadcastInDim S2x16x40x2048 ![0, 1, 2, 3] bcast_S2x16x40x1_S2x16x40x2048_0_1_2_3 (broadcastInDim S2x16x40x1 ![0, 1, 2] bcast_S2x16x40_S2x16x40x1_0_1_2 (maximumf (broadcastInDim S2x16x40 ![] bcast_S_S2x16x40 (constant S_ .f32 0xFF800000#32)) (Host.reduce FloatOps.maximumf z (constant S_ .f32 0xFF800000#32) reducesTo_S2x16x40x2048_S2x16x40_d3 h_S_)))))) (constant S_ .f32 0x00000000#32) reducesTo_S2x16x40x2048_S2x16x40_d3 h_S_)))) v

/-- The entry of `attn` at an index. -/
theorem attn_apply (z : FVec Ideal S2x16x40x2048 .f32) (v : FVec Ideal S2x16x2048x64 .f32) (b : Fin 2) (h : Fin 16) (u : Fin 40) (e : Fin 64) :
    attn z v (ix4 b h u e) = ∑ t : Fin 2048, softmax (fun t => z (ix4 b h u t)) t * v (ix4 b h t e) := by
  have h0 : constant (F := Ideal) S_ .f32 0x00000000#32 (Shape.Idx.first h_S_) = (0 : EReal) := by
    show Ideal.ofBits FTy.f32 0#32 = 0
    simp [Ideal.ofBits, Ideal.ieee]
  have hm := reduceMax_last z (constant S_ .f32 0xFF800000#32) reducesTo_S2x16x40x2048_S2x16x40_d3 h_S_ b h u
  unfold attn
  generalize Host.reduce FloatOps.maximumf z (constant S_ .f32 0xFF800000#32) reducesTo_S2x16x40x2048_S2x16x40_d3 h_S_ = m at hm ⊢
  have hd := reduceAdd_last (expo z m) (constant S_ .f32 0x00000000#32) reducesTo_S2x16x40x2048_S2x16x40_d3 h_S_ b h u
  rw [h0, zero_add] at hd
  simp only [expo_apply, hm] at hd
  refine (wmean_apply (expo z m) (Host.reduceAdd (expo z m) (constant S_ .f32 0x00000000#32) reducesTo_S2x16x40x2048_S2x16x40_d3 h_S_) v b h u e).trans ?_
  rw [hd]
  simp only [expo_apply, hm]
  rfl

/-- The output map of a context, with the residual. -/
def outp (x : FVec Ideal S2x2048x1024 .f32) (c : FVec Ideal S2x16x2048x64 .f32) (w : FVec Ideal S1024x1024 .f32) (b : FVec Ideal S1024 .f32) : FVec Ideal S2x2048x1024 .f32 :=
  addf x (addf (Host.dotGeneral dot_S2x2048x1024_S1024x1024_S2x2048x1024_2_0_01_1_n_n none (shapeCast _ (transpose S2x2048x16x64 [0, 2, 1, 3] c transposes_S2x16x2048x64_S2x2048x16x64_0_2_1_3) shapeCasts_S2x2048x16x64_S2x2048x1024) w) (broadcastInDim S2x2048x1024 ![0, 1, 2] bcast_S1x1x1024_S2x2048x1024_0_1_2 (broadcastInDim S1x1x1024 ![2] bcast_S1024_S1x1x1024_2 b)))

/-- The entry of `outp` at an index. -/
theorem outp_apply (x : FVec Ideal S2x2048x1024 .f32) (c : FVec Ideal S2x16x2048x64 .f32) (w : FVec Ideal S1024x1024 .f32) (b : FVec Ideal S1024 .f32) (n : Fin 2) (l : Fin 2048) (j : Fin 1024) :
    outp x c w b (ix3 n l j) = x (ix3 n l j) + dense (fun k => c (ix4 n (hOf k) l (eOf k))) (fun k j => w (ix2 k j)) (fun j => b (ix1 j)) j := by
  unfold outp dense
  clean_types
  pointwise
  rfl

end Cert.Proof.Ref

end
-- ==== Proof.RefT.lean ====
/-
  The rows the reference selects: those of the greatest measures.
-/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Tactic.CleanTypes
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

open Cert.Select

/-- The rows of the greatest measures. -/
def tk (m : FVec Ideal S2x16x2048 .f32) : IVec S2x16x40 32 :=
  (Host.topK S2x16x40 2 (FloatOps.cmpfTotal .gt) m sliceFits_S2x16x2048_S2x16x40).2

/-- A stable sort of every row by its measure, the greater first, carrying the second operand along. -/
def srt (m : FVec Ideal S2x16x2048 .f32) (y : IVec S2x16x2048 32) : IVec S2x16x2048 32 :=
  (Host.sort2 S2x16x2048 2 (fun l r : Ideal .f32 × BitVec 32 => FloatOps.cmpfTotal (F := Ideal) (φ := .f32) .gt l.1 r.1) m y).2

/-- An index with its last coordinate replaced. -/
theorem along_apply (b : Fin 2) (h : Fin 16) (s k : Fin 2048) : Shape.Idx.along (s := S2x16x2048) (ix3 b h s) (2 : Fin 3) k = ix3 b h k := by
  funext a
  match a with
  | ⟨0, _⟩ => rfl
  | ⟨1, _⟩ => rfl
  | ⟨2, _⟩ => rfl

/-- The sorted rows of one head, at a place. -/
theorem srt_apply (m : FVec Ideal S2x16x2048 .f32) (y : IVec S2x16x2048 32) (b : Fin 2) (h : Fin 16) (s : Fin 2048) :
    srt m y (ix3 b h s) = y (ix3 b h (sortedFrom (fun p q => decide (m (ix3 b h q) < m (ix3 b h p))) s)) := by
  unfold srt Host.sort2
  rw [dif_pos (by decide)]
  refine (congrArg y (along_apply b h s _)).trans (congrArg (fun g => y (ix3 b h (sortedFrom g s))) (funext fun p => funext fun q => ?_))
  refine Eq.trans (congrArg₂ (fun c d => FloatOps.cmpfTotal (F := Ideal) (φ := .f32) .gt (m c) (m d) == 1#1) (along_apply b h s p) (along_apply b h s q)) ?_
  show (BitVec.ofBool (decide (m (ix3 b h q) < m (ix3 b h p))) == 1#1) = _
  cases decide (m (ix3 b h q) < m (ix3 b h p)) <;> rfl

/-- The entry of `slice` at an index. -/
theorem slice_apply (v : IVec S2x16x2048 32) (b : Fin 2) (h : Fin 16) (u : Fin 40) :
    extractStridedSlice S2x16x40 (fun _ => 0) v sliceFits_S2x16x2048_S2x16x40 (ix3 b h u) = v (ix3 b h (u.castLE (by omega : 40 ≤ 2048))) := by
  unfold extractStridedSlice
  refine congrArg v (funext fun a => Fin.ext ?_)
  match a with
  | ⟨0, _⟩ => show 0 + b.val = b.val; omega
  | ⟨1, _⟩ => show 0 + h.val = h.val; omega
  | ⟨2, _⟩ => show 0 + u.val = u.val; omega

/-- The chosen rows: the first forty of the rows sorted by falling measure. -/
theorem tk_apply (m : FVec Ideal S2x16x2048 .f32) (b : Fin 2) (h : Fin 16) (u : Fin 40) :
    tk m (ix3 b h u) = BitVec.ofNat 32 (sortedFrom (fun x y => decide (m (ix3 b h y) < m (ix3 b h x))) (u.castLE (by omega : 40 ≤ 2048))).val := by
  refine (slice_apply (srt m fun i => if hd : 2 < S2x16x2048.rank then iotaInDim S2x16x2048 32 ⟨2, hd⟩ i else 0#32) b h u).trans ?_
  rw [srt_apply, dif_pos (by decide)]
  rfl

/-- The place a selected row is read at. -/
def wrapT (i : IVec S2x16x40 32) : IVec S2x16x40x1 32 :=
  select (cmpi .slt (broadcastInDim S2x16x40x1 ![0, 1, 2] bcast_S2x16x40_S2x16x40x1_0_1_2 i) (broadcastInDim S2x16x40x1 ![] bcast_S_S2x16x40x1 (constantI S_ 32 0#32))) (addi (broadcastInDim S2x16x40x1 ![0, 1, 2] bcast_S2x16x40_S2x16x40x1_0_1_2 i) (broadcastInDim S2x16x40x1 ![] bcast_S_S2x16x40x1 (constantI S_ 32 2048#32))) (broadcastInDim S2x16x40x1 ![0, 1, 2] bcast_S2x16x40_S2x16x40x1_0_1_2 i)

/-- A chosen row, wrapped from the end where negative, is itself. -/
theorem wrapT_apply (i : IVec S2x16x40 32) (b : Fin 2) (h : Fin 16) (u : Fin 40) (z : Fin 1) (f : Fin 2048) (hi : i (ix3 b h u) = BitVec.ofNat 32 f.val) :
    wrapT i (ix4 b h u z) = BitVec.ofNat 32 f.val := by
  unfold wrapT
  pointwise
  rw [hi]
  exact Routing.wrap_of_lt _ _ (by rw [BitVec.toNat_ofNat]; have := f.isLt; omega)

end Cert.Proof.Ref

end
-- ==== Proof.RefS.lean ====
/-
  The reference's context: the means of the values, the selected rows' attention written over them.
-/
module

public import proofs.«01_k».proof.Proof.Gen.ReferenceIdeal.Run
public import proofs.«01_k».proof.Proof.Model
public import Idealize.ShloMosaic.Lib.Pointwise
public import Idealize.ShloMosaic.Lib.IdealHost
public import Idealize.ShloMosaic.Lib.Tactic.CleanTypes
public import Idealize.ShloMosaic.Lib.Routing.OpsPair
public import Idealize.ShloMosaic.Lib.Routing.OpsSet

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

open Cert.Select

/-- The places (batch, head, row) the attention of the selected rows is written at. -/
def plc (i : IVec S2x16x40 32) : IVec S2x16x40x3 32 :=
  concatenate S2x16x40x3 3 [⟨S2x16x40x1, ((broadcastInDim S2x16x40x1 ![0, 1, 2] bcast_S2x16x40_S2x16x40x1_0_1_2 (broadcastInDim S2x16x40 ![0, 1, 2] bcast_S2x1x1_S2x16x40_0_1_2 (select (cmpi .slt (broadcastInDim S2x1x1 ![0] bcast_S2_S2x1x1_0 (iotaInDim S2 32 0)) (broadcastInDim S2x1x1 ![] bcast_S_S2x1x1 (constantI S_ 32 0#32))) (addi (broadcastInDim S2x1x1 ![0] bcast_S2_S2x1x1_0 (iotaInDim S2 32 0)) (broadcastInDim S2x1x1 ![] bcast_S_S2x1x1 (constantI S_ 32 2#32))) (broadcastInDim S2x1x1 ![0] bcast_S2_S2x1x1_0 (iotaInDim S2 32 0))))) : IVec S2x16x40x1 32)⟩, ⟨S2x16x40x1, ((broadcastInDim S2x16x40x1 ![0, 1, 2] bcast_S2x16x40_S2x16x40x1_0_1_2 (broadcastInDim S2x16x40 ![0, 1, 2] bcast_S1x16x1_S2x16x40_0_1_2 (select (cmpi .slt (broadcastInDim S1x16x1 ![1] bcast_S16_S1x16x1_1 (iotaInDim S16 32 0)) (broadcastInDim S1x16x1 ![] bcast_S_S1x16x1 (constantI S_ 32 0#32))) (addi (broadcastInDim S1x16x1 ![1] bcast_S16_S1x16x1_1 (iotaInDim S16 32 0)) (broadcastInDim S1x16x1 ![] bcast_S_S1x16x1 (constantI S_ 32 16#32))) (broadcastInDim S1x16x1 ![1] bcast_S16_S1x16x1_1 (iotaInDim S16 32 0))))) : IVec S2x16x40x1 32)⟩, ⟨S2x16x40x1, ((broadcastInDim S2x16x40x1 ![0, 1, 2] bcast_S2x16x40_S2x16x40x1_0_1_2 (select (cmpi .slt i (broadcastInDim S2x16x40 ![] bcast_S_S2x16x40 (constantI S_ 32 0#32))) (addi i (broadcastInDim S2x16x40 ![] bcast_S_S2x16x40 (constantI S_ 32 2048#32))) i)) : IVec S2x16x40x1 32)⟩] concatenates_S2x16x40x1_S2x16x40x1_S2x16x40x1_S2x16x40x3_d3

/-- The first part of a place is the batch. -/
theorem plc_0 (i : IVec S2x16x40 32) (b : Fin 2) (h : Fin 16) (u : Fin 40) : plc i (ix4 b h u 0) = BitVec.ofNat 32 b.val := by
  unfold plc
  pointwise
  exact Routing.wrap_of_lt _ _ (by rw [BitVec.toNat_ofNat]; have := b.isLt; omega)
/-- The second part of a place is the head. -/
theorem plc_1 (i : IVec S2x16x40 32) (b : Fin 2) (h : Fin 16) (u : Fin 40) : plc i (ix4 b h u 1) = BitVec.ofNat 32 h.val := by
  unfold plc
  pointwise
  exact Routing.wrap_of_lt _ _ (by rw [BitVec.toNat_ofNat]; have := h.isLt; omega)
/-- The third part of a place is the chosen row. -/
theorem plc_2 (i : IVec S2x16x40 32) (b : Fin 2) (h : Fin 16) (u : Fin 40) (f : Fin 2048) (hi : i (ix3 b h u) = BitVec.ofNat 32 f.val) :
    plc i (ix4 b h u 2) = BitVec.ofNat 32 f.val := by
  unfold plc
  pointwise
  rw [hi]
  exact Routing.wrap_of_lt _ _ (by rw [BitVec.toNat_ofNat]; have := f.isLt; omega)

/-- The context: the mean of the values, the selected rows' attention written over it. -/
def scat (v : FVec Ideal S2x16x2048x64 .f32) (i : IVec S2x16x40 32) (a : FVec Ideal S2x16x40x64 .f32) : FVec Ideal S2x16x2048x64 .f32 :=
  Host.scatter scatter_S2x16x2048x64_S2x16x40x3_S2x16x40x64_3_012_012_3 (fun _ b => b) (broadcastInDim S2x16x2048x64 ![0, 1, 2, 3] bcast_S2x16x1x64_S2x16x2048x64_0_1_2_3 (Host.divf (broadcastInDim S2x16x1x64 ![0, 1, 3] bcast_S2x16x64_S2x16x1x64_0_1_3 (Host.reduceAdd v (constant S_ .f32 0x00000000#32) reducesTo_S2x16x2048x64_S2x16x64_d2 h_S_)) (broadcastInDim S2x16x1x64 ![] bcast_S_S2x16x1x64 (constant S_ .f32 0x45000000#32)))) (plc i) a

/-- Where an update is written. -/
theorem lands (w : IVec S2x16x40x3 32) (b b' : Fin 2) (h h' : Fin 16) (u : Fin 40) (e e' : Fin 64) (s : Fin 2048) :
    scatter_S2x16x2048x64_S2x16x40x3_S2x16x40x64_3_012_012_3.resultIdx? (ix4 b h u e) w = some (ix4 b' h' s e')
      ↔ (w (ix4 b h u 0)).toInt = b'.val ∧ (w (ix4 b h u 1)).toInt = h'.val ∧ (w (ix4 b h u 2)).toInt = s.val ∧ e.val = e'.val := by
  have hs : ∀ q : Fin 3, scatter_S2x16x2048x64_S2x16x40x3_S2x16x40x64_3_012_012_3.siIdx (ix4 b h u e) q = ix4 b h u q := fun q => by
    funext p
    match p with
    | ⟨0, _⟩ => rfl
    | ⟨1, _⟩ => rfl
    | ⟨2, _⟩ => rfl
    | ⟨3, _⟩ => rfl
  rw [Routing.resultIdx?_eq_some]
  constructor
  · intro q
    have q0 := q 0
    have q1 := q 1
    have q2 := q 2
    have q3 := q 3
    change (w (scatter_S2x16x2048x64_S2x16x40x3_S2x16x40x64_3_012_012_3.siIdx (ix4 b h u e) (⟨0, by decide⟩ : Fin 3))).toInt + 0 = _ at q0
    change (w (scatter_S2x16x2048x64_S2x16x40x3_S2x16x40x64_3_012_012_3.siIdx (ix4 b h u e) (⟨1, by decide⟩ : Fin 3))).toInt + 0 = _ at q1
    change (w (scatter_S2x16x2048x64_S2x16x40x3_S2x16x40x64_3_012_012_3.siIdx (ix4 b h u e) (⟨2, by decide⟩ : Fin 3))).toInt + 0 = _ at q2
    change (0 : Int) + (e.val : Int) = (e'.val : Int) at q3
    rw [hs, add_zero] at q0 q1 q2
    exact ⟨q0, q1, q2, by omega⟩
  · rintro ⟨q0, q1, q2, q3⟩ a
    match a with
    | ⟨0, _⟩ =>
      show (w (scatter_S2x16x2048x64_S2x16x40x3_S2x16x40x64_3_012_012_3.siIdx (ix4 b h u e) (⟨0, by decide⟩ : Fin 3))).toInt + 0 = (b'.val : Int)
      rw [hs, add_zero]; exact q0
    | ⟨1, _⟩ =>
      show (w (scatter_S2x16x2048x64_S2x16x40x3_S2x16x40x64_3_012_012_3.siIdx (ix4 b h u e) (⟨1, by decide⟩ : Fin 3))).toInt + 0 = (h'.val : Int)
      rw [hs, add_zero]; exact q1
    | ⟨2, _⟩ =>
      show (w (scatter_S2x16x2048x64_S2x16x40x3_S2x16x40x64_3_012_012_3.siIdx (ix4 b h u e) (⟨2, by decide⟩ : Fin 3))).toInt + 0 = (s.val : Int)
      rw [hs, add_zero]; exact q2
    | ⟨3, _⟩ => show (0 : Int) + (e.val : Int) = (e'.val : Int); omega

/-- Where an update is written, the selected rows' places being `f`. -/
theorem lands_plc (i : IVec S2x16x40 32) (f : Fin 2 → Fin 16 → Fin 40 → Fin 2048) (hi : ∀ b h u, i (ix3 b h u) = BitVec.ofNat 32 (f b h u).val)
    (b b' : Fin 2) (h h' : Fin 16) (u : Fin 40) (e e' : Fin 64) (s : Fin 2048) :
    scatter_S2x16x2048x64_S2x16x40x3_S2x16x40x64_3_012_012_3.resultIdx? (ix4 b h u e) (plc i) = some (ix4 b' h' s e')
      ↔ b = b' ∧ h = h' ∧ f b h u = s ∧ e = e' := by
  rw [lands, plc_0, plc_1, plc_2 i b h u _ (hi b h u), Fin.ext_iff, Fin.ext_iff, Fin.ext_iff, Fin.ext_iff,
    BitVec.toInt_eq_toNat_of_lt (by rw [BitVec.toNat_ofNat]; have := b.isLt; omega),
    BitVec.toInt_eq_toNat_of_lt (by rw [BitVec.toNat_ofNat]; have := h.isLt; omega),
    BitVec.toInt_eq_toNat_of_lt (by rw [BitVec.toNat_ofNat]; have := (f b h u).isLt; omega),
    BitVec.toNat_ofNat, BitVec.toNat_ofNat, BitVec.toNat_ofNat, Nat.mod_eq_of_lt (by have := b.isLt; omega),
    Nat.mod_eq_of_lt (by have := h.isLt; omega), Nat.mod_eq_of_lt (by have := (f b h u).isLt; omega)]
  omega

/-- At a chosen row the scattered context is the row's update. -/
theorem scat_hit (v : FVec Ideal S2x16x2048x64 .f32) (i : IVec S2x16x40 32) (a : FVec Ideal S2x16x40x64 .f32) (f : Fin 2 → Fin 16 → Fin 40 → Fin 2048)
    (hi : ∀ b h u, i (ix3 b h u) = BitVec.ofNat 32 (f b h u).val) (hf : ∀ b h, Function.Injective (f b h))
    (b : Fin 2) (h : Fin 16) (u : Fin 40) (e : Fin 64) : scat v i a (ix4 b h (f b h u) e) = a (ix4 b h u e) := by
  unfold scat
  refine Routing.scatter_set_hit _ _ _ _ _ _ (fun k hk => ?_) (ix4 b h u e) ((lands_plc i f hi b b h h u e e _).2 ⟨rfl, rfl, rfl, rfl⟩)
  rw [eq_ix4 k] at hk ⊢
  obtain ⟨h0, h1, h2, h3⟩ := (lands_plc i f hi _ _ _ _ _ _ _ _).1 hk
  have h4 := hf b h (by rw [← h2, h0, h1] : f b h (k 2) = f b h u)
  refine congrArg a ?_
  rw [h0, h1, h3, h4]

/-- At a row that was not chosen the scattered context is the mean of the values. -/
theorem scat_miss (v : FVec Ideal S2x16x2048x64 .f32) (i : IVec S2x16x40 32) (a : FVec Ideal S2x16x40x64 .f32) (f : Fin 2 → Fin 16 → Fin 40 → Fin 2048)
    (hi : ∀ b h u, i (ix3 b h u) = BitVec.ofNat 32 (f b h u).val) (b : Fin 2) (h : Fin 16) (s : Fin 2048) (e : Fin 64) (hs : ∀ u, f b h u ≠ s) :
    scat v i a (ix4 b h s e) = Ideal.div (∑ t : Fin 2048, v (ix4 b h t e)) (lit 0x45000000#32) := by
  unfold scat
  refine (Routing.scatter_set_miss _ _ _ _ _ fun k hk => ?_).trans ?_
  · rw [eq_ix4 k] at hk
    obtain ⟨h0, h1, h2, h3⟩ := (lands_plc i f hi _ _ _ _ _ _ _ _).1 hk
    exact hs (k 2) (by rw [← h2, h0, h1])
  · clean_types
    pointwise

end Cert.Proof.Ref

end
-- ==== Proof.Finite.lean ====
/-
  Where the operands of the sampled scores are real numbers, the sparsity measure through the counts of the sampled
  keys is the measure over the sample itself, and it is a real number.
-/
module

public import proofs.«01_k».proof.Proof.Model

@[expose] public section

noncomputable section

namespace Cert.Spec

open Idealize.ShloMosaic Cert.Select

/-- An extended real that is a real number. -/
def IsR (x : EReal) : Prop := ∃ r : ℝ, x = (r : EReal)

/-- A sum of two reals is real. -/
theorem IsR.add {x y : EReal} : IsR x → IsR y → IsR (x + y) := by rintro ⟨r, rfl⟩ ⟨s, rfl⟩; exact ⟨r + s, by push_cast; rfl⟩
/-- A difference of two reals is real. -/
theorem IsR.sub {x y : EReal} : IsR x → IsR y → IsR (x - y) := by rintro ⟨r, rfl⟩ ⟨s, rfl⟩; exact ⟨r - s, by push_cast; rfl⟩
/-- A product of two reals is real. -/
theorem IsR.mul {x y : EReal} : IsR x → IsR y → IsR (x * y) := by rintro ⟨r, rfl⟩ ⟨s, rfl⟩; exact ⟨r * s, by push_cast; rfl⟩

/-- The sum of reals, as an extended real, is the sum of the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem IsR.sum {ι : Type} [Fintype ι] {f : ι → EReal} (h : ∀ i, IsR (f i)) : IsR (∑ i, f i) := by
  choose g hg using h
  exact ⟨∑ i, g i, by rw [coe_sum, Finset.sum_congr rfl fun i _ => hg i]⟩

/-- Division by a real that is not zero is multiplication by its inverse. -/
theorem div_coe (x : EReal) {r : ℝ} (h : r ≠ 0) : Ideal.div x (r : EReal) = x * ((r⁻¹ : ℝ) : EReal) := by
  rw [Ideal.div, if_neg (by exact_mod_cast h), EReal.coe_inv]

/-- A real divided by a real that is not zero is real. -/
theorem IsR.div {x : EReal} {r : ℝ} (hx : IsR x) (h : r ≠ 0) : IsR (Ideal.div x (r : EReal)) := by
  rw [div_coe x h]; exact hx.mul ⟨_, rfl⟩

/-- The word for the number of columns is 1024. -/
theorem lit_1024 : lit 0x44800000#32 = ((1024 : ℝ) : EReal) := by
  simp [lit, Ideal.ofBits, Ideal.ieee, -EReal.coe_mul]; norm_num
/-- The word for the number of rows is 2048. -/
theorem lit_2048 : lit 0x45000000#32 = ((2048 : ℝ) : EReal) := by
  simp [lit, Ideal.ofBits, Ideal.ieee, -EReal.coe_mul]; norm_num
/-- The word for the inverse of the number of rows is exactly 1/2048. -/
theorem lit_inv2048 : lit 0x3A000000#32 = (((2048 : ℝ)⁻¹ : ℝ) : EReal) := by
  simp [lit, Ideal.ofBits, Ideal.ieee, -EReal.coe_mul]; norm_num
/-- The word added to a variance is a positive real. -/
theorem lit_eps : ∃ r : ℝ, 0 < r ∧ lit 0x3727C5AC#32 = (r : EReal) := by
  refine ⟨10995116 * 2 ^ (-40 : ℤ), by positivity, ?_⟩
  simp [lit, Ideal.ofBits, Ideal.ieee, -EReal.coe_mul]
/-- The word for minus infinity is minus infinity. -/
theorem lit_bot' : lit 0xFF800000#32 = ⊥ := by
  simp [lit, Ideal.ofBits, Ideal.ieee]

/-- The normalisation of a row of real numbers is one: the variance is at least 0 and the constant under the root
    is positive. -/
theorem lnorm_isR (x g b : Fin 1024 → EReal) (hx : ∀ k, IsR (x k)) (hg : ∀ k, IsR (g k)) (hb : ∀ k, IsR (b k)) (j : Fin 1024) :
    IsR (lnorm (lit 0x44800000#32) x g b j) := by
  have h0 : (1024 : ℝ) ≠ 0 := by norm_num
  have hm : IsR (mean (lit 0x44800000#32) x) := by unfold mean; rw [lit_1024]; exact (IsR.sum hx).div h0
  obtain ⟨mu, hmu⟩ := hm
  choose y hy using hx
  obtain ⟨r, hr, he⟩ := lit_eps
  have hv : mean (lit 0x44800000#32) (fun k => (x k - mean (lit 0x44800000#32) x) * (x k - mean (lit 0x44800000#32) x))
      = (((∑ k, (y k - mu) * (y k - mu)) * 1024⁻¹ : ℝ) : EReal) := by
    rw [hmu]
    unfold mean
    rw [lit_1024, div_coe _ h0, EReal.coe_mul, coe_sum]
    refine congrArg (fun z => z * (((1024 : ℝ)⁻¹ : ℝ) : EReal)) (Finset.sum_congr rfl fun k _ => ?_)
    show (x k - mu) * (x k - mu) = _
    rw [hy k]; push_cast; rfl
  have hpos : 0 < (∑ k, (y k - mu) * (y k - mu)) * 1024⁻¹ + r := by
    have : 0 ≤ ∑ k, (y k - mu) * (y k - mu) := Finset.sum_nonneg fun k _ => mul_self_nonneg _
    positivity
  have hs : Ideal.sqrt (mean (lit 0x44800000#32) (fun k => (x k - mean (lit 0x44800000#32) x) * (x k - mean (lit 0x44800000#32) x)) + lit 0x3727C5AC#32)
      = ((Real.sqrt ((∑ k, (y k - mu) * (y k - mu)) * 1024⁻¹ + r) : ℝ) : EReal) := by
    rw [hv, he, ← EReal.coe_add]
    show (if ((∑ k, (y k - mu) * (y k - mu)) * 1024⁻¹ + r) < 0 then (⊥ : EReal) else _) = _
    rw [if_neg hpos.le.not_gt]
  unfold lnorm
  rw [hs, hmu]
  exact ((IsR.div (IsR.sub ⟨y j, hy j⟩ ⟨mu, rfl⟩) (Real.sqrt_pos.2 hpos).ne').mul (hg j)).add (hb j)

/-- An affine map with real operands has real values. -/
theorem dense_isR {m n : ℕ} (x : Fin m → EReal) (w : Fin m → Fin n → EReal) (b : Fin n → EReal) (hx : ∀ k, IsR (x k))
    (hw : ∀ k j, IsR (w k j)) (hb : ∀ j, IsR (b j)) (j : Fin n) : IsR (dense x w b j) :=
  (IsR.sum fun k => (hx k).mul (hw k j)).add (hb j)

variable (P : Par)

/-- The operands of the sampled scores are real numbers. -/
structure Real : Prop where
  X : ∀ c b l j, IsR (P.X c b l j)
  g1 : ∀ j, IsR (P.g1 j)
  b1 : ∀ j, IsR (P.b1 j)
  Wq : ∀ k j, IsR (P.Wq k j)
  bq : ∀ j, IsR (P.bq j)
  Wk : ∀ k j, IsR (P.Wk k j)
  bk : ∀ j, IsR (P.bk j)

variable {P}

/-- The normalised input is real. -/
theorem Real.xn (H : Real P) (c b : Fin 2) (l : Fin 2048) (j : Fin 1024) : IsR (xn P c b l j) :=
  lnorm_isR _ _ _ (H.X c b l) H.g1 H.b1 j
/-- The queries are real. -/
theorem Real.qq (H : Real P) (c b : Fin 2) (l : Fin 2048) (j : Fin 1024) : IsR (qq P c b l j) :=
  dense_isR _ _ _ (H.xn c b l) H.Wq H.bq j
/-- The keys are real. -/
theorem Real.kk (H : Real P) (c b : Fin 2) (l : Fin 2048) (j : Fin 1024) : IsR (kk P c b l j) :=
  dense_isR _ _ _ (H.xn c b l) H.Wk H.bk j
/-- The scores are real. -/
theorem Real.score (H : Real P) (c b : Fin 2) (h : Fin 16) (l s : Fin 2048) : IsR (score P c b h l s) :=
  IsR.sum fun _ => (H.qq _ _ _ _).mul (H.kk _ _ _ _)

/-- The largest score of the keys with a count is the largest of the sampled scores. -/
theorem max_eq (H : Real P) (c b : Fin 2) (h : Fin 16) (l : Fin 2048) :
    Finset.univ.fold max (lit 0xFF800000#32) (fun s : Fin 2048 => score P c b h l s + msk P c l s)
      = Finset.univ.fold max (lit 0xFF800000#32) (fun u : Fin 40 => score P c b h l (P.idx c l u)) := by
  rw [lit_bot']
  refine le_antisymm ?_ ?_
  · rw [Finset.fold_max_le]
    refine ⟨bot_le, fun s _ => ?_⟩
    unfold msk
    split
    · next hc =>
      have hne : (Finset.univ.filter fun u => P.idx c l u = s).Nonempty := by
        by_contra hn
        rw [Finset.not_nonempty_iff_eq_empty] at hn
        unfold cnt at hc
        rw [hn] at hc
        simp at hc
      obtain ⟨u, hu⟩ := hne
      rw [add_zero, Finset.le_fold_max]
      exact Or.inr ⟨u, Finset.mem_univ _, by rw [(Finset.mem_filter.1 hu).2]⟩
    · rw [EReal.add_bot]; exact bot_le
  · rw [Finset.fold_max_le]
    refine ⟨bot_le, fun u _ => ?_⟩
    rw [Finset.le_fold_max]
    refine Or.inr ⟨P.idx c l u, Finset.mem_univ _, ?_⟩
    have hc : (0 : EReal) < cnt P c l (P.idx c l u) := by
      unfold cnt
      have : 0 < (Finset.univ.filter fun v => P.idx c l v = P.idx c l u).card :=
        Finset.card_pos.2 ⟨u, Finset.mem_filter.2 ⟨Finset.mem_univ _, rfl⟩⟩
      exact_mod_cast this
    rw [msk, if_pos hc, add_zero]

/-- The counted sum of the scores is the sum of the sampled scores. -/
theorem sum_eq (H : Real P) (c b : Fin 2) (h : Fin 16) (l : Fin 2048) :
    (∑ e : Fin 64, Spec.qq P (other c) b l (hd h e) * (∑ s : Fin 2048, cnt P c l s * Spec.kk P c b s (hd h e)))
      = ∑ u : Fin 40, Spec.score P c b h l (P.idx c l u) := by
  choose q hq using fun e => H.qq (other c) b l (hd h e)
  choose k hk using fun s e => H.kk c b s (hd h e)
  have h1 : ∀ e : Fin 64, Spec.qq P (other c) b l (hd h e) * (∑ s : Fin 2048, cnt P c l s * Spec.kk P c b s (hd h e))
      = ((q e * ∑ u : Fin 40, k (P.idx c l u) e : ℝ) : EReal) := fun e => by
    have h2 : (∑ s : Fin 2048, cnt P c l s * Spec.kk P c b s (hd h e)) = ((∑ u : Fin 40, k (P.idx c l u) e : ℝ) : EReal) := by
      rw [← Finset.sum_fiberwise Finset.univ (P.idx c l) (fun u => k (P.idx c l u) e), coe_sum]
      refine Finset.sum_congr rfl fun s _ => ?_
      rw [Finset.sum_congr rfl (fun u hu => by rw [(Finset.mem_filter.1 hu).2] : ∀ u ∈ Finset.univ.filter (fun u => P.idx c l u = s), k (P.idx c l u) e = k s e),
        Finset.sum_const, nsmul_eq_mul, hk s e, EReal.coe_mul]
      rfl
    rw [hq e, h2, EReal.coe_mul]
  have h3 : ∀ u : Fin 40, Spec.score P c b h l (P.idx c l u) = ((∑ e : Fin 64, q e * k (P.idx c l u) e : ℝ) : EReal) := fun u => by
    unfold Spec.score
    rw [coe_sum]
    exact Finset.sum_congr rfl fun e _ => by rw [hq e, hk _ e, EReal.coe_mul]
  rw [Finset.sum_congr rfl fun e _ => h1 e, Finset.sum_congr rfl fun u _ => h3 u, ← coe_sum, ← coe_sum, Finset.sum_comm]
  refine congrArg _ (Finset.sum_congr rfl fun e _ => ?_)
  rw [Finset.mul_sum]

/-- The measure through the counts is the measure over the sample. -/
theorem mK_eq (H : Real P) (c b : Fin 2) (h : Fin 16) (l : Fin 2048) : mK P c b h l = mR P c b h l := by
  show Finset.univ.fold max (lit 0xFF800000#32) (fun s : Fin 2048 => Spec.score P c b h l s + msk P c l s)
    - (∑ e : Fin 64, Spec.qq P (other c) b l (hd h e) * (∑ s : Fin 2048, cnt P c l s * Spec.kk P c b s (hd h e))) * lit 0x3A000000#32 = _
  rw [max_eq H, sum_eq H, mR, lit_2048, div_coe _ (by norm_num), lit_inv2048]

/-- The measure is not minus infinity. -/
theorem mR_ne_bot (H : Real P) (c b : Fin 2) (h : Fin 16) (l : Fin 2048) : mR P c b h l ≠ ⊥ := by
  obtain ⟨s, hs⟩ : IsR (Ideal.div (∑ u : Fin 40, Spec.score P c b h l (P.idx c l u)) (lit 0x45000000#32)) := by
    rw [lit_2048]; exact (IsR.sum fun u => H.score c b h l _).div (by norm_num)
  obtain ⟨t, ht⟩ := H.score c b h l (P.idx c l 0)
  have hle : (t : EReal) ≤ Finset.univ.fold max (lit 0xFF800000#32) (fun u : Fin 40 => Spec.score P c b h l (P.idx c l u)) := by
    rw [Finset.le_fold_max]
    exact Or.inr ⟨0, Finset.mem_univ _, by rw [ht]⟩
  rw [mR, hs]
  intro hb
  have : ((t - s : ℝ) : EReal) ≤ ⊥ := by
    rw [← hb, EReal.coe_sub]
    exact EReal.sub_le_sub hle le_rfl
  exact EReal.coe_ne_bot _ (le_bot_iff.1 this)

end Cert.Spec

end
-- ==== Proof.Context.lean ====
/-
  The context: picking rows by marks and adding up the marked attentions gives every selected row its attention and
  every other row the mean of the values.
-/
module

public import proofs.«01_k».proof.Proof.Finite

@[expose] public section

noncomputable section

namespace Cert.Spec

open Idealize.ShloMosaic Cert.Select

/-- The mark of a row: one at the row itself and zero elsewhere. -/
theorem mark_ofNat (i s : Fin 2048) : mark (BitVec.ofNat 32 i.val) s = if i = s then 1 else 0 := by
  unfold mark
  refine if_congr ⟨fun h => ?_, fun h => by rw [h]⟩ rfl rfl
  have := congrArg BitVec.toNat h
  rw [BitVec.toNat_ofNat, BitVec.toNat_ofNat, Nat.mod_eq_of_lt (by have := s.isLt; omega), Nat.mod_eq_of_lt (by have := i.isLt; omega)] at this
  exact Fin.ext this.symm

/-- A sum over the rows against one row's mark is that row's term. -/
theorem sum_mark (i : Fin 2048) (g : Fin 2048 → EReal) : ∑ r : Fin 2048, mark (BitVec.ofNat 32 i.val) r * g r = g i := by
  rw [Finset.sum_eq_single i]
  · rw [mark_ofNat, if_pos rfl, one_mul]
  · intro r _ hr
    rw [mark_ofNat, if_neg hr.symm, zero_mul]
  · intro h; exact absurd (Finset.mem_univ i) h

/-- The context by marks, for different selected rows `σ`. -/
theorem ctxker_eq (σ : Fin 40 → Fin 2048) (hσ : Function.Injective σ) (q k v : Fin 2048 → Fin 64 → EReal) (s : Fin 2048) (e : Fin 64) :
    ctxker (fun u => BitVec.ofNat 32 (σ u).val) q k v s e =
      if ∃ u, σ u = s then ∑ t : Fin 2048, softmax (fun t : Fin 2048 => (∑ f : Fin 64, q s f * k t f) * lit 0x3E000000#32) t * v t e
      else Ideal.div (∑ t : Fin 2048, v t e) (lit 0x45000000#32) := by
  unfold ctxker
  have hq : ∀ u f, (∑ r : Fin 2048, mark (BitVec.ofNat 32 (σ u).val) r * q r f) = q (σ u) f := fun u f => sum_mark (σ u) fun r => q r f
  simp only [hq]
  split
  · next h =>
    obtain ⟨u, rfl⟩ := h
    rw [Finset.sum_eq_single u, Finset.sum_eq_single u]
    · rw [mark_ofNat, if_pos rfl, one_mul]
      have h0 : (1 : EReal) - 1 = 0 := by
        rw [← EReal.coe_one, ← EReal.coe_sub, sub_self, EReal.coe_zero]
      rw [h0, zero_mul, add_zero]
    · intro w _ hw
      rw [mark_ofNat, if_neg fun h => hw (hσ h)]
    · intro h; exact absurd (Finset.mem_univ u) h
    · intro w _ hw
      rw [mark_ofNat, if_neg fun h => hw (hσ h), zero_mul]
    · intro h; exact absurd (Finset.mem_univ u) h
  · next h =>
    have hz : ∀ u, mark (BitVec.ofNat 32 (σ u).val) s = 0 := fun u => by
      rw [mark_ofNat, if_neg fun h' => h ⟨u, h'⟩]
    simp only [hz, zero_mul, Finset.sum_const_zero, sub_zero, one_mul, zero_add]

variable {P : Par}

/-- The context with the rounds' selection is the context with any list of the rows of greatest measure. -/
theorem ctxK_eq (H : Real P) (c b : Fin 2) (l : Fin 2048) (j : Fin 1024) (σ : Fin 40 → Fin 2048) (hσ : IsTop (mR P c b (hOf j)) σ) :
    ctxK P c b l j = if ∃ u, σ u = l then att P c b (hOf j) l (eOf j) else vmean P c b (hOf j) (eOf j) := by
  have hm : mK P c b (hOf j) = mR P c b (hOf j) := funext (mK_eq H c b (hOf j))
  have ht : IsTop (mR P c b (hOf j)) fun u : Fin 40 => pick (left (mR P c b (hOf j)) u.val) :=
    isTop_pick (by norm_num) _ (mR_ne_bot H c b (hOf j))
  unfold ctxK
  rw [hm]
  refine (ctxker_eq (fun u : Fin 40 => pick (left (mR P c b (hOf j)) u.val)) ht.1 _ _ _ l (eOf j)).trans ?_
  exact if_congr (ht.mem_iff hσ l) rfl rfl

end Cert.Spec

end
-- ==== Proof.RefD.lean ====
/-
  The reference's attention layer and the layers after it, on arrays that hold the block's operands: the context
  and the block's result, element by element.
-/
module

public import proofs.«01_k».proof.Proof.RefA
public import proofs.«01_k».proof.Proof.RefB
public import proofs.«01_k».proof.Proof.RefC
public import proofs.«01_k».proof.Proof.RefT
public import proofs.«01_k».proof.Proof.RefS
public import proofs.«01_k».proof.Proof.Context

@[expose] public section

set_option maxRecDepth 16384

noncomputable section

namespace Cert.Proof.Ref

open Cert.ReferenceIdeal Cert.ReferenceIdeal.Gen Cert.Spec Cert.Select
open Idealize.ShloMosaic Idealize.ShloMosaic.TcCoe Idealize.SL.Sem Idealize.ShloMosaic.StableHlo

variable {P : Par} (c : Fin 2)

/-- The rows selected in every head, as the reference lists them. -/
def sel (P : Par) (c b : Fin 2) (h : Fin 16) (u : Fin 40) : Fin 2048 :=
  sortedFrom (fun x y => decide (mR P c b h y < mR P c b h x)) (u.castLE (by omega : 40 ≤ 2048))

/-- The chosen rows are the largest forty of the measure, ties to the lower row. -/
theorem sel_isTop (b : Fin 2) (h : Fin 16) : IsTop (mR P c b h) (sel P c b h) := isTop_sorted (by omega) _

section ctx

variable (q k v : FVec Ideal S2x16x2048x64 .f32) (s : IVec S2048x40 32)
  (hq : ∀ b h l e, q (ix4 b h l e) = qq P (other c) b l (hd h e)) (hk : ∀ b h l e, k (ix4 b h l e) = kk P c b l (hd h e))
  (hv : ∀ b h l e, v (ix4 b h l e) = vv P c b l (hd h e)) (hs : ∀ l u, s (ix2 l u) = BitVec.ofNat 32 (P.idx c l u).val)

include hq hk hs in
/-- The reference's measure is the model's. -/
theorem meas_eq (b : Fin 2) (h : Fin 16) (l : Fin 2048) : meas (smpl q k s) (ix3 b h l) = mR P c b h l := by
  have hz : ∀ u : Fin 40, smpl q k s (ix4 b h l u) = score P c b h l (P.idx c l u) := fun u => by
    rw [smpl_apply q k s (P.idx c) hs]
    exact Finset.sum_congr rfl fun e _ => by rw [hq, hk]
  rw [meas_apply, mR, funext hz]

include hq hk hs in
/-- The reference's chosen rows are the model's. -/
theorem tk_eq (b : Fin 2) (h : Fin 16) (u : Fin 40) : tk (meas (smpl q k s)) (ix3 b h u) = BitVec.ofNat 32 (sel P c b h u).val := by
  rw [tk_apply, sel]
  refine congrArg (fun g => BitVec.ofNat 32 (sortedFrom g (u.castLE (by omega : 40 ≤ 2048))).val) (funext fun x => funext fun y => ?_)
  rw [meas_eq c q k s hq hk hs, meas_eq c q k s hq hk hs]

include hq hk hv hs in
/-- The reference's context is the kernel's. -/
theorem ctx_eq (H : Real P) (b : Fin 2) (l : Fin 2048) (j : Fin 1024) :
    scat v (tk (meas (smpl q k s))) (attn (logit q k (wrapT (tk (meas (smpl q k s))))) v) (ix4 b (hOf j) l (eOf j)) = ctxK P c b l j := by
  have hi := tk_eq c q k s hq hk hs
  rw [ctxK_eq H c b l j (sel P c b (hOf j)) (sel_isTop c b (hOf j))]
  split
  · next h =>
    obtain ⟨u, rfl⟩ := h
    rw [scat_hit v _ _ (sel P c) hi (fun b h => (sel_isTop c b h).1), attn_apply, att]
    have hz : ∀ t : Fin 2048, logit q k (wrapT (tk (meas (smpl q k s)))) (ix4 b (hOf j) u t)
        = score P c b (hOf j) (sel P c b (hOf j) u) t * lit 0x3E000000#32 := fun t => by
      rw [logit_apply q k _ b (hOf j) u t (sel P c b (hOf j) u) (wrapT_apply _ b (hOf j) u 0 _ (hi b (hOf j) u)), score,
        Finset.sum_congr rfl fun e _ => by rw [hq, hk]]
    rw [funext hz]
    exact Finset.sum_congr rfl fun t _ => by rw [hv]
  · next h =>
    rw [scat_miss v _ _ (sel P c) hi b (hOf j) l (eOf j) fun u hu => h ⟨u, hu⟩, vmean, Finset.sum_congr rfl fun t _ => hv b (hOf j) t (eOf j)]

end ctx

/-- The layers after the attention. -/
def rest (x : FVec Ideal S2x2048x1024 .f32) (ctx : FVec Ideal S2x16x2048x64 .f32) (Wo : FVec Ideal S1024x1024 .f32) (bo g2 b2 : FVec Ideal S1024 .f32) :
    FVec Ideal S2x2048x1024 .f32 := nrm (outp x ctx Wo bo) g2 b2
/-- The layers after the attention, as the reference applies them: the two-layer map and its residual. -/
def fin (y : FVec Ideal S2x2048x1024 .f32) (F1 : FVec Ideal S1024x4096 .f32) (f1 m1 n1 : FVec Ideal S4096 .f32) (F2 : FVec Ideal S4096x1024 .f32)
    (f2 m2 n2 : FVec Ideal S1024 .f32) : FVec Ideal S2x2048x1024 .f32 :=
  addf y (nrm (fc2 (nrm4 (fc1 y F1 f1) m1 n1) F2 f2) m2 n2)

/-- The attended rows through the output map, with the residual and normalised, at an entry. -/
theorem rest_apply (x : FVec Ideal S2x2048x1024 .f32) (ctx : FVec Ideal S2x16x2048x64 .f32) (Wo : FVec Ideal S1024x1024 .f32)
    (bo g2 b2 : FVec Ideal S1024 .f32) (hWo : ∀ k j, Wo (ix2 k j) = P.Wo k j) (hbo : ∀ j, bo (ix1 j) = P.bo j)
    (hg : ∀ j, g2 (ix1 j) = P.g2 j) (hb : ∀ j, b2 (ix1 j) = P.b2 j) (n : Fin 2) (l : Fin 2048)
    (hx : ∀ j, x (ix3 n l j) = xn P c n l j) (hc : ∀ j, ctx (ix4 n (hOf j) l (eOf j)) = ctxK P c n l j) (j : Fin 1024) :
    rest x ctx Wo bo g2 b2 (ix3 n l j) = yrow P (xn P c n l) (ctxK P c n l) j := by
  rw [rest, nrm_apply, yrow]
  refine lnorm_congr _ j (fun o => ?_) hg hb
  rw [outp_apply, add_comm, hx o]
  exact congrArg (fun z => z + xn P c n l o) (dense_congr o o hc (fun k => hWo k o) (hbo o))

/-- The two-layer map with its residual at an entry. -/
theorem fin_apply (y : FVec Ideal S2x2048x1024 .f32) (F1 : FVec Ideal S1024x4096 .f32) (f1 m1 n1 : FVec Ideal S4096 .f32) (F2 : FVec Ideal S4096x1024 .f32)
    (f2 m2 n2 : FVec Ideal S1024 .f32) (hF1 : ∀ k j, F1 (ix2 k j) = P.F1 k j) (hf1 : ∀ j, f1 (ix1 j) = P.f1 j) (hm1 : ∀ j, m1 (ix1 j) = P.m1 j)
    (hn1 : ∀ j, n1 (ix1 j) = P.n1 j) (hF2 : ∀ k j, F2 (ix2 k j) = P.F2 k j) (hf2 : ∀ j, f2 (ix1 j) = P.f2 j) (hm2 : ∀ j, m2 (ix1 j) = P.m2 j)
    (hn2 : ∀ j, n2 (ix1 j) = P.n2 j) (n : Fin 2) (l : Fin 2048) (z : Fin 1024 → EReal) (hy : ∀ j, y (ix3 n l j) = z j) (j : Fin 1024) :
    fin y F1 f1 m1 n1 F2 f2 m2 n2 (ix3 n l j) = mlp P z j := by
  show @HAdd.hAdd EReal EReal EReal _ (y (ix3 n l j)) (nrm (fc2 (nrm4 (fc1 y F1 f1) m1 n1) F2 f2) m2 n2 (ix3 n l j)) = _
  rw [nrm_apply, hy j, mlp]
  refine add_congr rfl (lnorm_congr _ j (fun o => ?_) hm2 hn2)
  rw [fc2_apply]
  refine dense_congr o o (fun k => ?_) (fun k => hF2 k o) (hf2 o)
  rw [nrm4_apply]
  refine congrArg gelu (lnorm_congr _ k (fun i => ?_) hm1 hn1)
  rw [fc1_apply]
  exact dense_congr i i hy (fun k => hF1 k i) (hf1 i)

end Cert.Proof.Ref

end
-- ==== Proof.RefE.lean ====
/-
  The reference's results: both streams, as the block's results.
-/
module

public import proofs.«01_k».proof.Proof.RefD

@[expose] public section

set_option maxRecDepth 16384

noncomputable section

namespace Cert.Proof.Ref

open Cert.ReferenceIdeal Cert.ReferenceIdeal.Gen Cert.ReferenceIdeal.Value Cert.Spec
open Idealize.ShloMosaic Idealize.ShloMosaic.TcCoe Idealize.SL.Sem Idealize.ShloMosaic.StableHlo

variable (V : Valuation τ sig (Elt Ideal))

/-! ### The operands -/

/-- The reference's argument array 0. -/
abbrev a0 : FVec Ideal S2x2x2048x1024 .f32 := V (Proc.devRef .tc main_arg0)
/-- The reference's argument array 1. -/
abbrev a1 : FVec Ideal S1024 .f32 := V (Proc.devRef .tc main_arg1)
/-- The reference's argument array 2. -/
abbrev a2 : FVec Ideal S1024 .f32 := V (Proc.devRef .tc main_arg2)
/-- The reference's argument array 3. -/
abbrev a3 : FVec Ideal S1024 .f32 := V (Proc.devRef .tc main_arg3)
/-- The reference's argument array 4. -/
abbrev a4 : FVec Ideal S1024 .f32 := V (Proc.devRef .tc main_arg4)
/-- The reference's argument array 5. -/
abbrev a5 : FVec Ideal S1024x1024 .f32 := V (Proc.devRef .tc main_arg5)
/-- The reference's argument array 6. -/
abbrev a6 : FVec Ideal S1024 .f32 := V (Proc.devRef .tc main_arg6)
/-- The reference's argument array 7. -/
abbrev a7 : FVec Ideal S1024x1024 .f32 := V (Proc.devRef .tc main_arg7)
/-- The reference's argument array 8. -/
abbrev a8 : FVec Ideal S1024 .f32 := V (Proc.devRef .tc main_arg8)
/-- The reference's argument array 9. -/
abbrev a9 : FVec Ideal S1024x1024 .f32 := V (Proc.devRef .tc main_arg9)
/-- The reference's argument array 10. -/
abbrev a10 : FVec Ideal S1024 .f32 := V (Proc.devRef .tc main_arg10)
/-- The reference's argument array 11. -/
abbrev a11 : FVec Ideal S1024x1024 .f32 := V (Proc.devRef .tc main_arg11)
/-- The reference's argument array 12. -/
abbrev a12 : FVec Ideal S1024 .f32 := V (Proc.devRef .tc main_arg12)
/-- The reference's argument array 13. -/
abbrev a13 : FVec Ideal S1024x4096 .f32 := V (Proc.devRef .tc main_arg13)
/-- The reference's argument array 14. -/
abbrev a14 : FVec Ideal S4096 .f32 := V (Proc.devRef .tc main_arg14)
/-- The reference's argument array 15. -/
abbrev a15 : FVec Ideal S4096 .f32 := V (Proc.devRef .tc main_arg15)
/-- The reference's argument array 16. -/
abbrev a16 : FVec Ideal S4096 .f32 := V (Proc.devRef .tc main_arg16)
/-- The reference's argument array 17. -/
abbrev a17 : FVec Ideal S4096x1024 .f32 := V (Proc.devRef .tc main_arg17)
/-- The reference's argument array 18. -/
abbrev a18 : FVec Ideal S1024 .f32 := V (Proc.devRef .tc main_arg18)
/-- The reference's argument array 19. -/
abbrev a19 : FVec Ideal S1024 .f32 := V (Proc.devRef .tc main_arg19)
/-- The reference's argument array 20. -/
abbrev a20 : FVec Ideal S1024 .f32 := V (Proc.devRef .tc main_arg20)
/-- The reference's argument array 21. -/
abbrev a21 : IVec S2x2048x40 32 := V (Proc.devRef .tc main_arg21)

/-- The arrays hold the block's operands. -/
structure Holds (P : Par) : Prop where
  X : ∀ d b l j, a0 V (ix4 d b l j) = P.X d b l j
  g1 : ∀ j, a1 V (ix1 j) = P.g1 j
  b1 : ∀ j, a2 V (ix1 j) = P.b1 j
  g2 : ∀ j, a3 V (ix1 j) = P.g2 j
  b2 : ∀ j, a4 V (ix1 j) = P.b2 j
  Wq : ∀ k j, a5 V (ix2 k j) = P.Wq k j
  bq : ∀ j, a6 V (ix1 j) = P.bq j
  Wk : ∀ k j, a7 V (ix2 k j) = P.Wk k j
  bk : ∀ j, a8 V (ix1 j) = P.bk j
  Wv : ∀ k j, a9 V (ix2 k j) = P.Wv k j
  bv : ∀ j, a10 V (ix1 j) = P.bv j
  Wo : ∀ k j, a11 V (ix2 k j) = P.Wo k j
  bo : ∀ j, a12 V (ix1 j) = P.bo j
  F1 : ∀ k j, a13 V (ix2 k j) = P.F1 k j
  f1 : ∀ j, a14 V (ix1 j) = P.f1 j
  m1 : ∀ j, a15 V (ix1 j) = P.m1 j
  n1 : ∀ j, a16 V (ix1 j) = P.n1 j
  F2 : ∀ k j, a17 V (ix2 k j) = P.F2 k j
  f2 : ∀ j, a18 V (ix1 j) = P.f2 j
  m2 : ∀ j, a19 V (ix1 j) = P.m2 j
  n2 : ∀ j, a20 V (ix1 j) = P.n2 j
  idx : ∀ d l u, a21 V (ix3 d l u) = BitVec.ofNat 32 (P.idx d l u).val

/-! ### The reference's intermediate arrays by their pieces -/

/-- The first stream, normalised. -/
theorem v25 : res_main_v25 V = nrm (strm0 (a0 V)) (a1 V) (a2 V) := rfl
/-- The second stream, normalised. -/
theorem v51 : res_main_v51 V = nrm (strm1 (a0 V)) (a1 V) (a2 V) := rfl
/-- The queries for the first stream. -/
theorem v69 : res_main_v69 V = proj (res_main_v51 V) (a5 V) (a6 V) := rfl
/-- The keys for the first stream. -/
theorem v70 : res_main_v70 V = proj (res_main_v25 V) (a7 V) (a8 V) := rfl
/-- The values for the first stream. -/
theorem v71 : res_main_v71 V = proj (res_main_v25 V) (a9 V) (a10 V) := rfl
/-- The queries for the second stream. -/
theorem v156 : res_main_v156 V = proj (res_main_v25 V) (a5 V) (a6 V) := rfl
/-- The keys for the second stream. -/
theorem v157 : res_main_v157 V = proj (res_main_v51 V) (a7 V) (a8 V) := rfl
/-- The values for the second stream. -/
theorem v158 : res_main_v158 V = proj (res_main_v51 V) (a9 V) (a10 V) := rfl
/-- The sampled scores for the first stream. -/
theorem v79 : res_main_v79 V = smpl (res_main_v69 V) (res_main_v70 V) (smp0 (a21 V)) := rfl
/-- The sampled scores for the second stream. -/
theorem v166 : res_main_v166 V = smpl (res_main_v156 V) (res_main_v157 V) (smp1 (a21 V)) := rfl
/-- The chosen rows for the first stream. -/
theorem i0 : res_main_indices V = tk (meas (res_main_v79 V)) := rfl
/-- The chosen rows for the second stream. -/
theorem i1 : res_main_indices_31 V = tk (meas (res_main_v166 V)) := rfl
/-- The chosen rows for the first stream, wrapped. -/
theorem w0 : res_main_call0_v4 V = wrapT (res_main_indices V) := rfl
/-- The chosen rows for the second stream, wrapped. -/
theorem w1 : res_main_call1_v4 V = wrapT (res_main_indices_31 V) := rfl
/-- The chosen queries' scores for the first stream. -/
theorem v89 : res_main_v89 V = logit (res_main_v69 V) (res_main_v70 V) (res_main_call0_v4 V) := rfl
/-- The chosen queries' scores for the second stream. -/
theorem v176 : res_main_v176 V = logit (res_main_v156 V) (res_main_v157 V) (res_main_call1_v4 V) := rfl
/-- The first stream after the output map and the residual. -/
theorem v226 : res_main_v226 V
    = outp (res_main_v25 V) (scat (res_main_v71 V) (res_main_indices V) (attn (res_main_v89 V) (res_main_v71 V))) (a11 V) (a12 V) := rfl
/-- The second stream after the output map and the residual. -/
theorem v251 : res_main_v251 V
    = outp (res_main_v51 V) (scat (res_main_v158 V) (res_main_indices_31 V) (attn (res_main_v176 V) (res_main_v158 V))) (a11 V) (a12 V) := rfl
/-- The first stream before the two-layer map. -/
theorem v250 : res_main_v250 V = nrm (res_main_v226 V) (a3 V) (a4 V) := rfl
/-- The second stream before the two-layer map. -/
theorem v275 : res_main_v275 V = nrm (res_main_v251 V) (a3 V) (a4 V) := rfl

/-! ### The results -/

/-- The first result. -/
def out0 : FVec Ideal S2x2048x1024 .f32 :=
  fin (res_main_v250 V) (a13 V) (a14 V) (a15 V) (a16 V) (a17 V) (a18 V) (a19 V) (a20 V)
/-- The second result. -/
def out1 : FVec Ideal S2x2048x1024 .f32 :=
  fin (res_main_v275 V) (a13 V) (a14 V) (a15 V) (a16 V) (a17 V) (a18 V) (a19 V) (a20 V)

variable {V} {P : Par} (A : Holds V P)
include A

/-- The first stream's normalised entries are the model's. -/
theorem v25_apply (b : Fin 2) (l : Fin 2048) (j : Fin 1024) : (res_main_v25 V : FVec Ideal S2x2048x1024 .f32) (ix3 b l j) = xn P 0 b l j := by
  rw [v25, nrm_apply]
  exact lnorm_congr _ j (fun k => (strm0_apply _ b l k).trans (A.X 0 b l k)) A.g1 A.b1
/-- The second stream's normalised entries are the model's. -/
theorem v51_apply (b : Fin 2) (l : Fin 2048) (j : Fin 1024) : (res_main_v51 V : FVec Ideal S2x2048x1024 .f32) (ix3 b l j) = xn P 1 b l j := by
  rw [v51, nrm_apply]
  exact lnorm_congr _ j (fun k => (strm1_apply _ b l k).trans (A.X 1 b l k)) A.g1 A.b1

/-- An affine map of a stream, its columns parted into heads. -/
theorem proj_eq (x : FVec Ideal S2x2048x1024 .f32) (w : FVec Ideal S1024x1024 .f32) (d : FVec Ideal S1024 .f32) (z : Fin 1024 → EReal)
    (W : Fin 1024 → Fin 1024 → EReal) (D : Fin 1024 → EReal) (b : Fin 2) (h : Fin 16) (l : Fin 2048) (e : Fin 64)
    (hx : ∀ j, x (ix3 b l j) = z j) (hw : ∀ k j, w (ix2 k j) = W k j) (hd' : ∀ j, d (ix1 j) = D j) :
    proj x w d (ix4 b h l e) = dense z W D (hd h e) := by
  rw [proj_apply]
  exact dense_congr _ _ hx (fun k => hw k _) (hd' _)

/-- The first stream's context is the model's. -/
theorem ctx0 (H : Real P) (b : Fin 2) (l : Fin 2048) (j : Fin 1024) :
    scat (res_main_v71 V) (res_main_indices V) (attn (res_main_v89 V) (res_main_v71 V)) (ix4 b (hOf j) l (eOf j)) = ctxK P 0 b l j := by
  rw [v89, w0, i0, v79]
  exact ctx_eq 0 _ _ _ _ (fun b h l e => proj_eq A _ _ _ _ _ _ b h l e (v51_apply A b l) A.Wq A.bq)
    (fun b h l e => proj_eq A _ _ _ _ _ _ b h l e (v25_apply A b l) A.Wk A.bk)
    (fun b h l e => proj_eq A _ _ _ _ _ _ b h l e (v25_apply A b l) A.Wv A.bv)
    (fun l u => (smp0_apply _ l u).trans (A.idx 0 l u)) H b l j
/-- The second stream's context is the model's. -/
theorem ctx1 (H : Real P) (b : Fin 2) (l : Fin 2048) (j : Fin 1024) :
    scat (res_main_v158 V) (res_main_indices_31 V) (attn (res_main_v176 V) (res_main_v158 V)) (ix4 b (hOf j) l (eOf j)) = ctxK P 1 b l j := by
  rw [v176, w1, i1, v166]
  exact ctx_eq 1 _ _ _ _ (fun b h l e => proj_eq A _ _ _ _ _ _ b h l e (v25_apply A b l) A.Wq A.bq)
    (fun b h l e => proj_eq A _ _ _ _ _ _ b h l e (v51_apply A b l) A.Wk A.bk)
    (fun b h l e => proj_eq A _ _ _ _ _ _ b h l e (v51_apply A b l) A.Wv A.bv)
    (fun l u => (smp1_apply _ l u).trans (A.idx 1 l u)) H b l j

/-- The first result is the block's mathematics of the first stream. -/
theorem out0_apply (H : Real P) (b : Fin 2) (l : Fin 2048) (j : Fin 1024) : out0 V (ix3 b l j) = outK P 0 b l j :=
  fin_apply _ _ _ _ _ _ _ _ _ A.F1 A.f1 A.m1 A.n1 A.F2 A.f2 A.m2 A.n2 b l _
    (fun j => (congrFun (v250 V) _).trans (rest_apply 0 _ _ _ _ _ _ A.Wo A.bo A.g2 A.b2 b l (v25_apply A b l) (ctx0 A H b l) j)) j
/-- The second result is the block's mathematics of the second stream. -/
theorem out1_apply (H : Real P) (b : Fin 2) (l : Fin 2048) (j : Fin 1024) : out1 V (ix3 b l j) = outK P 1 b l j :=
  fin_apply _ _ _ _ _ _ _ _ _ A.F1 A.f1 A.m1 A.n1 A.F2 A.f2 A.m2 A.n2 b l _
    (fun j => (congrFun (v275 V) _).trans (rest_apply 1 _ _ _ _ _ _ A.Wo A.bo A.g2 A.b2 b l (v51_apply A b l) (ctx1 A H b l) j)) j

end Cert.Proof.Ref

end
-- ==== Proof.PayA.lean ====
/-
  What the three row-wise bodies of the kernel compute, element by element.
-/
module

public import proofs.«01_k».proof.Proof.Gen.KernelIdeal.Skeleton
public import proofs.«01_k».proof.Proof.Spec

@[expose] public section

set_option maxRecDepth 16384

noncomputable section

namespace Cert.Proof.PayA

open Idealize.ShloMosaic Cert.KernelIdeal Cert.KernelIdeal.Gen Cert.Spec

/-- The first call's normalised block at an entry: the row's layer normalisation. -/
theorem k0_pay2_apply (x : Vec Ideal S1x512x1024 .f32) (g b : Vec Ideal S1x1024 .f32) (r : Fin 512) (j : Fin 1024) :
    k0_pay2 x g b (ix2 r j)
      = lnorm (lit 0x44800000#32) (fun k => x (ix3 0 r k)) (fun k => g (ix2 0 k)) (fun k => b (ix2 0 k)) j := by
  pointwise [k0_pay2, lnorm, mean]

/-- The same block with a leading unit axis. -/
theorem k0_pay3_apply (x : Vec Ideal S1x512x1024 .f32) (g b : Vec Ideal S1x1024 .f32) (r : Fin 512) (j : Fin 1024) :
    k0_pay3 x g b (ix3 0 r j)
      = lnorm (lit 0x44800000#32) (fun k => x (ix3 0 r k)) (fun k => g (ix2 0 k)) (fun k => b (ix2 0 k)) j := by
  unfold k0_pay3
  pointwise
  exact k0_pay2_apply x g b r j

/-- The first call's product block at an entry: an affine map of the normalised row. -/
theorem k0_qkv_apply (x : Vec Ideal S1x512x1024 .f32) (g b : Vec Ideal S1x1024 .f32) (w : Vec Ideal S1024x3072 .bf16)
    (bb : Vec Ideal S1x3072 .f32) (r : Fin 512) (j : Fin 3072) :
    k0_pay1 (k0_pay4 x g b w) (k0_pay5 bb) (ix3 0 r j)
      = dense (lnorm (lit 0x44800000#32) (fun k => x (ix3 0 r k)) (fun k => g (ix2 0 k)) (fun k => b (ix2 0 k)))
          (fun k o => w (ix2 k o)) (fun o => bb (ix2 0 o)) j := by
  unfold k0_pay1 k0_pay4 k0_pay5 dense
  pointwise
  simp only [k0_pay2_apply]

/-- The fifth call's block at an entry: the output map and the residual, normalised. -/
theorem k4_apply (x : Vec Ideal S1x512x1024 .bf16) (w : Vec Ideal S1024x1024 .bf16) (bo : Vec Ideal S1x1024 .f32)
    (xn : Vec Ideal S1x512x1024 .f32) (g b : Vec Ideal S1x1024 .f32) (r : Fin 512) (j : Fin 1024) :
    k4_pay1 (k4_pay2 x w bo xn g b) (ix3 0 r j)
      = lnorm (lit 0x44800000#32)
          (fun o => dense (fun k => x (ix3 0 r k)) (fun k o => w (ix2 k o)) (fun o => bo (ix2 0 o)) o + xn (ix3 0 r o))
          (fun k => g (ix2 0 k)) (fun k => b (ix2 0 k)) j := by
  unfold k4_pay1 k4_pay2
  pointwise [lnorm, mean, dense]

/-- The last call's hidden layer at an entry: an affine map of the row, normalised. -/
theorem k5_pay3_apply (y : Vec Ideal S1x256x1024 .bf16) (w : Vec Ideal S1024x4096 .bf16) (b g1 bb1 : Vec Ideal S1x4096 .f32)
    (r : Fin 256) (j : Fin 4096) :
    k5_pay3 y w b g1 bb1 (ix2 r j)
      = lnorm (lit 0x45800000#32)
          (dense (fun k => y (ix3 0 r k)) (fun k o => w (ix2 k o)) (fun o => b (ix2 0 o)))
          (fun k => g1 (ix2 0 k)) (fun k => bb1 (ix2 0 k)) j := by
  unfold k5_pay3 k5_pay2
  pointwise [lnorm, mean, dense]

/-- The named constant of the GELU denotes the inverse square root of two. -/
theorem root_half : Named.named (F := Ideal) (φ := .f32) κ "root_half" 0x3F3504F3#32 = (((Real.sqrt 2)⁻¹ : ℝ) : EReal) :=
  IdealRules.named_const.ideal_named_scalar _ _ _ _ rfl

/-- The last call's block at an entry: the two-layer map with its residual. -/
theorem k5_apply (y : Vec Ideal S1x256x1024 .bf16) (w : Vec Ideal S1024x4096 .bf16) (b g1 bb1 : Vec Ideal S1x4096 .f32)
    (w2 : Vec Ideal S4096x1024 .bf16) (b2 g2 bb2 : Vec Ideal S1x1024 .f32)
    (r : Fin 256) (j : Fin 1024) :
    k5_pay1 (k5_pay6 (k5_pay2 y) (k5_pay4 y w b g1 bb1) (k5_pay5 y w b g1 bb1) w2 b2 g2 bb2) (ix3 0 r j)
      = y (ix3 0 r j) + lnorm (lit 0x44800000#32)
          (dense (fun k => gelu (lnorm (lit 0x45800000#32)
              (dense (fun k => y (ix3 0 r k)) (fun k o => w (ix2 k o)) (fun o => b (ix2 0 o)))
              (fun k => g1 (ix2 0 k)) (fun k => bb1 (ix2 0 k)) k)) (fun k o => w2 (ix2 k o)) (fun o => b2 (ix2 0 o)))
          (fun k => g2 (ix2 0 k)) (fun k => bb2 (ix2 0 k)) j := by
  unfold k5_pay1 k5_pay6 k5_pay4 k5_pay5 k5_pay2
  pointwise
  simp only [k5_pay3_apply, root_half]
  rfl

end Cert.Proof.PayA

end
-- ==== Proof.Arr0.lean ====
/-
  The first call (layer normalisation and the joint product for queries, keys and values): what its two output arrays hold.
-/
module

public import proofs.«01_k».proof.Proof.PayA
public import proofs.«01_k».proof.Proof.Gen.KernelIdeal.Frame
public import Idealize.ShloMosaic.Lib.Pipeline.Value

@[expose] public section

set_option maxRecDepth 16384

noncomputable section

namespace Cert.Proof.Arr0

open Idealize.ShloMosaic Idealize.ShloMosaic.TcCoe Idealize.SL.Sem Cert.KernelIdeal Cert.KernelIdeal.Gen Cert.Spec

variable (V : (c : Dev nD) → (b : Ref sig .tc) → Buf (Elt Ideal) ((c : Thread nD τ).loc b)) (c : Dev nD)

/-- The stream of a grid point. -/
def cOf (t : Fin cfg0.N) : Fin 2 := ⟨t.val / 8, by have : t.val < 16 := t.isLt; omega⟩
/-- A block's row, in the array. -/
def rOf (t : Fin cfg0.N) (r : Fin 512) : Fin 4096 := ⟨t.val % 8 * 512 + r.val, by omega⟩

/-- Where the first window's block lies at a grid point. -/
theorem idx0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
/-- Where the second window's block lies at a grid point. -/
theorem idx1 : ∀ t : Fin cfg0.N, win0_1.index t (0 : Fin 2) = 0 ∧ win0_1.index t (1 : Fin 2) = 0 := (by decide +kernel : ∀ t : Fin grid0.N, _)
/-- Where the third window's block lies at a grid point. -/
theorem idx2 : ∀ t : Fin cfg0.N, win0_2.index t (0 : Fin 2) = 0 ∧ win0_2.index t (1 : Fin 2) = 0 := (by decide +kernel : ∀ t : Fin grid0.N, _)
/-- Where the fourth window's block lies at a grid point. -/
theorem idx3 : ∀ t : Fin cfg0.N, win0_3.index t (0 : Fin 2) = 0 ∧ win0_3.index t (1 : Fin 2) = 0 := (by decide +kernel : ∀ t : Fin grid0.N, _)
/-- Where the fifth window's block lies at a grid point. -/
theorem idx4 : ∀ t : Fin cfg0.N, win0_4.index t (0 : Fin 2) = 0 ∧ win0_4.index t (1 : Fin 2) = 0 := (by decide +kernel : ∀ t : Fin grid0.N, _)
/-- Where the sixth window's block lies at a grid point. -/
theorem idx5 : ∀ t : Fin cfg0.N, win0_5.index t (0 : Fin 3) = t.val / 8 ∧ win0_5.index t (1 : Fin 3) = t.val % 8 ∧ win0_5.index t (2 : Fin 3) = 0 :=
  (by decide +kernel : ∀ t : Fin grid0.N, _)
/-- Where the seventh window's block lies at a grid point. -/
theorem idx6 : ∀ t : Fin cfg0.N, win0_6.index t (0 : Fin 3) = t.val / 8 ∧ win0_6.index t (1 : Fin 3) = t.val % 8 ∧ win0_6.index t (2 : Fin 3) = 0 :=
  (by decide +kernel : ∀ t : Fin grid0.N, _)

/-- An index of the first window's block, as an index of its whole array. -/
theorem emb0 (t : Fin cfg0.N) (y : S1x512x1024.Idx) : ((cfg0.win 0).blk t).view.emb y = ix3 (cOf t) (rOf t (y 1)) (y 2) := by
  obtain ⟨e0, e1, e2⟩ := idx0 t
  have hy : (y 0).val < 1 := (y 0).isLt
  funext a; apply Fin.ext
  match a with
  | ⟨0, _⟩ => show win0_0.index t (0 : Fin 3) * 1 + 1 * (y 0).val = t.val / 8; omega
  | ⟨1, _⟩ => show win0_0.index t (1 : Fin 3) * 512 + 1 * (y 1).val = t.val % 8 * 512 + (y 1).val; omega
  | ⟨2, _⟩ => show win0_0.index t (2 : Fin 3) * 1024 + 1 * (y 2).val = (y 2).val; omega

/-- An index of the second window's block, as an index of its whole array. -/
theorem emb1 (t : Fin cfg0.N) (j : S1x1024.Idx) : ((cfg0.win 1).blk t).view.emb j = j := by
  obtain ⟨e0, e1⟩ := idx1 t
  funext a; apply Fin.ext
  match a with
  | ⟨0, _⟩ => show win0_1.index t (0 : Fin 2) * 1 + 1 * (j 0).val = (j 0).val; omega
  | ⟨1, _⟩ => show win0_1.index t (1 : Fin 2) * 1024 + 1 * (j 1).val = (j 1).val; omega

/-- An index of the third window's block, as an index of its whole array. -/
theorem emb2 (t : Fin cfg0.N) (j : S1x1024.Idx) : ((cfg0.win 2).blk t).view.emb j = j := by
  obtain ⟨e0, e1⟩ := idx2 t
  funext a; apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- An index of the fourth window's block, as an index of its whole array. -/
theorem emb3 (t : Fin cfg0.N) (j : S1024x3072.Idx) : ((cfg0.win 3).blk t).view.emb j = j := by
  obtain ⟨e0, e1⟩ := idx3 t
  funext a; apply Fin.ext
  match a with
  | ⟨0, _⟩ => show win0_3.index t (0 : Fin 2) * 1024 + 1 * (j 0).val = (j 0).val; omega
  | ⟨1, _⟩ => show win0_3.index t (1 : Fin 2) * 3072 + 1 * (j 1).val = (j 1).val; omega

/-- An index of the fifth window's block, as an index of its whole array. -/
theorem emb4 (t : Fin cfg0.N) (j : S1x3072.Idx) : ((cfg0.win 4).blk t).view.emb j = j := by
  obtain ⟨e0, e1⟩ := idx4 t
  funext a; apply Fin.ext
  match a with
  | ⟨0, _⟩ => show win0_4.index t (0 : Fin 2) * 1 + 1 * (j 0).val = (j 0).val; omega
  | ⟨1, _⟩ => show win0_4.index t (1 : Fin 2) * 3072 + 1 * (j 1).val = (j 1).val; omega

/-- An index of the sixth window's block, as an index of its whole array. -/
theorem emb5 (t : Fin cfg0.N) (y : S1x512x3072.Idx) : ((cfg0.win 5).blk t).view.emb y = ix3 (cOf t) (rOf t (y 1)) (y 2) := by
  obtain ⟨e0, e1, e2⟩ := idx5 t
  have hy : (y 0).val < 1 := (y 0).isLt
  funext a; apply Fin.ext
  match a with
  | ⟨0, _⟩ => show win0_5.index t (0 : Fin 3) * 1 + 1 * (y 0).val = t.val / 8; omega
  | ⟨1, _⟩ => show win0_5.index t (1 : Fin 3) * 512 + 1 * (y 1).val = t.val % 8 * 512 + (y 1).val; omega
  | ⟨2, _⟩ => show win0_5.index t (2 : Fin 3) * 3072 + 1 * (y 2).val = (y 2).val; omega

/-- An index of the seventh window's block, as an index of its whole array. -/
theorem emb6 (t : Fin cfg0.N) (y : S1x512x1024.Idx) : ((cfg0.win 6).blk t).view.emb y = ix3 (cOf t) (rOf t (y 1)) (y 2) := by
  obtain ⟨e0, e1, e2⟩ := idx6 t
  have hy : (y 0).val < 1 := (y 0).isLt
  funext a; apply Fin.ext
  match a with
  | ⟨0, _⟩ => show win0_6.index t (0 : Fin 3) * 1 + 1 * (y 0).val = t.val / 8; omega
  | ⟨1, _⟩ => show win0_6.index t (1 : Fin 3) * 512 + 1 * (y 1).val = t.val % 8 * 512 + (y 1).val; omega
  | ⟨2, _⟩ => show win0_6.index t (2 : Fin 3) * 1024 + 1 * (y 2).val = (y 2).val; omega

/-- The point whose block holds a row, and the row's place in it. -/
theorem at_point (b : Fin 2) (l : Fin 4096) : ∃ (t : Fin cfg0.N) (r : Fin 512), b = cOf t ∧ l = rOf t r :=
  ⟨⟨b.val * 8 + l.val / 512, by show _ < 16; omega⟩, ⟨l.val % 512, by omega⟩, Fin.ext (by show b.val = (b.val * 8 + l.val / 512) / 8; omega),
    Fin.ext (by show l.val = (b.val * 8 + l.val / 512) % 8 * 512 + l.val % 512; omega)⟩

/-- The normalised rows. -/
def XN : Vec Ideal S2x4096x1024 .f32 := fun i =>
  lnorm (lit 0x44800000#32) (fun k => (V c main_v0 : Vec Ideal S2x4096x1024 .f32) (ix3 (i 0) (i 1) k))
    (fun k => (V c main_v53 : Vec Ideal S1x1024 .f32) (ix2 0 k)) (fun k => (V c main_v54 : Vec Ideal S1x1024 .f32) (ix2 0 k)) (i 2)

/-- The rows' queries, keys and values, side by side. -/
def QKV : Vec Ideal S2x4096x3072 .bf16 := fun i =>
  dense (fun k => XN V c (ix3 (i 0) (i 1) k)) (fun k o => (V c main_v2 : Vec Ideal S1024x3072 .bf16) (ix2 k o))
    (fun o => (V c main_v4 : Vec Ideal S1x3072 .f32) (ix2 0 o)) (i 2)

/-- The first window's block at a grid point, read off its array. -/
theorem blk0 (t : Fin cfg0.N) : (iblk0 V c 0 t : Vec Ideal S1x512x1024 .f32)
    = fun y => (V c main_v0 : Vec Ideal S2x4096x1024 .f32) (ix3 (cOf t) (rOf t (y 1)) (y 2)) := by
  funext y; show (V c main_v0 : Vec Ideal S2x4096x1024 .f32) (((cfg0.win 0).blk t).view.emb y) = _; rw [emb0]; rfl

/-- The second window's block at a grid point, read off its array. -/
theorem blk1 (t : Fin cfg0.N) : (iblk0 V c 1 t : Vec Ideal S1x1024 .f32) = V c main_v53 := by
  funext y; show (V c main_v53 : Vec Ideal S1x1024 .f32) (((cfg0.win 1).blk t).view.emb y) = _; rw [emb1]

/-- The third window's block at a grid point, read off its array. -/
theorem blk2 (t : Fin cfg0.N) : (iblk0 V c 2 t : Vec Ideal S1x1024 .f32) = V c main_v54 := by
  funext y; show (V c main_v54 : Vec Ideal S1x1024 .f32) (((cfg0.win 2).blk t).view.emb y) = _; rw [emb2]

/-- The fourth window's block at a grid point, read off its array. -/
theorem blk3 (t : Fin cfg0.N) : (iblk0 V c 3 t : Vec Ideal S1024x3072 .bf16) = V c main_v2 := by
  funext y; show (V c main_v2 : Vec Ideal S1024x3072 .bf16) (((cfg0.win 3).blk t).view.emb y) = _; rw [emb3]

/-- The fifth window's block at a grid point, read off its array. -/
theorem blk4 (t : Fin cfg0.N) : (iblk0 V c 4 t : Vec Ideal S1x3072 .f32) = V c main_v4 := by
  funext y; show (V c main_v4 : Vec Ideal S1x3072 .f32) (((cfg0.win 4).blk t).view.emb y) = _; rw [emb4]

/-- A load of a whole block is the block. -/
theorem ld0 (X : Vec Ideal S1x512x1024 .f32) : View.ld X r0_0 = X := View.ld_unit_zero z3 _ X
/-- A load of a whole block is the block. -/
theorem ld1 (X : Vec Ideal S1x1024 .f32) : View.ld X r0_1 = X := View.ld_unit_zero z2 _ X
/-- A load of a whole block is the block. -/
theorem ld2 (X : Vec Ideal S1024x3072 .bf16) : View.ld X r0_2 = X := View.ld_unit_zero z2 _ X
/-- A load of a whole block is the block. -/
theorem ld3 (X : Vec Ideal S1x3072 .f32) : View.ld X r0_3 = X := View.ld_unit_zero z2 _ X

/-- What the body leaves in the normalised rows' block, at a point. -/
theorem out6_eq (t : Fin cfg0.N) (y : S1x512x1024.Idx) :
    out0_6 (iblk0 V c 0 t) (iblk0 V c 1 t) (iblk0 V c 2 t) (iblk0 V c 3 t) (iblk0 V c 4 t) y = XN V c (ix3 (cOf t) (rOf t (y 1)) (y 2)) := by
  have hy : y = ix3 (0 : Fin 1) (y 1) (y 2) := by
    conv_lhs => rw [eq_ix3 y]
    congr 1; exact Fin.ext (by have : (y 0).val < 1 := (y 0).isLt; show (y 0).val = 0; omega)
  unfold out0_6
  rw [View.canon_unit_zero z3, ld0, ld1, ld1, blk0, blk1, blk2]
  conv_lhs => rw [hy]
  exact PayA.k0_pay3_apply _ _ _ _ _

/-- What the body leaves in the block of queries, keys and values, at a point. -/
theorem out5_eq (t : Fin cfg0.N) (y : S1x512x3072.Idx) :
    out0_5 (iblk0 V c 0 t) (iblk0 V c 1 t) (iblk0 V c 2 t) (iblk0 V c 3 t) (iblk0 V c 4 t) y = QKV V c (ix3 (cOf t) (rOf t (y 1)) (y 2)) := by
  have hy : y = ix3 (0 : Fin 1) (y 1) (y 2) := by
    conv_lhs => rw [eq_ix3 y]
    congr 1; exact Fin.ext (by have : (y 0).val < 1 := (y 0).isLt; show (y 0).val = 0; omega)
  unfold out0_5
  rw [View.canon_unit_zero z3, ld0, ld1, ld1, ld2, ld3, blk0, blk1, blk2, blk3, blk4]
  conv_lhs => rw [hy]
  exact PayA.k0_qkv_apply _ _ _ _ _ _ _

/-- What a grid point writes back is its block of the array named above. -/
theorem flushed6 (t : Fin cfg0.N) : (dat0 V c).flushed 6 t = ((cfg0.win 6).blk t).view.read (Elt Ideal) (XN V c) := by
  unfold Pipeline.Dat.flushed
  rw [after0_6]
  generalize hX : out0_6 (iblk0 V c 0 t) (iblk0 V c 1 t) (iblk0 V c 2 t) (iblk0 V c 3 t) (iblk0 V c 4 t) = X
  funext y
  show X y = XN V c (((cfg0.win 6).blk t).view.emb y)
  rw [emb6, ← hX, out6_eq]
  rfl

/-- What a grid point writes back is its block of the array named above. -/
theorem flushed5 (t : Fin cfg0.N) : (dat0 V c).flushed 5 t = ((cfg0.win 5).blk t).view.read (Elt Ideal) (QKV V c) := by
  unfold Pipeline.Dat.flushed
  rw [after0_5]
  generalize hX : out0_5 (iblk0 V c 0 t) (iblk0 V c 1 t) (iblk0 V c 2 t) (iblk0 V c 3 t) (iblk0 V c 4 t) = X
  funext y
  show X y = QKV V c (((cfg0.win 5).blk t).view.emb y)
  rw [emb5, ← hX, out5_eq]
  rfl

/-- Every index of the array lies in a block that some grid point writes back. -/
theorem cover5 (i : S2x4096x3072.Idx) : ∃ t : Fin cfg0.N, (cfg0.win 5).flush t = true ∧ i ∈ ((cfg0.win 5).blk t).view.set := by
  obtain ⟨t, r, h0, h1⟩ := at_point (i 0) (i 1)
  refine ⟨t, flush0_5 t, ?_⟩
  have h := ((cfg0.win 5).blk t).view.emb_mem_set (ix3 (0 : Fin 1) r (i 2) : S1x512x3072.Idx)
  rw [emb5] at h
  have e : ix3 (cOf t) (rOf t r) (i 2) = i := by rw [← h0, ← h1]; exact ix3_eta i
  exact e ▸ h

/-- After the call the array holds the contents named above. -/
theorem arr5 : (dat0 V c).arrAt 5 cfg0.N = QKV V c :=
  (dat0 V c).arrAt_eq_of_cover 5 (QKV V c) (fun t _ => flushed5 V c t) cover5

/-- Every index of the array lies in a block that some grid point writes back. -/
theorem cover6 (i : S2x4096x1024.Idx) : ∃ t : Fin cfg0.N, (cfg0.win 6).flush t = true ∧ i ∈ ((cfg0.win 6).blk t).view.set := by
  obtain ⟨t, r, h0, h1⟩ := at_point (i 0) (i 1)
  refine ⟨t, flush0_6 t, ?_⟩
  have h := ((cfg0.win 6).blk t).view.emb_mem_set (ix3 (0 : Fin 1) r (i 2) : S1x512x1024.Idx)
  rw [emb6] at h
  have e : ix3 (cOf t) (rOf t r) (i 2) = i := by rw [← h0, ← h1]; exact ix3_eta i
  exact e ▸ h

/-- After the call the array holds the contents named above. -/
theorem arr6 : (dat0 V c).arrAt 6 cfg0.N = XN V c :=
  (dat0 V c).arrAt_eq_of_cover 6 (XN V c) (fun t _ => flushed6 V c t) cover6

end Cert.Proof.Arr0

end
-- ==== Proof.Host.lean ====
/-
  What the host lines around the calls leave in the arrays they write.
-/
module

public import proofs.«01_k».proof.Proof.Arr0
public import Idealize.ShloMosaic.Lib.Claim
public import Idealize.ShloMosaic.Lib.Routing.OpsPair

@[expose] public section

set_option maxRecDepth 16384

noncomputable section

namespace Cert.Proof.Host

open Idealize.ShloMosaic Idealize.ShloMosaic.TcCoe Idealize.SL.Sem Idealize.ShloMosaic.StableHlo Cert.KernelIdeal Cert.KernelIdeal.Gen Cert.Spec

variable (V : Valuation τ sig (Elt Ideal))

/-! ### Reshapes, rows and parts -/

/-- The streams with batch and row merged. -/
theorem v0 (d b : Fin 2) (l : Fin 2048) (j : Fin 1024) : (after hostOps0 V (Proc.devRef .tc main_v0) : Vec Ideal S2x4096x1024 .f32) (ix3 d (br b l) j)
    = (V (Proc.devRef .tc main_arg0) : Vec Ideal S2x2x2048x1024 .f32) (ix4 d b l j) := by
  after_results
  pointwise
  exact congrArg _ (by
    funext a; apply Fin.ext
    match a with
    | ⟨0, _⟩ => rfl
    | ⟨1, _⟩ => show (b.val * 2048 + l.val) / 2048 = b.val; omega
    | ⟨2, _⟩ => show (b.val * 2048 + l.val) % 2048 = l.val; omega
    | ⟨3, _⟩ => rfl)

/-- The three weights side by side. -/
theorem v2 : (after hostOps0 V (Proc.devRef .tc main_v2) : Vec Ideal S1024x3072 .bf16) = (truncf (F := Ideal) .bf16 (concatenate S1024x3072 1 [⟨S1024x1024, (V (Proc.devRef .tc main_arg5) : Vec Ideal S1024x1024 .f32)⟩, ⟨S1024x1024, (V (Proc.devRef .tc main_arg7) : Vec Ideal S1024x1024 .f32)⟩, ⟨S1024x1024, (V (Proc.devRef .tc main_arg9) : Vec Ideal S1024x1024 .f32)⟩] concatenates_S1024x1024_S1024x1024_S1024x1024_S1024x3072_d1 : Vec Ideal S1024x3072 .f32) bitsLt_bf16_f32) := by
  after_results
  rfl

/-- The first third of the joined weights is the query weights. -/
theorem v2_0 (k : Fin 1024) (j : Fin 1024) : (after hostOps0 V (Proc.devRef .tc main_v2) : Vec Ideal S1024x3072 .bf16) (ix2 k (col 0 j))
    = (V (Proc.devRef .tc main_arg5) : Vec Ideal S1024x1024 .f32) (ix2 k j) := by
  rw [v2]
  pointwise
  rw [dif_pos (show (col 0 j).val < 1024 by show 0 * 1024 + j.val < 1024; omega)]
  exact congrArg _ (congrArg (ix2 k) (Fin.ext (by show 0 * 1024 + j.val = j.val; omega)))

/-- The second third of the joined weights is the key weights. -/
theorem v2_1 (k : Fin 1024) (j : Fin 1024) : (after hostOps0 V (Proc.devRef .tc main_v2) : Vec Ideal S1024x3072 .bf16) (ix2 k (col 1 j))
    = (V (Proc.devRef .tc main_arg7) : Vec Ideal S1024x1024 .f32) (ix2 k j) := by
  rw [v2]
  pointwise
  rw [dif_neg (show ¬ (col 1 j).val < 1024 by show ¬ 1 * 1024 + j.val < 1024; omega), dif_pos (show (col 1 j).val - 1024 < 1024 by show 1 * 1024 + j.val - 1024 < 1024; omega)]
  exact congrArg _ (congrArg (ix2 k) (Fin.ext (by show 1 * 1024 + j.val - 1024 = j.val; omega)))

/-- The last third of the joined weights is the value weights. -/
theorem v2_2 (k : Fin 1024) (j : Fin 1024) : (after hostOps0 V (Proc.devRef .tc main_v2) : Vec Ideal S1024x3072 .bf16) (ix2 k (col 2 j))
    = (V (Proc.devRef .tc main_arg9) : Vec Ideal S1024x1024 .f32) (ix2 k j) := by
  rw [v2]
  pointwise
  rw [dif_neg (show ¬ (col 2 j).val < 1024 by show ¬ 2 * 1024 + j.val < 1024; omega), dif_neg (show ¬ (col 2 j).val - 1024 < 1024 by show ¬ 2 * 1024 + j.val - 1024 < 1024; omega)]
  exact congrArg _ (congrArg (ix2 k) (Fin.ext (by show 2 * 1024 + j.val - 1024 - 1024 = j.val; omega)))

/-- The three biases end to end. -/
theorem v4 : (after hostOps0 V (Proc.devRef .tc main_v4) : Vec Ideal S1x3072 .f32) = broadcastInDim S1x3072 ![1] bcast_S3072_S1x3072_1 (concatenate S3072 0 [⟨S1024, (V (Proc.devRef .tc main_arg6) : Vec Ideal S1024 .f32)⟩, ⟨S1024, (V (Proc.devRef .tc main_arg8) : Vec Ideal S1024 .f32)⟩, ⟨S1024, (V (Proc.devRef .tc main_arg10) : Vec Ideal S1024 .f32)⟩] concatenates_S1024_S1024_S1024_S3072_d0) := by
  after_results
  rfl

/-- The first third of the joined biases is the query bias. -/
theorem v4_0 (j : Fin 1024) : (after hostOps0 V (Proc.devRef .tc main_v4) : Vec Ideal S1x3072 .f32) (ix2 0 (col 0 j))
    = (V (Proc.devRef .tc main_arg6) : Vec Ideal S1024 .f32) (ix1 j) := by
  rw [v4]
  pointwise
  rw [dif_pos (show (col 0 j).val < 1024 by show 0 * 1024 + j.val < 1024; omega)]
  exact congrArg _ (congrArg (ix1) (Fin.ext (by show 0 * 1024 + j.val = j.val; omega)))

/-- The second third of the joined biases is the key bias. -/
theorem v4_1 (j : Fin 1024) : (after hostOps0 V (Proc.devRef .tc main_v4) : Vec Ideal S1x3072 .f32) (ix2 0 (col 1 j))
    = (V (Proc.devRef .tc main_arg8) : Vec Ideal S1024 .f32) (ix1 j) := by
  rw [v4]
  pointwise
  rw [dif_neg (show ¬ (col 1 j).val < 1024 by show ¬ 1 * 1024 + j.val < 1024; omega), dif_pos (show (col 1 j).val - 1024 < 1024 by show 1 * 1024 + j.val - 1024 < 1024; omega)]
  exact congrArg _ (congrArg (ix1) (Fin.ext (by show 1 * 1024 + j.val - 1024 = j.val; omega)))

/-- The last third of the joined biases is the value bias. -/
theorem v4_2 (j : Fin 1024) : (after hostOps0 V (Proc.devRef .tc main_v4) : Vec Ideal S1x3072 .f32) (ix2 0 (col 2 j))
    = (V (Proc.devRef .tc main_arg10) : Vec Ideal S1024 .f32) (ix1 j) := by
  rw [v4]
  pointwise
  rw [dif_neg (show ¬ (col 2 j).val < 1024 by show ¬ 2 * 1024 + j.val < 1024; omega), dif_neg (show ¬ (col 2 j).val - 1024 < 1024 by show ¬ 2 * 1024 + j.val - 1024 < 1024; omega)]
  exact congrArg _ (congrArg (ix1) (Fin.ext (by show 2 * 1024 + j.val - 1024 - 1024 = j.val; omega)))

end Cert.Proof.Host

end
-- ==== Proof.Counts.lean ====
/-
  How often each key is sampled for each row, as the host counts it.
-/
module

public import proofs.«01_k».proof.Proof.Arr0
public import Idealize.ShloMosaic.Lib.Claim
public import Idealize.ShloMosaic.Lib.Routing.OpsPair

@[expose] public section

set_option maxRecDepth 16384

noncomputable section

namespace Cert.Proof.Host

open Idealize.ShloMosaic Idealize.ShloMosaic.TcCoe Idealize.SL.Sem Idealize.ShloMosaic.StableHlo Cert.KernelIdeal Cert.KernelIdeal.Gen Cert.Spec

variable (V : Valuation τ sig (Elt Ideal))

/-! ### The sampled keys' counts -/

/-- The pairs (row, sampled key) that the counting scatter takes. -/
def pairs (x : Vec Ideal S2048x40 .i32) : IVec S2048x40x2 32 :=
  concatenate S2048x40x2 2
    [⟨S2048x40x1,
        broadcastInDim S2048x40x1 ![0, 1] bcast_S2048x40_S2048x40x1_0_1
          (broadcastInDim S2048x40 ![0, 1] bcast_S2048x1_S2048x40_0_1
            (select
              (cmpi CmpIPredicate.slt
                (broadcastInDim S2048x1 ![0] bcast_S2048_S2048x1_0 (iotaInDim S2048 32 0))
                (broadcastInDim S2048x1 ![] bcast_S_S2048x1 (constantI S_ 32 0#32)))
              (addi (broadcastInDim S2048x1 ![0] bcast_S2048_S2048x1_0 (iotaInDim S2048 32 0))
                (broadcastInDim S2048x1 ![] bcast_S_S2048x1 (constantI S_ 32 2048#32)))
              (broadcastInDim S2048x1 ![0] bcast_S2048_S2048x1_0 (iotaInDim S2048 32 0))))⟩,
      ⟨S2048x40x1,
        broadcastInDim S2048x40x1 ![0, 1] bcast_S2048x40_S2048x40x1_0_1
          (select
            (cmpi CmpIPredicate.slt x (broadcastInDim S2048x40 ![] bcast_S_S2048x40 (constantI S_ 32 0#32)))
            (addi x (broadcastInDim S2048x40 ![] bcast_S_S2048x40 (constantI S_ 32 2048#32)))
            x)⟩]
    concatenates_S2048x40x1_S2048x40x1_S2048x40x2_d2

/-- How often each key is sampled for each row. -/
def counts (x : Vec Ideal S2048x40 .i32) : Vec Ideal S2048x2048 .f32 :=
  Host.scatterAdd (F := Ideal) scatter_S2048x2048_S2048x40x2_S2048x40_n_01_01_2
    (broadcastInDim S2048x2048 ![] bcast_S_S2048x2048 (constant (F := Ideal) S_ FTy.f32 0#32))
    (pairs x) (broadcastInDim S2048x40 ![] bcast_S_S2048x40 (constant (F := Ideal) S_ FTy.f32 1065353216#32))

/-- The first part of a scatter place is the row. -/
theorem pairs_0 (x : Vec Ideal S2048x40 .i32) (a : Fin 2048) (b : Fin 40) : pairs x (ix3 a b 0) = BitVec.ofNat 32 a.val := by
  unfold pairs
  pointwise
  exact Routing.wrap_of_lt _ _ (by rw [BitVec.toNat_ofNat]; have := a.isLt; omega)

/-- The second part of a scatter place is the sampled key. -/
theorem pairs_1 (x : Vec Ideal S2048x40 .i32) (a : Fin 2048) (b : Fin 40) (h : (x (ix2 a b)).toNat < 2048) : pairs x (ix3 a b 1) = x (ix2 a b) := by
  unfold pairs
  pointwise
  exact Routing.wrap_of_lt _ _ (by omega)

/-- The count of a key is the number of its places in the row's sample. -/
theorem counts_apply (x : Vec Ideal S2048x40 .i32) (f : Fin 2048 → Fin 40 → Fin 2048) (h : ∀ a b, x (ix2 a b) = BitVec.ofNat 32 (f a b).val)
    (l s : Fin 2048) : counts x (ix2 l s) = (((Finset.univ.filter fun u => f l u = s).card : ℝ) : EReal) := by
  unfold counts
  show Ideal.hostScatterAdd _ _ _ _ _ = _
  unfold Ideal.hostScatterAdd
  have hl : ∀ (a : Fin 2048) (b : Fin 40), scatter_S2048x2048_S2048x40x2_S2048x40_n_01_01_2.resultIdx? (ix2 a b) (pairs x) = some (ix2 l s) ↔ a = l ∧ f a b = s := by
    intro a b
    have hx : (x (ix2 a b)).toNat = (f a b).val := by rw [h, BitVec.toNat_ofNat]; have := (f a b).isLt; omega
    refine (Routing.scatter_lands2 scatter_S2048x2048_S2048x40x2_S2048x40_n_01_01_2 rfl rfl rfl (pairs x) a b l s).trans ?_
    show (pairs x (ix3 a b 0)).toInt = _ ∧ (pairs x (ix3 a b 1)).toInt = _ ↔ _
    rw [pairs_0, pairs_1 _ _ _ (by have := (f a b).isLt; omega), h, Fin.ext_iff, Fin.ext_iff,
      BitVec.toInt_eq_toNat_of_lt (by rw [BitVec.toNat_ofNat]; have := a.isLt; omega),
      BitVec.toInt_eq_toNat_of_lt (by rw [BitVec.toNat_ofNat]; have := (f a b).isLt; omega),
      BitVec.toNat_ofNat, BitVec.toNat_ofNat, Nat.mod_eq_of_lt (by have := a.isLt; omega), Nat.mod_eq_of_lt (by have := (f a b).isLt; omega)]
    omega
  have h0 : (broadcastInDim S2048x2048 ![] bcast_S_S2048x2048 (constant (F := Ideal) S_ FTy.f32 0#32)) (ix2 l s) = (0 : EReal) := by
    pointwise
  have h1 : ∀ j : S2048x40.Idx, (broadcastInDim S2048x40 ![] bcast_S_S2048x40 (constant (F := Ideal) S_ FTy.f32 1065353216#32)) j = (1 : EReal) := fun j => by
    rw [eq_ix2 j]
    pointwise
  rw [h0, zero_add, Finset.sum_congr rfl fun j _ => h1 j, Finset.sum_const, EReal.nsmul_eq_mul, mul_one]
  have hc : (Finset.univ.filter fun j : S2048x40.Idx => scatter_S2048x2048_S2048x40x2_S2048x40_n_01_01_2.resultIdx? j (pairs x) = some (ix2 l s)).card
      = (Finset.univ.filter fun u => f l u = s).card := by
    refine (Finset.card_bij (fun (u : Fin 40) _ => (ix2 l u : S2048x40.Idx)) ?_ ?_ ?_).symm
    · intro u hu
      exact Finset.mem_filter.2 ⟨Finset.mem_univ _, (hl l u).2 ⟨rfl, (Finset.mem_filter.1 hu).2⟩⟩
    · intro u _ v _ e
      exact congrFun e 1
    · intro j hj
      have hj' := (Finset.mem_filter.1 hj).2
      rw [eq_ix2 j] at hj'
      obtain ⟨ha, hb⟩ := (hl (j 0) (j 1)).1 hj'
      exact ⟨j 1, Finset.mem_filter.2 ⟨Finset.mem_univ _, ha ▸ hb⟩, by rw [← ha]; exact (eq_ix2 j).symm⟩
  rw [hc]
  norm_cast

/-- The table of counts as a scatter-add of both streams. -/
theorem v47 : (after hostOps0 V (Proc.devRef .tc main_v47) : Vec Ideal S2x2048x2048 .f32) = concatenate S2x2048x2048 0
      [⟨S1x2048x2048, broadcastInDim S1x2048x2048 ![1, 2] bcast_S2048x2048_S1x2048x2048_1_2 (counts (shapeCast S2048x40
          (extractStridedSlice S1x2048x40 ![0, 0, 0] (V (Proc.devRef .tc main_arg21)) slices_S2x2048x40_S1x2048x40_0_0_0)
                                shapeCasts_S1x2048x40_S2048x40))⟩,
       ⟨S1x2048x2048, broadcastInDim S1x2048x2048 ![1, 2] bcast_S2048x2048_S1x2048x2048_1_2 (counts (shapeCast S2048x40
          (extractStridedSlice S1x2048x40 ![1, 0, 0] (V (Proc.devRef .tc main_arg21)) slices_S2x2048x40_S1x2048x40_1_0_0)
                                shapeCasts_S1x2048x40_S2048x40))⟩] concatenates_S1x2048x2048_S1x2048x2048_S2x2048x2048_d0 := by
  after_results
  rfl

/-- The scattered table holds, at a query and a key, how often the key was sampled for the query. -/
theorem v47_apply (f : Fin 2 → Fin 2048 → Fin 40 → Fin 2048)
    (h : ∀ c a b, (V (Proc.devRef .tc main_arg21) : Vec Ideal S2x2048x40 .i32) (ix3 c a b) = BitVec.ofNat 32 (f c a b).val) (c : Fin 2) (l s : Fin 2048) :
    (after hostOps0 V (Proc.devRef .tc main_v47) : Vec Ideal S2x2048x2048 .f32) (ix3 c l s)
      = (((Finset.univ.filter fun u => f c l u = s).card : ℝ) : EReal) := by
  rw [v47]
  match c with
  | 0 =>
    refine Eq.trans (b := counts (shapeCast S2048x40
          (extractStridedSlice S1x2048x40 ![0, 0, 0] (V (Proc.devRef .tc main_arg21)) slices_S2x2048x40_S1x2048x40_0_0_0)
                                shapeCasts_S1x2048x40_S2048x40) (ix2 l s)) ?_ (counts_apply _ (f 0) (fun a b => ?_) l s)
    · pointwise
    · refine Eq.trans ?_ (h 0 a b); pointwise
  | 1 =>
    refine Eq.trans (b := counts (shapeCast S2048x40
          (extractStridedSlice S1x2048x40 ![1, 0, 0] (V (Proc.devRef .tc main_arg21)) slices_S2x2048x40_S1x2048x40_1_0_0)
                                shapeCasts_S1x2048x40_S2048x40) (ix2 l s)) ?_ (counts_apply _ (f 1) (fun a b => ?_) l s)
    · pointwise
    · refine Eq.trans ?_ (h 1 a b); pointwise

end Cert.Proof.Host

end
-- ==== Proof.Host2.lean ====
/-
  What the short host stretches between the calls leave: casts, rows, reshapes, and the two results.
-/
module

public import proofs.«01_k».proof.Proof.Counts

@[expose] public section

set_option maxRecDepth 16384

noncomputable section

namespace Cert.Proof.Host

open Idealize.ShloMosaic Idealize.ShloMosaic.TcCoe Idealize.SL.Sem Idealize.ShloMosaic.StableHlo Cert.KernelIdeal Cert.KernelIdeal.Gen Cert.Spec

variable (V : Valuation τ sig (Elt Ideal))

/-- Where the count is positive. -/
theorem v49 : (after hostOps0 V (Proc.devRef .tc main_v49) : Vec Ideal S2x2048x2048 .i1)
    = cmpf (F := Ideal) (φ := .f32) .ogt (after hostOps0 V (Proc.devRef .tc main_v47) : Vec Ideal S2x2048x2048 .f32) (broadcastInDim S2x2048x2048 ![] bcast_S_S2x2048x2048 (constant (F := Ideal) S_ .f32 0x00000000#32)) := by
  after_results

/-- The zero of the bias. -/
theorem cst11 : (after hostOps0 V (Proc.devRef .tc main_cst_11) : Vec Ideal S_ .f32) = constant (F := Ideal) S_ .f32 0x00000000#32 := by
  after_results

/-- The minus infinity of the bias. -/
theorem cst12 : (after hostOps0 V (Proc.devRef .tc main_cst_12) : Vec Ideal S_ .f32) = constant (F := Ideal) S_ .f32 0xFF800000#32 := by
  after_results

/-- The bias as a choice between its two constants. -/
theorem v50 : (after hostOps0_1 V (Proc.devRef .tc main_v50) : Vec Ideal S2x2048x2048 .f32)
    = select (V (Proc.devRef .tc main_v49) : Vec Ideal S2x2048x2048 .i1)
        (broadcastInDim S2x2048x2048 ![] bcast_S_S2x2048x2048 (V (Proc.devRef .tc main_cst_11) : Vec Ideal S_ .f32))
        (broadcastInDim S2x2048x2048 ![] bcast_S_S2x2048x2048 (V (Proc.devRef .tc main_cst_12) : Vec Ideal S_ .f32)) := by
  after_results
  rfl

/-- The additive mask of the counts: 0 where the count is positive, minus infinity elsewhere. -/
theorem bias_apply (d : Fin 2) (l s : Fin 2048) :
    (after hostOps0_1 (after hostOps0 V) (Proc.devRef .tc main_v50) : Vec Ideal S2x2048x2048 .f32) (ix3 d l s)
      = if (0 : EReal) < (after hostOps0 V (Proc.devRef .tc main_v47) : Vec Ideal S2x2048x2048 .f32) (ix3 d l s) then (0 : EReal) else ⊥ := by
  rw [v50, v49, cst11, cst12]
  generalize (after hostOps0 V (Proc.devRef .tc main_v47) : Vec Ideal S2x2048x2048 .f32) = w
  pointwise
  rw [show Ideal.ofBits .f32 0xFF800000#32 = (⊥ : EReal) by simp [Ideal.ofBits, Ideal.ieee]]

/-- The counts, narrowed, are the counts. -/
theorem v51 : (after hostOps0_2 V (Proc.devRef .tc main_v51) : Vec Ideal S2x2048x2048 .bf16) = fun i => (V (Proc.devRef .tc main_v47) : Vec Ideal S2x2048x2048 .f32) i := by
  after_results
  rfl

/-- The bias, narrowed, is the bias. -/
theorem v52 : (after hostOps0_2 V (Proc.devRef .tc main_v52) : Vec Ideal S2x2048x2048 .bf16) = fun i => (V (Proc.devRef .tc main_v50) : Vec Ideal S2x2048x2048 .f32) i := by
  after_results
  rfl

/-- What the host hands a call as the first normalisation's scale. -/
theorem v53 (j : Fin 1024) : (after hostOps0_2 V (Proc.devRef .tc main_v53) : Vec Ideal S1x1024 .f32) (ix2 0 j) = (V (Proc.devRef .tc main_arg1) : Vec Ideal S1024 .f32) (ix1 j) := by
  after_results
  pointwise

/-- What the host hands a call as the first normalisation's shift. -/
theorem v54 (j : Fin 1024) : (after hostOps0_2 V (Proc.devRef .tc main_v54) : Vec Ideal S1x1024 .f32) (ix2 0 j) = (V (Proc.devRef .tc main_arg2) : Vec Ideal S1024 .f32) (ix1 j) := by
  after_results
  pointwise

/-- What the host hands a call as the output weights. -/
theorem v60 : (after hostOps4 V (Proc.devRef .tc main_v60) : Vec Ideal S1024x1024 .bf16) = fun i => (V (Proc.devRef .tc main_arg11) : Vec Ideal S1024x1024 .f32) i := by
  after_results
  rfl

/-- What the host hands a call as the output bias. -/
theorem v61 (j : Fin 1024) : (after hostOps4 V (Proc.devRef .tc main_v61) : Vec Ideal S1x1024 .f32) (ix2 0 j) = (V (Proc.devRef .tc main_arg12) : Vec Ideal S1024 .f32) (ix1 j) := by
  after_results
  pointwise

/-- What the host hands a call as the second normalisation's scale. -/
theorem v62 (j : Fin 1024) : (after hostOps4 V (Proc.devRef .tc main_v62) : Vec Ideal S1x1024 .f32) (ix2 0 j) = (V (Proc.devRef .tc main_arg3) : Vec Ideal S1024 .f32) (ix1 j) := by
  after_results
  pointwise

/-- What the host hands a call as the second normalisation's shift. -/
theorem v63 (j : Fin 1024) : (after hostOps4 V (Proc.devRef .tc main_v63) : Vec Ideal S1x1024 .f32) (ix2 0 j) = (V (Proc.devRef .tc main_arg4) : Vec Ideal S1024 .f32) (ix1 j) := by
  after_results
  pointwise

/-- What the host hands a call as the first hidden weights. -/
theorem v65 : (after hostOps5 V (Proc.devRef .tc main_v65) : Vec Ideal S1024x4096 .bf16) = fun i => (V (Proc.devRef .tc main_arg13) : Vec Ideal S1024x4096 .f32) i := by
  after_results
  rfl

/-- What the host hands a call as the second hidden weights. -/
theorem v69 : (after hostOps5 V (Proc.devRef .tc main_v69) : Vec Ideal S4096x1024 .bf16) = fun i => (V (Proc.devRef .tc main_arg17) : Vec Ideal S4096x1024 .f32) i := by
  after_results
  rfl

/-- What the host hands a call as the first hidden bias. -/
theorem v66 (j : Fin 4096) : (after hostOps5 V (Proc.devRef .tc main_v66) : Vec Ideal S1x4096 .f32) (ix2 0 j) = (V (Proc.devRef .tc main_arg14) : Vec Ideal S4096 .f32) (ix1 j) := by
  after_results
  pointwise

/-- What the host hands a call as the hidden normalisation's scale. -/
theorem v67 (j : Fin 4096) : (after hostOps5 V (Proc.devRef .tc main_v67) : Vec Ideal S1x4096 .f32) (ix2 0 j) = (V (Proc.devRef .tc main_arg15) : Vec Ideal S4096 .f32) (ix1 j) := by
  after_results
  pointwise

/-- What the host hands a call as the hidden normalisation's shift. -/
theorem v68 (j : Fin 4096) : (after hostOps5 V (Proc.devRef .tc main_v68) : Vec Ideal S1x4096 .f32) (ix2 0 j) = (V (Proc.devRef .tc main_arg16) : Vec Ideal S4096 .f32) (ix1 j) := by
  after_results
  pointwise

/-- What the host hands a call as the second hidden bias. -/
theorem v70 (j : Fin 1024) : (after hostOps5 V (Proc.devRef .tc main_v70) : Vec Ideal S1x1024 .f32) (ix2 0 j) = (V (Proc.devRef .tc main_arg18) : Vec Ideal S1024 .f32) (ix1 j) := by
  after_results
  pointwise

/-- What the host hands a call as the last normalisation's scale. -/
theorem v71 (j : Fin 1024) : (after hostOps5 V (Proc.devRef .tc main_v71) : Vec Ideal S1x1024 .f32) (ix2 0 j) = (V (Proc.devRef .tc main_arg19) : Vec Ideal S1024 .f32) (ix1 j) := by
  after_results
  pointwise

/-- What the host hands a call as the last normalisation's shift. -/
theorem v72 (j : Fin 1024) : (after hostOps5 V (Proc.devRef .tc main_v72) : Vec Ideal S1x1024 .f32) (ix2 0 j) = (V (Proc.devRef .tc main_arg20) : Vec Ideal S1024 .f32) (ix1 j) := by
  after_results
  pointwise

/-- The context's rows, the batches one after the other. -/
theorem v59 (d b : Fin 2) (l : Fin 2048) (j : Fin 1024) : (after hostOps4 V (Proc.devRef .tc main_v59) : Vec Ideal S2x4096x1024 .bf16) (ix3 d (br b l) j)
    = (V (Proc.devRef .tc main_v58) : Vec Ideal S2x2x2048x1024 .bf16) (ix4 d b l j) := by
  after_results
  pointwise
  exact congrArg _ (by
    funext a; apply Fin.ext
    match a with
    | ⟨0, _⟩ => rfl
    | ⟨1, _⟩ => show (b.val * 2048 + l.val) / 2048 = b.val; omega
    | ⟨2, _⟩ => show (b.val * 2048 + l.val) % 2048 = l.val; omega
    | ⟨3, _⟩ => rfl)

/-- The result of stream 0. -/
theorem v76 (b : Fin 2) (l : Fin 2048) (j : Fin 1024) : (after hostOps6 V (Proc.devRef .tc main_v76) : Vec Ideal S2x2048x1024 .f32) (ix3 b l j)
    = (V (Proc.devRef .tc main_v73) : Vec Ideal S2x4096x1024 .f32) (ix3 0 (br b l) j) := by
  after_results
  pointwise
  rfl

/-- The result of stream 1. -/
theorem v78 (b : Fin 2) (l : Fin 2048) (j : Fin 1024) : (after hostOps6 V (Proc.devRef .tc main_v78) : Vec Ideal S2x2048x1024 .f32) (ix3 b l j)
    = (V (Proc.devRef .tc main_v73) : Vec Ideal S2x4096x1024 .f32) (ix3 1 (br b l) j) := by
  after_results
  pointwise
  rfl

end Cert.Proof.Host

end
-- ==== Proof.PayM.lean ====
/-
  The sparsity measure's body: what it stores for each head.
-/
module

public import proofs.«01_k».proof.Proof.Gen.KernelIdeal.Frame
public import proofs.«01_k».proof.Proof.Spec

@[expose] public section

set_option maxRecDepth 16384

noncomputable section

namespace Cert.Proof.PayM

open Idealize.ShloMosaic Cert.KernelIdeal Cert.KernelIdeal.Gen Cert.Spec

/-- The measure of row `r` of the block in head `h`, from the body's four blocks. -/
def mblk (x0 : Vec Ideal S1x256x1024 .bf16) (x1 : Vec Ideal S1x2048x1024 .bf16) (x2 x3 : Vec Ideal S1x256x2048 .bf16)
    (h : Fin 16) (r : Fin 256) : EReal :=
  mker (fun j => x0 (ix3 0 r j)) (fun s j => x1 (ix3 0 s j)) (fun s => x2 (ix3 0 r s)) (fun s => x3 (ix3 0 r s)) h

/-- A load of a whole buffer reads the buffer. -/
theorem ld_all {S : Shape} {e : EltTy} {off : Fin S.rank → ℕ} (inb : ∀ a, off a + S.size a ≤ S.size a)
    (X : Vec Ideal S e) (h : off = fun _ => 0) : View.ld X (Rect.unit off S.size inb) = X := View.ld_unit_zero h inb X

/-- An index of a row of one head is its lane's. -/
theorem at_row {f : Vec Ideal S1x1x1x256 .f32} (x : S1x1x1x256.Idx) : f x = f (ix4 0 0 0 (x 3)) := by
  have h : x = ix4 0 0 0 (x 3) := by
    funext a
    fin_cases a
    · exact Subsingleton.elim (α := Fin 1) _ _
    · exact Subsingleton.elim (α := Fin 1) _ _
    · exact Subsingleton.elim (α := Fin 1) _ _
    · rfl
  exact congrArg f h

/-- A piece of the store: row `n` of the heads. -/
theorem piece_row (x0 : Vec Ideal S1x256x1024 .bf16) (x1 : Vec Ideal S1x2048x1024 .bf16) (x2 x3 : Vec Ideal S1x256x2048 .bf16)
    (n : ℕ) (hn : n < 16) (inb : ∀ a, (![0, 0, n, 0] : Fin 4 → ℕ) a + S1x1x1x256.size a ≤ S1x1x16x256.size a) (x : S1x1x1x256.Idx) :
    mblk x0 x1 x2 x3 ((Rect.unit (s := S1x1x16x256) ![0, 0, n, 0] S1x1x1x256.size inb).emb x 2)
        ((Rect.unit (s := S1x1x16x256) ![0, 0, n, 0] S1x1x1x256.size inb).emb x 3)
      = mblk x0 x1 x2 x3 ⟨n, hn⟩ (x 3) := by
  congr 1
  · apply Fin.ext
    have h2 : (x 2).val < 1 := (x 2).isLt
    show n + 1 * (x 2).val = n
    omega
  · apply Fin.ext
    show 0 + 1 * (x 3).val = (x 3).val
    omega

/-- The body stores, at head `h` and row `r`, the measure of that row in that head. -/
theorem out1_4_apply (x0 : Vec Ideal S1x256x1024 .bf16) (x1 : Vec Ideal S1x2048x1024 .bf16) (x2 x3 : Vec Ideal S1x256x2048 .bf16)
    (h : Fin 16) (r : Fin 256) : out1_4 x0 x1 x2 x3 (ix4 0 0 h r) = mblk x0 x1 x2 x3 h r := by
  unfold_out out1_4
  rw [ld_all (S := S1x256x1024) _ x0 z3, ld_all (S := S1x2048x1024) _ x1 z3, ld_all (S := S1x256x2048) _ x2 z3,
    ld_all (S := S1x256x2048) _ x3 z3]
  refine View.canon_apply_of_pieces (Val := Elt Ideal) (S := S1x1x16x256) (e := .f32)
    (fun y => mblk x0 x1 x2 x3 (y 2) (y 3)) _ ?_ _ (cover1_4 ..)
  simp only [List.forall_mem_cons, List.not_mem_nil, false_imp_iff, implies_true, and_true]
  refine ⟨?_, ?_, ?_, ?_, ?_, ?_, ?_, ?_, ?_, ?_, ?_, ?_, ?_, ?_, ?_, ?_⟩
  all_goals
    intro x
    refine (at_row x).trans (Eq.trans ?_ (piece_row x0 x1 x2 x3 _ (by decide) _ x).symm)
    generalize (x 3 : Fin 256) = y
    unfold_payloads
    pointwise [mblk, mker, hd]

end Cert.Proof.PayM

end
-- ==== Proof.Arr1.lean ====
/-
  The second call (the sparsity measure of the queries): what its output array holds.
-/
module

public import proofs.«01_k».proof.Proof.PayM
public import proofs.«01_k».proof.Proof.Gen.KernelIdeal.Frame
public import Idealize.ShloMosaic.Lib.Pipeline.Value

@[expose] public section

set_option maxRecDepth 16384

noncomputable section

namespace Cert.Proof.Arr1

open Idealize.ShloMosaic Idealize.ShloMosaic.TcCoe Idealize.SL.Sem Cert.KernelIdeal Cert.KernelIdeal.Gen Cert.Spec

variable (V : (c : Dev nD) → (b : Ref sig .tc) → Buf (Elt Ideal) ((c : Thread nD τ).loc b)) (c : Dev nD)

/-- The stream of a grid point. -/
def cOf (t : Fin cfg1.N) : Fin 2 := ⟨t.val / 16, by have : t.val < 32 := t.isLt; omega⟩
/-- The batch of a grid point. -/
def bOf (t : Fin cfg1.N) : Fin 2 := ⟨t.val / 8 % 2, by omega⟩
/-- The row of a block's row at a grid point. -/
def rOf (t : Fin cfg1.N) (r : Fin 256) : Fin 2048 := ⟨t.val % 8 * 256 + r.val, by omega⟩

/-- An index of the first window's block, as an index of its whole array. -/
theorem emb0 (t : Fin cfg1.N) (y : S1x256x1024.Idx) : ((cfg1.win 0).blk t).view.emb y = ix3 (other (cOf t)) (br (bOf t) (rOf t (y 1))) (col 0 (y 2)) := by
  have h : ∀ t : Fin cfg1.N, win1_0.index t (0 : Fin 3) = 1 - t.val / 16 ∧ win1_0.index t (1 : Fin 3) = t.val / 8 % 2 * 8 + t.val % 8 ∧ win1_0.index t (2 : Fin 3) = 0 :=
    (by decide +kernel : ∀ t : Fin grid1.N, _)
  obtain ⟨e0, e1, e2⟩ := h t
  have y0 : (y 0).val < 1 := (y 0).isLt
  funext a; apply Fin.ext
  match a with
  | ⟨0, _⟩ => show win1_0.index t (0 : Fin 3) * 1 + 1 * (y 0).val = 1 - t.val / 16; omega
  | ⟨1, _⟩ => show win1_0.index t (1 : Fin 3) * 256 + 1 * (y 1).val = t.val / 8 % 2 * 2048 + (t.val % 8 * 256 + (y 1).val); omega
  | ⟨2, _⟩ => show win1_0.index t (2 : Fin 3) * 1024 + 1 * (y 2).val = 0 * 1024 + (y 2).val; omega

/-- The first window's block at a grid point, read off its array. -/
theorem blk0 (t : Fin cfg1.N) : (iblk1 V c 0 t : Vec Ideal S1x256x1024 .bf16)
    = fun y => (V c main_v55_0 : Vec Ideal S2x4096x3072 .bf16) (ix3 (other (cOf t)) (br (bOf t) (rOf t (y 1))) (col 0 (y 2))) := by
  funext y; show (V c main_v55_0 : Vec Ideal S2x4096x3072 .bf16) (((cfg1.win 0).blk t).view.emb y) = _; rw [emb0]

/-- An index of the second window's block, as an index of its whole array. -/
theorem emb1 (t : Fin cfg1.N) (y : S1x2048x1024.Idx) : ((cfg1.win 1).blk t).view.emb y = ix3 (cOf t) (br (bOf t) (y 1)) (col 1 (y 2)) := by
  have h : ∀ t : Fin cfg1.N, win1_1.index t (0 : Fin 3) = t.val / 16 ∧ win1_1.index t (1 : Fin 3) = t.val / 8 % 2 ∧ win1_1.index t (2 : Fin 3) = 1 :=
    (by decide +kernel : ∀ t : Fin grid1.N, _)
  obtain ⟨e0, e1, e2⟩ := h t
  have y0 : (y 0).val < 1 := (y 0).isLt
  funext a; apply Fin.ext
  match a with
  | ⟨0, _⟩ => show win1_1.index t (0 : Fin 3) * 1 + 1 * (y 0).val = t.val / 16; omega
  | ⟨1, _⟩ => show win1_1.index t (1 : Fin 3) * 2048 + 1 * (y 1).val = t.val / 8 % 2 * 2048 + (y 1).val; omega
  | ⟨2, _⟩ => show win1_1.index t (2 : Fin 3) * 1024 + 1 * (y 2).val = 1 * 1024 + (y 2).val; omega

/-- The second window's block at a grid point, read off its array. -/
theorem blk1 (t : Fin cfg1.N) : (iblk1 V c 1 t : Vec Ideal S1x2048x1024 .bf16)
    = fun y => (V c main_v55_0 : Vec Ideal S2x4096x3072 .bf16) (ix3 (cOf t) (br (bOf t) (y 1)) (col 1 (y 2))) := by
  funext y; show (V c main_v55_0 : Vec Ideal S2x4096x3072 .bf16) (((cfg1.win 1).blk t).view.emb y) = _; rw [emb1]

/-- An index of the third window's block, as an index of its whole array. -/
theorem emb2 (t : Fin cfg1.N) (y : S1x256x2048.Idx) : ((cfg1.win 2).blk t).view.emb y = ix3 (cOf t) (rOf t (y 1)) (y 2) := by
  have h : ∀ t : Fin cfg1.N, win1_2.index t (0 : Fin 3) = t.val / 16 ∧ win1_2.index t (1 : Fin 3) = t.val % 8 ∧ win1_2.index t (2 : Fin 3) = 0 :=
    (by decide +kernel : ∀ t : Fin grid1.N, _)
  obtain ⟨e0, e1, e2⟩ := h t
  have y0 : (y 0).val < 1 := (y 0).isLt
  funext a; apply Fin.ext
  match a with
  | ⟨0, _⟩ => show win1_2.index t (0 : Fin 3) * 1 + 1 * (y 0).val = t.val / 16; omega
  | ⟨1, _⟩ => show win1_2.index t (1 : Fin 3) * 256 + 1 * (y 1).val = t.val % 8 * 256 + (y 1).val; omega
  | ⟨2, _⟩ => show win1_2.index t (2 : Fin 3) * 2048 + 1 * (y 2).val = (y 2).val; omega

/-- The third window's block at a grid point, read off its array. -/
theorem blk2 (t : Fin cfg1.N) : (iblk1 V c 2 t : Vec Ideal S1x256x2048 .bf16)
    = fun y => (V c main_v51 : Vec Ideal S2x2048x2048 .bf16) (ix3 (cOf t) (rOf t (y 1)) (y 2)) := by
  funext y; show (V c main_v51 : Vec Ideal S2x2048x2048 .bf16) (((cfg1.win 2).blk t).view.emb y) = _; rw [emb2]; rfl

/-- An index of the fourth window's block, as an index of its whole array. -/
theorem emb3 (t : Fin cfg1.N) (y : S1x256x2048.Idx) : ((cfg1.win 3).blk t).view.emb y = ix3 (cOf t) (rOf t (y 1)) (y 2) := by
  have h : ∀ t : Fin cfg1.N, win1_3.index t (0 : Fin 3) = t.val / 16 ∧ win1_3.index t (1 : Fin 3) = t.val % 8 ∧ win1_3.index t (2 : Fin 3) = 0 :=
    (by decide +kernel : ∀ t : Fin grid1.N, _)
  obtain ⟨e0, e1, e2⟩ := h t
  have y0 : (y 0).val < 1 := (y 0).isLt
  funext a; apply Fin.ext
  match a with
  | ⟨0, _⟩ => show win1_3.index t (0 : Fin 3) * 1 + 1 * (y 0).val = t.val / 16; omega
  | ⟨1, _⟩ => show win1_3.index t (1 : Fin 3) * 256 + 1 * (y 1).val = t.val % 8 * 256 + (y 1).val; omega
  | ⟨2, _⟩ => show win1_3.index t (2 : Fin 3) * 2048 + 1 * (y 2).val = (y 2).val; omega

/-- The fourth window's block at a grid point, read off its array. -/
theorem blk3 (t : Fin cfg1.N) : (iblk1 V c 3 t : Vec Ideal S1x256x2048 .bf16)
    = fun y => (V c main_v52 : Vec Ideal S2x2048x2048 .bf16) (ix3 (cOf t) (rOf t (y 1)) (y 2)) := by
  funext y; show (V c main_v52 : Vec Ideal S2x2048x2048 .bf16) (((cfg1.win 3).blk t).view.emb y) = _; rw [emb3]; rfl

/-- An index of the fifth window's block, as an index of its whole array. -/
theorem emb4 (t : Fin cfg1.N) (y : S1x1x16x256.Idx) : ((cfg1.win 4).blk t).view.emb y = ix4 (cOf t) (bOf t) (y 2) (rOf t (y 3)) := by
  have h : ∀ t : Fin cfg1.N, win1_4.index t (0 : Fin 4) = t.val / 16 ∧ win1_4.index t (1 : Fin 4) = t.val / 8 % 2 ∧ win1_4.index t (2 : Fin 4) = 0 ∧ win1_4.index t (3 : Fin 4) = t.val % 8 :=
    (by decide +kernel : ∀ t : Fin grid1.N, _)
  obtain ⟨e0, e1, e2, e3⟩ := h t
  have y0 : (y 0).val < 1 := (y 0).isLt
  have y1 : (y 1).val < 1 := (y 1).isLt
  funext a; apply Fin.ext
  match a with
  | ⟨0, _⟩ => show win1_4.index t (0 : Fin 4) * 1 + 1 * (y 0).val = t.val / 16; omega
  | ⟨1, _⟩ => show win1_4.index t (1 : Fin 4) * 1 + 1 * (y 1).val = t.val / 8 % 2; omega
  | ⟨2, _⟩ => show win1_4.index t (2 : Fin 4) * 16 + 1 * (y 2).val = (y 2).val; omega
  | ⟨3, _⟩ => show win1_4.index t (3 : Fin 4) * 256 + 1 * (y 3).val = t.val % 8 * 256 + (y 3).val; omega

/-- The point whose block holds a row, and the row's place in it. -/
theorem at_point (d b : Fin 2) (l : Fin 2048) : ∃ (t : Fin cfg1.N) (r : Fin 256), d = cOf t ∧ b = bOf t ∧ l = rOf t r :=
  ⟨⟨d.val * 16 + b.val * 8 + l.val / 256, by show _ < 32; omega⟩, ⟨l.val % 256, by omega⟩,
    Fin.ext (by show d.val = (d.val * 16 + b.val * 8 + l.val / 256) / 16; omega),
    Fin.ext (by show b.val = (d.val * 16 + b.val * 8 + l.val / 256) / 8 % 2; omega),
    Fin.ext (by show l.val = (d.val * 16 + b.val * 8 + l.val / 256) % 8 * 256 + l.val % 256; omega)⟩

/-- The measure of every row, in every head. -/
def M : Vec Ideal S2x2x16x2048 .f32 := fun i =>
  mker (fun j => (V c main_v55_0 : Vec Ideal S2x4096x3072 .bf16) (ix3 (other (i 0)) (br (i 1) (i 3)) (col 0 j)))
    (fun s j => (V c main_v55_0 : Vec Ideal S2x4096x3072 .bf16) (ix3 (i 0) (br (i 1) s) (col 1 j)))
    (fun s => (V c main_v51 : Vec Ideal S2x2048x2048 .bf16) (ix3 (i 0) (i 3) s))
    (fun s => (V c main_v52 : Vec Ideal S2x2048x2048 .bf16) (ix3 (i 0) (i 3) s)) (i 2)

/-- What the body leaves in its output block, at a point. -/
theorem out_eq (t : Fin cfg1.N) (y : S1x1x16x256.Idx) :
    out1_4 (iblk1 V c 0 t) (iblk1 V c 1 t) (iblk1 V c 2 t) (iblk1 V c 3 t) y = M V c (ix4 (cOf t) (bOf t) (y 2) (rOf t (y 3))) := by
  have hy : y = ix4 (0 : Fin 1) (0 : Fin 1) (y 2) (y 3) := by
    conv_lhs => rw [eq_ix4 y]
    have h0 : y 0 = (0 : Fin 1) := Fin.ext (by have : (y 0).val < 1 := (y 0).isLt; show (y 0).val = 0; omega)
    have h1 : y 1 = (0 : Fin 1) := Fin.ext (by have : (y 1).val < 1 := (y 1).isLt; show (y 1).val = 0; omega)
    rw [h0, h1]; rfl
  rw [blk0, blk1, blk2, blk3]
  conv_lhs => rw [hy]
  exact PayM.out1_4_apply _ _ _ _ _ _

/-- What a grid point writes back is its block of the array named above. -/
theorem flushed (t : Fin cfg1.N) : (dat1 V c).flushed 4 t = ((cfg1.win 4).blk t).view.read (Elt Ideal) (M V c) := by
  unfold Pipeline.Dat.flushed
  rw [after1_4]
  generalize hX : out1_4 (iblk1 V c 0 t) (iblk1 V c 1 t) (iblk1 V c 2 t) (iblk1 V c 3 t) = X
  funext y
  show X y = M V c (((cfg1.win 4).blk t).view.emb y)
  rw [emb4, ← hX, out_eq]
  rfl

/-- Every index of the array lies in a block that some grid point writes back. -/
theorem cover (i : S2x2x16x2048.Idx) : ∃ t : Fin cfg1.N, (cfg1.win 4).flush t = true ∧ i ∈ ((cfg1.win 4).blk t).view.set := by
  obtain ⟨t, r, h0, h1, h2⟩ := at_point (i 0) (i 1) (i 3)
  refine ⟨t, flush1_4 t, ?_⟩
  have h := ((cfg1.win 4).blk t).view.emb_mem_set (ix4 (0 : Fin 1) (0 : Fin 1) (i 2) r : S1x1x16x256.Idx)
  rw [emb4] at h
  have e : ix4 (cOf t) (bOf t) (i 2) (rOf t r) = i := by rw [← h0, ← h1, ← h2]; exact ix4_eta i
  exact e ▸ h

/-- The array that the call leaves. -/
theorem arr : (dat1 V c).arrAt 4 cfg1.N = M V c :=
  (dat1 V c).arrAt_eq_of_cover 4 (M V c) (fun t _ => flushed V c t) cover

end Cert.Proof.Arr1

end
-- ==== Proof.PayC.lean ====
/-
  The attention's body: what it stores for each head.
-/
module

public import proofs.«01_k».proof.Proof.PayM

@[expose] public section

set_option maxRecDepth 16384

noncomputable section

namespace Cert.Proof.PayC

open Idealize.ShloMosaic Cert.KernelIdeal Cert.KernelIdeal.Gen Cert.Spec

/-- Column `e` of head `n` of a block of eight heads. -/
def hd8 (n : Fin 8) (e : Fin 64) : Fin 512 := ⟨n.val * 64 + e.val, by omega⟩

/-- The context of the block's head `n`, from the body's four blocks. -/
def cblk (x0 : Vec Ideal S1x1x8x40 .i32) (x1 x2 x3 : Vec Ideal S1x2048x512 .bf16) (n : Fin 8) (s : Fin 2048) (e : Fin 64) : EReal :=
  ctxker (fun u => x0 (ix4 0 0 n u)) (fun r f => x1 (ix3 0 r (hd8 n f))) (fun r f => x2 (ix3 0 r (hd8 n f)))
    (fun r f => x3 (ix3 0 r (hd8 n f))) s e

/-- The comparison's bit, widened and read as a number, is the mark. -/
theorem mark_eq (a b : BitVec 32) :
    (FloatOps.sitofp (F := Ideal) FTy.f32 (BitVec.setWidth 32 (IntOp.cmpi CmpIPredicate.eq a b)) : EReal) = if a = b then 1 else 0 := by
  have h : IntOp.cmpi CmpIPredicate.eq a b = if a = b then 1#1 else 0#1 := by
    unfold IntOp.cmpi
    by_cases hab : a = b
    · subst hab; simp
    · rw [if_neg hab, show (a == b) = false from beq_eq_false_iff_ne.mpr hab]; rfl
  rw [h]
  by_cases hab : a = b
  · rw [if_pos hab, if_pos hab]
    show ((((BitVec.setWidth 32 1#1).toInt : ℝ)) : EReal) = 1
    norm_num
  · rw [if_neg hab, if_neg hab]
    show ((((BitVec.setWidth 32 0#1).toInt : ℝ)) : EReal) = 0
    norm_num

/-- An index of a slab of columns of one head is its row's and its column's. -/
theorem at_slab {f : Vec Ideal S1x1x2048x64 .bf16} (x : S1x1x2048x64.Idx) : f x = f (ix4 0 0 (x 2) (x 3)) := by
  have h : x = ix4 0 0 (x 2) (x 3) := by
    funext a
    fin_cases a
    · exact Subsingleton.elim (α := Fin 1) _ _
    · exact Subsingleton.elim (α := Fin 1) _ _
    · rfl
    · rfl
  exact congrArg f h

/-- The value the store's array holds at row `s` and column `j` of the block. -/
def cval (x0 : Vec Ideal S1x1x8x40 .i32) (x1 x2 x3 : Vec Ideal S1x2048x512 .bf16) (s : Fin 2048) (j : Fin 512) : EReal :=
  cblk x0 x1 x2 x3 ⟨j.val / 64, by omega⟩ s ⟨j.val % 64, by omega⟩

/-- A piece of the store: the columns from `64·n` on. -/
theorem piece_slab (x0 : Vec Ideal S1x1x8x40 .i32) (x1 x2 x3 : Vec Ideal S1x2048x512 .bf16)
    (o : ℕ) (n : ℕ) (hn : n < 8) (ho : o = n * 64) (inb : ∀ a, (![0, 0, 0, o] : Fin 4 → ℕ) a + S1x1x2048x64.size a ≤ S1x1x2048x512.size a)
    (x : S1x1x2048x64.Idx) :
    cval x0 x1 x2 x3 ((Rect.unit (s := S1x1x2048x512) ![0, 0, 0, o] S1x1x2048x64.size inb).emb x 2)
        ((Rect.unit (s := S1x1x2048x512) ![0, 0, 0, o] S1x1x2048x64.size inb).emb x 3)
      = cblk x0 x1 x2 x3 ⟨n, hn⟩ (x 2) (x 3) := by
  subst ho
  have h3 : (x 3).val < 64 := (x 3).isLt
  unfold cval
  congr 1
  · apply Fin.ext
    show (n * 64 + 1 * (x 3).val) / 64 = n
    omega
  · apply Fin.ext
    show 0 + 1 * (x 2).val = (x 2).val
    omega
  · apply Fin.ext
    show (n * 64 + 1 * (x 3).val) % 64 = (x 3).val
    omega

set_option maxHeartbeats 1000000 in
/-- The body stores, at row `s` and column `j` of the block, the context of the column's head. -/
theorem out3_4_apply (x0 : Vec Ideal S1x1x8x40 .i32) (x1 x2 x3 : Vec Ideal S1x2048x512 .bf16) (s : Fin 2048) (j : Fin 512) :
    out3_4 x0 x1 x2 x3 (ix4 0 0 s j) = cval x0 x1 x2 x3 s j := by
  unfold_out out3_4
  rw [PayM.ld_all (S := S1x1x8x40) _ x0 z4, PayM.ld_all (S := S1x2048x512) _ x1 z3,
    PayM.ld_all (S := S1x2048x512) _ x2 z3, PayM.ld_all (S := S1x2048x512) _ x3 z3]
  refine View.canon_apply_of_pieces (Val := Elt Ideal) (S := S1x1x2048x512) (e := .bf16)
    (fun y => cval x0 x1 x2 x3 (y 2) (y 3)) _ ?_ _ (cover3_4 ..)
  simp only [List.forall_mem_cons, List.not_mem_nil, false_imp_iff, implies_true, and_true]
  refine ⟨?_, ?_, ?_, ?_, ?_, ?_, ?_, ?_⟩
  · intro x
    refine (at_slab x).trans (Eq.trans ?_ (piece_slab x0 x1 x2 x3 _ 7 (by decide) (by decide) _ x).symm)
    generalize (x 2 : Fin 2048) = r
    generalize (x 3 : Fin 64) = y
    unfold_payloads
    pointwise [cblk, ctxker, softmax, mark, hd8]
    simp only [mark_eq]
  · intro x
    refine (at_slab x).trans (Eq.trans ?_ (piece_slab x0 x1 x2 x3 _ 6 (by decide) (by decide) _ x).symm)
    generalize (x 2 : Fin 2048) = r
    generalize (x 3 : Fin 64) = y
    unfold_payloads
    pointwise [cblk, ctxker, softmax, mark, hd8]
    simp only [mark_eq]
  · intro x
    refine (at_slab x).trans (Eq.trans ?_ (piece_slab x0 x1 x2 x3 _ 5 (by decide) (by decide) _ x).symm)
    generalize (x 2 : Fin 2048) = r
    generalize (x 3 : Fin 64) = y
    unfold_payloads
    pointwise [cblk, ctxker, softmax, mark, hd8]
    simp only [mark_eq]
  · intro x
    refine (at_slab x).trans (Eq.trans ?_ (piece_slab x0 x1 x2 x3 _ 4 (by decide) (by decide) _ x).symm)
    generalize (x 2 : Fin 2048) = r
    generalize (x 3 : Fin 64) = y
    unfold_payloads
    pointwise [cblk, ctxker, softmax, mark, hd8]
    simp only [mark_eq]
  · intro x
    refine (at_slab x).trans (Eq.trans ?_ (piece_slab x0 x1 x2 x3 _ 3 (by decide) (by decide) _ x).symm)
    generalize (x 2 : Fin 2048) = r
    generalize (x 3 : Fin 64) = y
    unfold_payloads
    pointwise [cblk, ctxker, softmax, mark, hd8]
    simp only [mark_eq]
  · intro x
    refine (at_slab x).trans (Eq.trans ?_ (piece_slab x0 x1 x2 x3 _ 2 (by decide) (by decide) _ x).symm)
    generalize (x 2 : Fin 2048) = r
    generalize (x 3 : Fin 64) = y
    unfold_payloads
    pointwise [cblk, ctxker, softmax, mark, hd8]
    simp only [mark_eq]
  · intro x
    refine (at_slab x).trans (Eq.trans ?_ (piece_slab x0 x1 x2 x3 _ 1 (by decide) (by decide) _ x).symm)
    generalize (x 2 : Fin 2048) = r
    generalize (x 3 : Fin 64) = y
    unfold_payloads
    pointwise [cblk, ctxker, softmax, mark, hd8]
    simp only [mark_eq]
  · intro x
    refine (at_slab x).trans (Eq.trans ?_ (piece_slab x0 x1 x2 x3 _ 0 (by decide) (by decide) _ x).symm)
    generalize (x 2 : Fin 2048) = r
    generalize (x 3 : Fin 64) = y
    unfold_payloads
    pointwise [cblk, ctxker, softmax, mark, hd8]
    simp only [mark_eq]

end Cert.Proof.PayC

end
-- ==== Proof.PayT.lean ====
/-
  The top-40 selection's body.
-/
module

public import proofs.«01_k».proof.Proof.PayC
public import proofs.«01_k».proof.Proof.Select

@[expose] public section

set_option maxRecDepth 16384

noncomputable section

namespace Cert.Proof.PayT

open Idealize.ShloMosaic Idealize.SL.Sem Cert.KernelIdeal Cert.KernelIdeal.Gen Cert.Spec Cert.Select

/-- The forty rounds of the choice, from the measure's rows and an empty list. -/
def fold40 (x0 : Vec Ideal S2x2x16x2048 .f32) : FVec Ideal S64x2048 .f32 × IVec S64x40 32 :=
  Scf.fold (fun (t : Fin k2_t1_loop.trips) (s : FVec Ideal S64x2048 .f32 × IVec S64x40 32) => (k2_pay5 s.1, k2_pay4 t s.1 s.2)) (k2_pay1 x0, k2_pay2)

/-- The third call writes one piece, the list after the forty rounds. -/
theorem run2_pieces (c : Dev nD) (i : grid2.Coords) (arg1 : Memref sig .tc .vmem S2x2x16x2048 .f32) (harg1 : arg1.IsWhole) (arg2 : Memref sig .tc .vmem S2x2x16x40 .i32) (harg2 : arg2.IsWhole)
    (x0 : Vec Ideal S2x2x16x2048 .f32) :
    (kernelRun2_A c i arg1 harg1 arg2 harg2 x0).1 = [⟨Rect.unit (s := S2x2x16x40) ![0, 0, 0, 0] S2x2x16x40.size inb_S2x2x16x40_S2x2x16x40_0_0_0_0,
        k2_pay6 (fold40 x0).2⟩] := by
  have h : View.readAt (Elt Ideal) arg1.view (Rect.unit (s := S2x2x16x2048) ![0, 0, 0, 0] S2x2x16x2048.size
      inb_S2x2x16x2048_S2x2x16x2048_0_0_0_0).toLoadRect (harg1.unread x0) = x0 := by
    funext x
    refine (congrFun (harg1.read_unread x0) _).trans ?_
    exact congrFun (PayM.ld_all (S := S2x2x16x2048) inb_S2x2x16x2048_S2x2x16x2048_0_0_0_0 x0 z4) x
  unfold kernelRun2_A kernelRun2_A.sl.r fold40
  exact congrArg (fun v => [(⟨Rect.unit (s := S2x2x16x40) ![0, 0, 0, 0] S2x2x16x40.size inb_S2x2x16x40_S2x2x16x40_0_0_0_0,
    k2_pay6 (Scf.fold (fun (t : Fin k2_t1_loop.trips) (s : FVec Ideal S64x2048 .f32 × IVec S64x40 32) =>
      (k2_pay5 s.1, k2_pay4 t s.1 s.2)) (k2_pay1 v, k2_pay2)).2⟩ : View.Piece (Elt Ideal) S2x2x16x40 .i32)]) h

/-- The bits of minus infinity denote it. -/
theorem lit_bot : lit 0xFF800000#32 = ⊥ := by
  simp [lit, Ideal.ofBits, Ideal.ieee]

/-- The largest of a row, from minus infinity, is the row at its first largest position. -/
theorem fold_max_eq {n : ℕ} [NeZero n] (m : Fin n → EReal) : Finset.univ.fold max (lit 0xFF800000#32) m = m (pick m) := by
  rw [lit_bot]
  refine le_antisymm ?_ ?_
  · rw [Finset.fold_max_le]
    exact ⟨bot_le, fun x _ => (pick_spec m).1 x⟩
  · rw [Finset.le_fold_max]
    exact Or.inr ⟨pick m, Finset.mem_univ _, le_refl _⟩

/-- A small number as a word reads as itself in the signed order. -/
theorem toInt_ofNat_lt (x : ℕ) (h : x < 2049) : (BitVec.ofNat 32 x).toInt = x := by
  rw [BitVec.toInt_eq_toNat_of_lt] <;> rw [BitVec.toNat_ofNat, Nat.mod_eq_of_lt] <;> omega

/-- The smaller of two words reads as the smaller of what they read as. -/
theorem toInt_minsi (x y : BitVec 32) : (IntOp.minsi x y).toInt = min x.toInt y.toInt := by
  unfold IntOp.minsi
  by_cases h : x.slt y
  · rw [if_pos h, min_eq_left]
    exact (BitVec.slt_iff_toInt_lt.mp h).le
  · rw [if_neg h, min_eq_right]
    exact not_lt.mp fun h' => h (BitVec.slt_iff_toInt_lt.mpr h')

/-- The smallest index among a row's largest entries is its first largest position. -/
theorem fold_min_eq (m : Fin 2048 → EReal) :
    Finset.univ.fold IntOp.minsi 2147483647#32
        (fun x : Fin 2048 => if m x = Finset.univ.fold max (lit 0xFF800000#32) m then BitVec.ofNat 32 x.val else 2048#32)
      = BitVec.ofNat 32 (pick m).val := by
  rw [fold_max_eq]
  apply BitVec.eq_of_toInt_eq
  rw [toInt_ofNat_lt _ (by have := (pick m).isLt; omega)]
  apply le_antisymm
  · refine ((Finset.fold_op_rel_iff_or (r := fun x y : BitVec 32 => y.toInt ≤ x.toInt) (op := IntOp.minsi) ?_
      (c := BitVec.ofNat 32 (pick m).val)).mpr (Or.inr ⟨pick m, Finset.mem_univ _, ?_⟩)).trans ?_
    · intro x y z
      show (IntOp.minsi y z).toInt ≤ x.toInt ↔ _
      rw [toInt_minsi, min_le_iff]
    · show (if m (pick m) = m (pick m) then BitVec.ofNat 32 (pick m).val else 2048#32).toInt ≤ _
      rw [if_pos rfl]
    · rw [toInt_ofNat_lt _ (by have := (pick m).isLt; omega)]
  · refine le_trans ?_ ((Finset.fold_op_rel_iff_and (r := fun x y : BitVec 32 => x.toInt ≤ y.toInt) (op := IntOp.minsi) ?_
      (c := BitVec.ofNat 32 (pick m).val)).mpr ⟨?_, fun x _ => ?_⟩)
    · rw [toInt_ofNat_lt _ (by have := (pick m).isLt; omega)]
    · intro x y z
      show x.toInt ≤ (IntOp.minsi y z).toInt ↔ _
      rw [toInt_minsi, le_min_iff]
    · show (BitVec.ofNat 32 (pick m).val).toInt ≤ _
      rw [toInt_ofNat_lt _ (by have := (pick m).isLt; omega)]
      have := (pick m).isLt
      have h2 : (2147483647#32 : BitVec 32).toInt = 2147483647 := by decide
      omega
    · show (BitVec.ofNat 32 (pick m).val).toInt ≤ (if m x = m (pick m) then BitVec.ofNat 32 x.val else 2048#32).toInt
      rw [toInt_ofNat_lt _ (by have := (pick m).isLt; omega)]
      by_cases h : m x = m (pick m)
      · rw [if_pos h, toInt_ofNat_lt _ (by have := x.isLt; omega)]
        by_contra hlt
        have := (pick_spec m).2 x (by rw [Fin.lt_def]; omega)
        rw [h] at this
        exact lt_irrefl _ this
      · rw [if_neg h]
        have := (pick m).isLt
        have h2 : (2048#32 : BitVec 32).toInt = 2048 := by decide
        omega

/-- One round's first largest position of each row. -/
theorem pay3_apply (a : FVec Ideal S64x2048 .f32) (n : Fin 64) :
    k2_pay3 a (ix2 n 0) = BitVec.ofNat 32 (pick fun s => a (ix2 n s)).val := by
  unfold k2_pay3
  pointwise
  exact fold_min_eq fun s => a (ix2 n s)

/-- A select on equal positions is an `if`. -/
theorem sel_pos {α : Type} (a b : ℕ) (ha : a < 2 ^ 32) (hb : b < 2 ^ 32) (x y : α) :
    Scalar.select (IntOp.cmpi CmpIPredicate.eq (BitVec.ofNat 32 a) (BitVec.ofNat 32 b)) x y = if a = b then x else y := by
  by_cases h : a = b
  · subst h
    rw [if_pos rfl]
    simp [Scalar.select, IntOp.cmpi]
  · rw [if_neg h]
    have hne : (BitVec.ofNat 32 a == BitVec.ofNat 32 b) = false := by
      refine beq_eq_false_iff_ne.mpr fun he => h ?_
      have := congrArg BitVec.toNat he
      rwa [BitVec.toNat_ofNat, BitVec.toNat_ofNat, Nat.mod_eq_of_lt ha, Nat.mod_eq_of_lt hb] at this
    simp [Scalar.select, IntOp.cmpi, hne]

/-- The loop's variable is the trip. -/
theorem iv_eq (t : ℕ) : Scf.iv 0#32 1#32 t = BitVec.ofNat 32 t := by
  simp [Scf.iv]

/-- One round's measure: the position it takes at minus infinity. -/
theorem pay5_apply (a : FVec Ideal S64x2048 .f32) (n : Fin 64) (s : Fin 2048) :
    k2_pay5 a (ix2 n s) = if s = pick (fun s => a (ix2 n s)) then ⊥ else a (ix2 n s) := by
  unfold k2_pay5
  pointwise
  rw [pay3_apply]
  rw [sel_pos _ _ (by have := s.isLt; omega) (by have := (pick fun s => a (ix2 n s)).isLt; omega)]
  simp only [Fin.val_inj]
  rw [show Ideal.ofBits FTy.f32 4286578688#32 = ⊥ from lit_bot]

/-- One round's list: its entry for the round is the position it takes. -/
theorem pay4_apply (t : Fin k2_t1_loop.trips) (a : FVec Ideal S64x2048 .f32) (b : IVec S64x40 32) (n : Fin 64) (u : Fin 40) :
    k2_pay4 t a b (ix2 n u) = if u.val = t.val then BitVec.ofNat 32 (pick fun s => a (ix2 n s)).val else b (ix2 n u) := by
  unfold k2_pay4
  pointwise
  rw [pay3_apply]
  rw [iv_eq, sel_pos _ _ (by have := u.isLt; omega) (by have := t.isLt; have := k2_t1_abs.2.1; omega)]

/-- A fold over the first `n` positions keeps an invariant counted by them. -/
theorem fold_inv {σ : Type} (n : ℕ) (P : ℕ → σ → Prop) (g : Fin n → σ → σ) (i : σ) (h0 : P 0 i)
    (hs : ∀ (t : Fin n) s, P t.val s → P (t.val + 1) (g t s)) : P n (Scf.fold g i) := by
  rw [Scf.fold_eq]
  have key : ∀ (k : ℕ) (hk : k ≤ n), P k (((List.finRange n).take k).foldl (fun acc t => g t acc) i) := by
    intro k
    induction k with
    | zero => intro _; simpa using h0
    | succ k ih =>
      intro hk
      rw [List.take_succ_eq_append_getElem (by simpa using hk), List.foldl_append]
      have := hs ⟨k, hk⟩ _ (ih (by omega))
      simpa using this
  have := key n le_rfl
  rwa [List.take_of_length_le (by simp)] at this

/-- The row of the flattened measure that holds side `c`, batch `b`, head `h`. -/
def row (c b : Fin 2) (h : Fin 16) : Fin 64 := ⟨c.val * 32 + b.val * 16 + h.val, by omega⟩

/-- The loop runs forty times. -/
theorem trips_eq : k2_t1_loop.trips = 40 := by decide

/-- After the forty rounds the list holds, at `u`, the position round `u` takes. -/
theorem fold40_apply (x0 : Vec Ideal S2x2x16x2048 .f32) (n : Fin 64) (u : Fin 40) :
    (fold40 x0).2 (ix2 n u) = BitVec.ofNat 32 (pick (left (fun s => k2_pay1 x0 (ix2 n s)) u.val)).val := by
  have h := fold_inv k2_t1_loop.trips (fun t (s : FVec Ideal S64x2048 .f32 × IVec S64x40 32) =>
      (∀ i, s.1 (ix2 n i) = left (fun s => k2_pay1 x0 (ix2 n s)) t i)
      ∧ ∀ v : Fin 40, v.val < t → s.2 (ix2 n v) = BitVec.ofNat 32 (pick (left (fun s => k2_pay1 x0 (ix2 n s)) v.val)).val)
    (fun t s => (k2_pay5 s.1, k2_pay4 t s.1 s.2)) (k2_pay1 x0, k2_pay2) ⟨fun _ => rfl, fun v hv => absurd hv (Nat.not_lt_zero _)⟩ ?_
  · exact h.2 u (by rw [trips_eq]; exact u.isLt)
  · rintro t s ⟨h1, h2⟩
    have hf : (fun i => s.1 (ix2 n i)) = left (fun s => k2_pay1 x0 (ix2 n s)) t.val := funext h1
    dsimp only
    constructor
    · intro i
      rw [pay5_apply, hf, h1 i]
      simp only [left]
    · intro v hv
      rw [pay4_apply, hf]
      by_cases hvt : v.val = t.val
      · rw [if_pos hvt, hvt]
      · rw [if_neg hvt]
        exact h2 v (by omega)

/-- What the body leaves: at side `c`, batch `b`, head `h`, the positions the forty rounds take of that row. -/
theorem out2_apply (c : Dev nD) (i : grid2.Coords) (arg1 : Memref sig .tc .vmem S2x2x16x2048 .f32) (harg1 : arg1.IsWhole)
    (arg2 : Memref sig .tc .vmem S2x2x16x40 .i32) (harg2 : arg2.IsWhole) (x0 : Vec Ideal S2x2x16x2048 .f32)
    (d b : Fin 2) (h : Fin 16) (u : Fin 40) :
    out2_A_1 c i arg1 harg1 arg2 harg2 x0 (ix4 d b h u)
      = BitVec.ofNat 32 (pick (left (fun s => x0 (ix4 d b h s)) u.val)).val := by
  unfold out2_A_1
  rw [run2_pieces, View.read_writes_junk_eq_canon, View.canon_unit_zero z4]
  have hr : k2_pay6 (fold40 x0).2 (ix4 d b h u) = (fold40 x0).2 (ix2 (row d b h) u) := by
    unfold k2_pay6
    pointwise [row]
  have hx : (fun s => k2_pay1 x0 (ix2 (row d b h) s)) = fun s => x0 (ix4 d b h s) := by
    funext s
    unfold k2_pay1
    pointwise [row]
  rw [hr, fold40_apply, hx]

end Cert.Proof.PayT

end
-- ==== Proof.Arr2.lean ====
/-
  The third call (the forty rows of largest measure): what its output array holds.
-/
module

public import proofs.«01_k».proof.Proof.PayT
public import proofs.«01_k».proof.Proof.Gen.KernelIdeal.Frame
public import Idealize.ShloMosaic.Lib.Pipeline.Value

@[expose] public section

set_option maxRecDepth 16384

noncomputable section

namespace Cert.Proof.Arr2

open Idealize.ShloMosaic Idealize.ShloMosaic.TcCoe Idealize.SL.Sem Cert.KernelIdeal Cert.KernelIdeal.Gen Cert.Spec

variable (V : (c : Dev nD) → (b : Ref sig .tc) → Buf (Elt Ideal) ((c : Thread nD τ).loc b)) (c : Dev nD)

open Cert.Select

/-- An index of the first window's block, as an index of its whole array. -/
theorem emb0 (t : Fin cfg2.N) (y : S2x2x16x2048.Idx) : ((cfg2.win 0).blk t).view.emb y = ix4 (y 0) (y 1) (y 2) (y 3) := by
  have h : ∀ t : Fin cfg2.N, win2_0.index t (0 : Fin 4) = 0 ∧ win2_0.index t (1 : Fin 4) = 0 ∧ win2_0.index t (2 : Fin 4) = 0 ∧ win2_0.index t (3 : Fin 4) = 0 :=
    (by decide +kernel : ∀ t : Fin grid2.N, _)
  obtain ⟨e0, e1, e2, e3⟩ := h t
  funext a; apply Fin.ext
  match a with
  | ⟨0, _⟩ => show win2_0.index t (0 : Fin 4) * 2 + 1 * (y 0).val = (y 0).val; omega
  | ⟨1, _⟩ => show win2_0.index t (1 : Fin 4) * 2 + 1 * (y 1).val = (y 1).val; omega
  | ⟨2, _⟩ => show win2_0.index t (2 : Fin 4) * 16 + 1 * (y 2).val = (y 2).val; omega
  | ⟨3, _⟩ => show win2_0.index t (3 : Fin 4) * 2048 + 1 * (y 3).val = (y 3).val; omega

/-- The first window's block at a grid point, read off its array. -/
theorem blk0 (t : Fin cfg2.N) : (iblk2 V c 0 t : Vec Ideal S2x2x16x2048 .f32)
    = fun y => (V c main_v56 : Vec Ideal S2x2x16x2048 .f32) (ix4 (y 0) (y 1) (y 2) (y 3)) := by
  funext y; show (V c main_v56 : Vec Ideal S2x2x16x2048 .f32) (((cfg2.win 0).blk t).view.emb y) = _; rw [emb0]; rfl

/-- An index of the second window's block, as an index of its whole array. -/
theorem emb1 (t : Fin cfg2.N) (y : S2x2x16x40.Idx) : ((cfg2.win 1).blk t).view.emb y = ix4 (y 0) (y 1) (y 2) (y 3) := by
  have h : ∀ t : Fin cfg2.N, win2_1.index t (0 : Fin 4) = 0 ∧ win2_1.index t (1 : Fin 4) = 0 ∧ win2_1.index t (2 : Fin 4) = 0 ∧ win2_1.index t (3 : Fin 4) = 0 :=
    (by decide +kernel : ∀ t : Fin grid2.N, _)
  obtain ⟨e0, e1, e2, e3⟩ := h t
  funext a; apply Fin.ext
  match a with
  | ⟨0, _⟩ => show win2_1.index t (0 : Fin 4) * 2 + 1 * (y 0).val = (y 0).val; omega
  | ⟨1, _⟩ => show win2_1.index t (1 : Fin 4) * 2 + 1 * (y 1).val = (y 1).val; omega
  | ⟨2, _⟩ => show win2_1.index t (2 : Fin 4) * 16 + 1 * (y 2).val = (y 2).val; omega
  | ⟨3, _⟩ => show win2_1.index t (3 : Fin 4) * 40 + 1 * (y 3).val = (y 3).val; omega

/-- The positions taken, of every row of the measure. -/
def T : Vec Ideal S2x2x16x40 .i32 := fun i =>
  BitVec.ofNat 32 (pick (left (fun s => ((V c main_v56 : Vec Ideal S2x2x16x2048 .f32) (ix4 (i 0) (i 1) (i 2) s) : EReal)) (i 3).val)).val

/-- What the body leaves in its output block. -/
theorem out_eq (t : Fin cfg2.N) (y : S2x2x16x40.Idx) : outsAt2 V c t y = T V c (ix4 (y 0) (y 1) (y 2) (y 3)) := by
  unfold outsAt2
  rw [blk0]
  conv_lhs => rw [eq_ix4 y]
  exact PayT.out2_apply _ _ _ _ _ _ _ _ _ _ _

/-- What a grid point writes back is its block of the array named above. -/
theorem flushed (t : Fin cfg2.N) : (dat2 V c).flushed 1 t = ((cfg2.win 1).blk t).view.read (Elt Ideal) (T V c) := by
  unfold Pipeline.Dat.flushed
  rw [after2_1]
  generalize hX : outsAt2 V c t = X
  funext y
  show X y = T V c (((cfg2.win 1).blk t).view.emb y)
  rw [emb1, ← hX, out_eq]
  rfl

/-- Every index of the array lies in a block that some grid point writes back. -/
theorem cover (i : S2x2x16x40.Idx) : ∃ t : Fin cfg2.N, (cfg2.win 1).flush t = true ∧ i ∈ ((cfg2.win 1).blk t).view.set := by
  refine ⟨⟨0, by decide⟩, flush2_1 _, ?_⟩
  have h := ((cfg2.win 1).blk (⟨0, by decide⟩ : Fin cfg2.N)).view.emb_mem_set i
  rw [emb1] at h
  exact (ix4_eta i) ▸ h

/-- The array that the call leaves. -/
theorem arr : (dat2 V c).arrAt 1 cfg2.N = T V c :=
  (dat2 V c).arrAt_eq_of_cover 1 (T V c) (fun t _ => flushed V c t) cover

end Cert.Proof.Arr2

end
-- ==== Proof.Arr3.lean ====
/-
  The fourth call (attention for the selected queries, the mean of the values for the others): what its output array holds.
-/
module

public import proofs.«01_k».proof.Proof.PayC
public import proofs.«01_k».proof.Proof.Gen.KernelIdeal.Frame
public import Idealize.ShloMosaic.Lib.Pipeline.Value

@[expose] public section

set_option maxRecDepth 16384

noncomputable section

namespace Cert.Proof.Arr3

open Idealize.ShloMosaic Idealize.ShloMosaic.TcCoe Idealize.SL.Sem Cert.KernelIdeal Cert.KernelIdeal.Gen Cert.Spec

variable (V : (c : Dev nD) → (b : Ref sig .tc) → Buf (Elt Ideal) ((c : Thread nD τ).loc b)) (c : Dev nD)

/-- The stream of a grid point. -/
def cOf (t : Fin cfg3.N) : Fin 2 := ⟨t.val / 4, by have : t.val < 8 := t.isLt; omega⟩
/-- The batch of a grid point. -/
def bOf (t : Fin cfg3.N) : Fin 2 := ⟨t.val / 2 % 2, by omega⟩
/-- A block's head, and its column, among all. -/
def hOf (t : Fin cfg3.N) (n : Fin 8) : Fin 16 := ⟨t.val % 2 * 8 + n.val, by omega⟩
/-- The column of a block's column at a grid point. -/
def jOf (t : Fin cfg3.N) (j : Fin 512) : Fin 1024 := ⟨t.val % 2 * 512 + j.val, by omega⟩

/-- An index of the first window's block, as an index of its whole array. -/
theorem emb0 (t : Fin cfg3.N) (y : S1x1x8x40.Idx) : ((cfg3.win 0).blk t).view.emb y = ix4 (cOf t) (bOf t) (hOf t (y 2)) (y 3) := by
  have h : ∀ t : Fin cfg3.N, win3_0.index t (0 : Fin 4) = t.val / 4 ∧ win3_0.index t (1 : Fin 4) = t.val / 2 % 2 ∧ win3_0.index t (2 : Fin 4) = t.val % 2 ∧ win3_0.index t (3 : Fin 4) = 0 :=
    (by decide +kernel : ∀ t : Fin grid3.N, _)
  obtain ⟨e0, e1, e2, e3⟩ := h t
  have y0 : (y 0).val < 1 := (y 0).isLt
  have y1 : (y 1).val < 1 := (y 1).isLt
  funext a; apply Fin.ext
  match a with
  | ⟨0, _⟩ => show win3_0.index t (0 : Fin 4) * 1 + 1 * (y 0).val = t.val / 4; omega
  | ⟨1, _⟩ => show win3_0.index t (1 : Fin 4) * 1 + 1 * (y 1).val = t.val / 2 % 2; omega
  | ⟨2, _⟩ => show win3_0.index t (2 : Fin 4) * 8 + 1 * (y 2).val = t.val % 2 * 8 + (y 2).val; omega
  | ⟨3, _⟩ => show win3_0.index t (3 : Fin 4) * 40 + 1 * (y 3).val = (y 3).val; omega

/-- The first window's block at a grid point, read off its array. -/
theorem blk0 (t : Fin cfg3.N) : (iblk3 V c 0 t : Vec Ideal S1x1x8x40 .i32)
    = fun y => (V c main_v57 : Vec Ideal S2x2x16x40 .i32) (ix4 (cOf t) (bOf t) (hOf t (y 2)) (y 3)) := by
  funext y; show (V c main_v57 : Vec Ideal S2x2x16x40 .i32) (((cfg3.win 0).blk t).view.emb y) = _; rw [emb0]; rfl

/-- An index of the second window's block, as an index of its whole array. -/
theorem emb1 (t : Fin cfg3.N) (y : S1x2048x512.Idx) : ((cfg3.win 1).blk t).view.emb y = ix3 (other (cOf t)) (br (bOf t) (y 1)) (col 0 (jOf t (y 2))) := by
  have h : ∀ t : Fin cfg3.N, win3_1.index t (0 : Fin 3) = 1 - t.val / 4 ∧ win3_1.index t (1 : Fin 3) = t.val / 2 % 2 ∧ win3_1.index t (2 : Fin 3) = 0 + t.val % 2 :=
    (by decide +kernel : ∀ t : Fin grid3.N, _)
  obtain ⟨e0, e1, e2⟩ := h t
  have y0 : (y 0).val < 1 := (y 0).isLt
  funext a; apply Fin.ext
  match a with
  | ⟨0, _⟩ => show win3_1.index t (0 : Fin 3) * 1 + 1 * (y 0).val = 1 - t.val / 4; omega
  | ⟨1, _⟩ => show win3_1.index t (1 : Fin 3) * 2048 + 1 * (y 1).val = t.val / 2 % 2 * 2048 + (y 1).val; omega
  | ⟨2, _⟩ => show win3_1.index t (2 : Fin 3) * 512 + 1 * (y 2).val = 0 * 1024 + (t.val % 2 * 512 + (y 2).val); omega

/-- The second window's block at a grid point, read off its array. -/
theorem blk1 (t : Fin cfg3.N) : (iblk3 V c 1 t : Vec Ideal S1x2048x512 .bf16)
    = fun y => (V c main_v55_0 : Vec Ideal S2x4096x3072 .bf16) (ix3 (other (cOf t)) (br (bOf t) (y 1)) (col 0 (jOf t (y 2)))) := by
  funext y; show (V c main_v55_0 : Vec Ideal S2x4096x3072 .bf16) (((cfg3.win 1).blk t).view.emb y) = _; rw [emb1]

/-- An index of the third window's block, as an index of its whole array. -/
theorem emb2 (t : Fin cfg3.N) (y : S1x2048x512.Idx) : ((cfg3.win 2).blk t).view.emb y = ix3 (cOf t) (br (bOf t) (y 1)) (col 1 (jOf t (y 2))) := by
  have h : ∀ t : Fin cfg3.N, win3_2.index t (0 : Fin 3) = t.val / 4 ∧ win3_2.index t (1 : Fin 3) = t.val / 2 % 2 ∧ win3_2.index t (2 : Fin 3) = 2 + t.val % 2 :=
    (by decide +kernel : ∀ t : Fin grid3.N, _)
  obtain ⟨e0, e1, e2⟩ := h t
  have y0 : (y 0).val < 1 := (y 0).isLt
  funext a; apply Fin.ext
  match a with
  | ⟨0, _⟩ => show win3_2.index t (0 : Fin 3) * 1 + 1 * (y 0).val = t.val / 4; omega
  | ⟨1, _⟩ => show win3_2.index t (1 : Fin 3) * 2048 + 1 * (y 1).val = t.val / 2 % 2 * 2048 + (y 1).val; omega
  | ⟨2, _⟩ => show win3_2.index t (2 : Fin 3) * 512 + 1 * (y 2).val = 1 * 1024 + (t.val % 2 * 512 + (y 2).val); omega

/-- The third window's block at a grid point, read off its array. -/
theorem blk2 (t : Fin cfg3.N) : (iblk3 V c 2 t : Vec Ideal S1x2048x512 .bf16)
    = fun y => (V c main_v55_0 : Vec Ideal S2x4096x3072 .bf16) (ix3 (cOf t) (br (bOf t) (y 1)) (col 1 (jOf t (y 2)))) := by
  funext y; show (V c main_v55_0 : Vec Ideal S2x4096x3072 .bf16) (((cfg3.win 2).blk t).view.emb y) = _; rw [emb2]

/-- An index of the fourth window's block, as an index of its whole array. -/
theorem emb3 (t : Fin cfg3.N) (y : S1x2048x512.Idx) : ((cfg3.win 3).blk t).view.emb y = ix3 (cOf t) (br (bOf t) (y 1)) (col 2 (jOf t (y 2))) := by
  have h : ∀ t : Fin cfg3.N, win3_3.index t (0 : Fin 3) = t.val / 4 ∧ win3_3.index t (1 : Fin 3) = t.val / 2 % 2 ∧ win3_3.index t (2 : Fin 3) = 4 + t.val % 2 :=
    (by decide +kernel : ∀ t : Fin grid3.N, _)
  obtain ⟨e0, e1, e2⟩ := h t
  have y0 : (y 0).val < 1 := (y 0).isLt
  funext a; apply Fin.ext
  match a with
  | ⟨0, _⟩ => show win3_3.index t (0 : Fin 3) * 1 + 1 * (y 0).val = t.val / 4; omega
  | ⟨1, _⟩ => show win3_3.index t (1 : Fin 3) * 2048 + 1 * (y 1).val = t.val / 2 % 2 * 2048 + (y 1).val; omega
  | ⟨2, _⟩ => show win3_3.index t (2 : Fin 3) * 512 + 1 * (y 2).val = 2 * 1024 + (t.val % 2 * 512 + (y 2).val); omega

/-- The fourth window's block at a grid point, read off its array. -/
theorem blk3 (t : Fin cfg3.N) : (iblk3 V c 3 t : Vec Ideal S1x2048x512 .bf16)
    = fun y => (V c main_v55_0 : Vec Ideal S2x4096x3072 .bf16) (ix3 (cOf t) (br (bOf t) (y 1)) (col 2 (jOf t (y 2)))) := by
  funext y; show (V c main_v55_0 : Vec Ideal S2x4096x3072 .bf16) (((cfg3.win 3).blk t).view.emb y) = _; rw [emb3]

/-- An index of the fifth window's block, as an index of its whole array. -/
theorem emb4 (t : Fin cfg3.N) (y : S1x1x2048x512.Idx) : ((cfg3.win 4).blk t).view.emb y = ix4 (cOf t) (bOf t) (y 2) (jOf t (y 3)) := by
  have h : ∀ t : Fin cfg3.N, win3_4.index t (0 : Fin 4) = t.val / 4 ∧ win3_4.index t (1 : Fin 4) = t.val / 2 % 2 ∧ win3_4.index t (2 : Fin 4) = 0 ∧ win3_4.index t (3 : Fin 4) = t.val % 2 :=
    (by decide +kernel : ∀ t : Fin grid3.N, _)
  obtain ⟨e0, e1, e2, e3⟩ := h t
  have y0 : (y 0).val < 1 := (y 0).isLt
  have y1 : (y 1).val < 1 := (y 1).isLt
  funext a; apply Fin.ext
  match a with
  | ⟨0, _⟩ => show win3_4.index t (0 : Fin 4) * 1 + 1 * (y 0).val = t.val / 4; omega
  | ⟨1, _⟩ => show win3_4.index t (1 : Fin 4) * 1 + 1 * (y 1).val = t.val / 2 % 2; omega
  | ⟨2, _⟩ => show win3_4.index t (2 : Fin 4) * 2048 + 1 * (y 2).val = (y 2).val; omega
  | ⟨3, _⟩ => show win3_4.index t (3 : Fin 4) * 512 + 1 * (y 3).val = t.val % 2 * 512 + (y 3).val; omega

/-- The point whose block holds a column, and the column's place in it. -/
theorem at_point (d b : Fin 2) (l : Fin 1024) : ∃ (t : Fin cfg3.N) (r : Fin 512), d = cOf t ∧ b = bOf t ∧ l = jOf t r :=
  ⟨⟨d.val * 4 + b.val * 2 + l.val / 512, by show _ < 8; omega⟩, ⟨l.val % 512, by omega⟩,
    Fin.ext (by show d.val = (d.val * 4 + b.val * 2 + l.val / 512) / 4; omega),
    Fin.ext (by show b.val = (d.val * 4 + b.val * 2 + l.val / 512) / 2 % 2; omega),
    Fin.ext (by show l.val = (d.val * 4 + b.val * 2 + l.val / 512) % 2 * 512 + l.val % 512; omega)⟩

/-- The context of row `s` in head `h`, at feature `e`. -/
def cat (d b : Fin 2) (s : Fin 2048) (h : Fin 16) (e : Fin 64) : EReal :=
  ctxker (fun u => (V c main_v57 : Vec Ideal S2x2x16x40 .i32) (ix4 d b h u))
    (fun r f => (V c main_v55_0 : Vec Ideal S2x4096x3072 .bf16) (ix3 (other d) (br b r) (col 0 (hd h f))))
    (fun r f => (V c main_v55_0 : Vec Ideal S2x4096x3072 .bf16) (ix3 d (br b r) (col 1 (hd h f))))
    (fun r f => (V c main_v55_0 : Vec Ideal S2x4096x3072 .bf16) (ix3 d (br b r) (col 2 (hd h f)))) s e

/-- The context of every row, the heads side by side. -/
def C : Vec Ideal S2x2x2048x1024 .bf16 := fun i =>
  cat V c (i 0) (i 1) (i 2) ⟨(i 3).val / 64, by have : (i 3).val < 1024 := (i 3).isLt; omega⟩ ⟨(i 3).val % 64, by omega⟩

/-- What the body leaves in its output block, at a point. -/
theorem out_eq (t : Fin cfg3.N) (y : S1x1x2048x512.Idx) :
    out3_4 (iblk3 V c 0 t) (iblk3 V c 1 t) (iblk3 V c 2 t) (iblk3 V c 3 t) y = C V c (ix4 (cOf t) (bOf t) (y 2) (jOf t (y 3))) := by
  have hy : y = ix4 (0 : Fin 1) (0 : Fin 1) (y 2) (y 3) := by
    conv_lhs => rw [eq_ix4 y]
    have h0 : y 0 = (0 : Fin 1) := Fin.ext (by have : (y 0).val < 1 := (y 0).isLt; show (y 0).val = 0; omega)
    have h1 : y 1 = (0 : Fin 1) := Fin.ext (by have : (y 1).val < 1 := (y 1).isLt; show (y 1).val = 0; omega)
    rw [h0, h1]; rfl
  have h3 : (y 3).val < 512 := (y 3).isLt
  have hh : (⟨(jOf t (y 3)).val / 64, by have : (jOf t (y 3)).val < 1024 := (jOf t (y 3)).isLt; omega⟩ : Fin 16) = hOf t ⟨(y 3).val / 64, by omega⟩ :=
    Fin.ext (by show (t.val % 2 * 512 + (y 3).val) / 64 = t.val % 2 * 8 + (y 3).val / 64; omega)
  have he : (⟨(jOf t (y 3)).val % 64, by omega⟩ : Fin 64) = ⟨(y 3).val % 64, by omega⟩ :=
    Fin.ext (by show (t.val % 2 * 512 + (y 3).val) % 64 = (y 3).val % 64; omega)
  have hj : ∀ (n : Fin 8) (f : Fin 64), jOf t (PayC.hd8 n f) = hd (hOf t n) f := fun n f =>
    Fin.ext (by show t.val % 2 * 512 + (n.val * 64 + f.val) = (t.val % 2 * 8 + n.val) * 64 + f.val; omega)
  rw [blk0, blk1, blk2, blk3]
  conv_lhs => rw [hy]
  refine (PayC.out3_4_apply _ _ _ _ _ _).trans ?_
  show _ = cat V c (cOf t) (bOf t) (y 2) ⟨(jOf t (y 3)).val / 64, _⟩ ⟨(jOf t (y 3)).val % 64, _⟩
  rw [hh, he]
  unfold cat PayC.cval PayC.cblk
  simp only [ix3_1, ix3_2, ix4_2, ix4_3, hj]

/-- What a grid point writes back is its block of the array named above. -/
theorem flushed (t : Fin cfg3.N) : (dat3 V c).flushed 4 t = ((cfg3.win 4).blk t).view.read (Elt Ideal) (C V c) := by
  unfold Pipeline.Dat.flushed
  rw [after3_4]
  generalize hX : out3_4 (iblk3 V c 0 t) (iblk3 V c 1 t) (iblk3 V c 2 t) (iblk3 V c 3 t) = X
  funext y
  show X y = C V c (((cfg3.win 4).blk t).view.emb y)
  rw [emb4, ← hX, out_eq]
  rfl

/-- Every index of the array lies in a block that some grid point writes back. -/
theorem cover (i : S2x2x2048x1024.Idx) : ∃ t : Fin cfg3.N, (cfg3.win 4).flush t = true ∧ i ∈ ((cfg3.win 4).blk t).view.set := by
  obtain ⟨t, r, h0, h1, h2⟩ := at_point (i 0) (i 1) (i 3)
  refine ⟨t, flush3_4 t, ?_⟩
  have h := ((cfg3.win 4).blk t).view.emb_mem_set (ix4 (0 : Fin 1) (0 : Fin 1) (i 2) r : S1x1x2048x512.Idx)
  rw [emb4] at h
  have e : ix4 (cOf t) (bOf t) (i 2) (jOf t r) = i := by rw [← h0, ← h1, ← h2]; exact ix4_eta i
  exact e ▸ h

/-- The array that the call leaves. -/
theorem arr : (dat3 V c).arrAt 4 cfg3.N = C V c :=
  (dat3 V c).arrAt_eq_of_cover 4 (C V c) (fun t _ => flushed V c t) cover

end Cert.Proof.Arr3

end
-- ==== Proof.Arr4.lean ====
/-
  The fifth call (the output product, the residual and its normalisation): what its output array holds.
-/
module

public import proofs.«01_k».proof.Proof.PayA
public import proofs.«01_k».proof.Proof.Gen.KernelIdeal.Frame
public import Idealize.ShloMosaic.Lib.Pipeline.Value

@[expose] public section

set_option maxRecDepth 16384

noncomputable section

namespace Cert.Proof.Arr4

open Idealize.ShloMosaic Idealize.ShloMosaic.TcCoe Idealize.SL.Sem Cert.KernelIdeal Cert.KernelIdeal.Gen Cert.Spec

variable (V : (c : Dev nD) → (b : Ref sig .tc) → Buf (Elt Ideal) ((c : Thread nD τ).loc b)) (c : Dev nD)

/-- The stream of a grid point. -/
def cOf (t : Fin cfg4.N) : Fin 2 := ⟨t.val / 8, by have : t.val < 16 := t.isLt; omega⟩
/-- A block's row, in the array. -/
def rOf (t : Fin cfg4.N) (r : Fin 512) : Fin 4096 := ⟨t.val % 8 * 512 + r.val, by omega⟩

/-! Where the windows' blocks lie, and what they hold. -/

/-- An index of the first window's block, as an index of its whole array. -/
theorem emb0 (t : Fin cfg4.N) (y : S1x512x1024.Idx) : ((cfg4.win 0).blk t).view.emb y = ix3 (cOf t) (rOf t (y 1)) (y 2) := by
  have h : ∀ t : Fin cfg4.N, win4_0.index t (0 : Fin 3) = t.val / 8 ∧ win4_0.index t (1 : Fin 3) = t.val % 8 ∧ win4_0.index t (2 : Fin 3) = 0 :=
    (by decide +kernel : ∀ t : Fin grid4.N, _)
  obtain ⟨e0, e1, e2⟩ := h t
  have hy : (y 0).val < 1 := (y 0).isLt
  funext a; apply Fin.ext
  match a with
  | ⟨0, _⟩ => show win4_0.index t (0 : Fin 3) * 1 + 1 * (y 0).val = t.val / 8; omega
  | ⟨1, _⟩ => show win4_0.index t (1 : Fin 3) * 512 + 1 * (y 1).val = t.val % 8 * 512 + (y 1).val; omega
  | ⟨2, _⟩ => show win4_0.index t (2 : Fin 3) * 1024 + 1 * (y 2).val = (y 2).val; omega

/-- An index of the second window's block, as an index of its whole array. -/
theorem emb1 (t : Fin cfg4.N) (y : S1x512x1024.Idx) : ((cfg4.win 1).blk t).view.emb y = ix3 (cOf t) (rOf t (y 1)) (y 2) := by
  have h : ∀ t : Fin cfg4.N, win4_1.index t (0 : Fin 3) = t.val / 8 ∧ win4_1.index t (1 : Fin 3) = t.val % 8 ∧ win4_1.index t (2 : Fin 3) = 0 :=
    (by decide +kernel : ∀ t : Fin grid4.N, _)
  obtain ⟨e0, e1, e2⟩ := h t
  have hy : (y 0).val < 1 := (y 0).isLt
  funext a; apply Fin.ext
  match a with
  | ⟨0, _⟩ => show win4_1.index t (0 : Fin 3) * 1 + 1 * (y 0).val = t.val / 8; omega
  | ⟨1, _⟩ => show win4_1.index t (1 : Fin 3) * 512 + 1 * (y 1).val = t.val % 8 * 512 + (y 1).val; omega
  | ⟨2, _⟩ => show win4_1.index t (2 : Fin 3) * 1024 + 1 * (y 2).val = (y 2).val; omega

/-- An index of the seventh window's block, as an index of its whole array. -/
theorem emb6 (t : Fin cfg4.N) (y : S1x512x1024.Idx) : ((cfg4.win 6).blk t).view.emb y = ix3 (cOf t) (rOf t (y 1)) (y 2) := by
  have h : ∀ t : Fin cfg4.N, win4_6.index t (0 : Fin 3) = t.val / 8 ∧ win4_6.index t (1 : Fin 3) = t.val % 8 ∧ win4_6.index t (2 : Fin 3) = 0 :=
    (by decide +kernel : ∀ t : Fin grid4.N, _)
  obtain ⟨e0, e1, e2⟩ := h t
  have hy : (y 0).val < 1 := (y 0).isLt
  funext a; apply Fin.ext
  match a with
  | ⟨0, _⟩ => show win4_6.index t (0 : Fin 3) * 1 + 1 * (y 0).val = t.val / 8; omega
  | ⟨1, _⟩ => show win4_6.index t (1 : Fin 3) * 512 + 1 * (y 1).val = t.val % 8 * 512 + (y 1).val; omega
  | ⟨2, _⟩ => show win4_6.index t (2 : Fin 3) * 1024 + 1 * (y 2).val = (y 2).val; omega

/-- The first window's block at a grid point, read off its array. -/
theorem blk0 (t : Fin cfg4.N) : (iblk4 V c 0 t : Vec Ideal S1x512x1024 .bf16)
    = fun y => (V c main_v59 : Vec Ideal S2x4096x1024 .bf16) (ix3 (cOf t) (rOf t (y 1)) (y 2)) := by
  funext y; show (V c main_v59 : Vec Ideal S2x4096x1024 .bf16) (((cfg4.win 0).blk t).view.emb y) = _; rw [emb0]; rfl

/-- The second window's block at a grid point, read off its array. -/
theorem blk1 (t : Fin cfg4.N) : (iblk4 V c 1 t : Vec Ideal S1x512x1024 .f32)
    = fun y => (V c main_v55_1 : Vec Ideal S2x4096x1024 .f32) (ix3 (cOf t) (rOf t (y 1)) (y 2)) := by
  funext y; show (V c main_v55_1 : Vec Ideal S2x4096x1024 .f32) (((cfg4.win 1).blk t).view.emb y) = _; rw [emb1]; rfl

/-- The third window's block at a grid point, read off its array. -/
theorem blk2 (t : Fin cfg4.N) : (iblk4 V c 2 t : Vec Ideal S1024x1024 .bf16) = V c main_v60 := by
  have h : ∀ t : Fin cfg4.N, win4_2.index t (0 : Fin 2) = 0 ∧ win4_2.index t (1 : Fin 2) = 0 := (by decide +kernel : ∀ t : Fin grid4.N, _)
  obtain ⟨e0, e1⟩ := h t
  funext y
  refine congrArg (V c main_v60 : Vec Ideal S1024x1024 .bf16) (funext fun a => Fin.ext ?_)
  match a with
  | ⟨0, _⟩ => show win4_2.index t (0 : Fin 2) * 1024 + 1 * (y 0).val = (y 0).val; omega
  | ⟨1, _⟩ => show win4_2.index t (1 : Fin 2) * 1024 + 1 * (y 1).val = (y 1).val; omega

/-- The fourth window's block at a grid point, read off its array. -/
theorem blk3 (t : Fin cfg4.N) : (iblk4 V c 3 t : Vec Ideal S1x1024 .f32) = V c main_v61 := by
  have h : ∀ t : Fin cfg4.N, win4_3.index t (0 : Fin 2) = 0 ∧ win4_3.index t (1 : Fin 2) = 0 := (by decide +kernel : ∀ t : Fin grid4.N, _)
  obtain ⟨e0, e1⟩ := h t
  funext y
  refine congrArg (V c main_v61 : Vec Ideal S1x1024 .f32) (funext fun a => Fin.ext ?_)
  match a with
  | ⟨0, _⟩ => show win4_3.index t (0 : Fin 2) * 1 + 1 * (y 0).val = (y 0).val; omega
  | ⟨1, _⟩ => show win4_3.index t (1 : Fin 2) * 1024 + 1 * (y 1).val = (y 1).val; omega

/-- The fifth window's block at a grid point, read off its array. -/
theorem blk4 (t : Fin cfg4.N) : (iblk4 V c 4 t : Vec Ideal S1x1024 .f32) = V c main_v62 := by
  have h : ∀ t : Fin cfg4.N, win4_4.index t (0 : Fin 2) = 0 ∧ win4_4.index t (1 : Fin 2) = 0 := (by decide +kernel : ∀ t : Fin grid4.N, _)
  obtain ⟨e0, e1⟩ := h t
  funext y
  refine congrArg (V c main_v62 : Vec Ideal S1x1024 .f32) (funext fun a => Fin.ext ?_)
  match a with
  | ⟨0, _⟩ => show win4_4.index t (0 : Fin 2) * 1 + 1 * (y 0).val = (y 0).val; omega
  | ⟨1, _⟩ => show win4_4.index t (1 : Fin 2) * 1024 + 1 * (y 1).val = (y 1).val; omega

/-- The sixth window's block at a grid point, read off its array. -/
theorem blk5 (t : Fin cfg4.N) : (iblk4 V c 5 t : Vec Ideal S1x1024 .f32) = V c main_v63 := by
  have h : ∀ t : Fin cfg4.N, win4_5.index t (0 : Fin 2) = 0 ∧ win4_5.index t (1 : Fin 2) = 0 := (by decide +kernel : ∀ t : Fin grid4.N, _)
  obtain ⟨e0, e1⟩ := h t
  funext y
  refine congrArg (V c main_v63 : Vec Ideal S1x1024 .f32) (funext fun a => Fin.ext ?_)
  match a with
  | ⟨0, _⟩ => show win4_5.index t (0 : Fin 2) * 1 + 1 * (y 0).val = (y 0).val; omega
  | ⟨1, _⟩ => show win4_5.index t (1 : Fin 2) * 1024 + 1 * (y 1).val = (y 1).val; omega

/-- The point whose block holds a row, and the row's place in it. -/
theorem at_point (b : Fin 2) (l : Fin 4096) : ∃ (t : Fin cfg4.N) (r : Fin 512), b = cOf t ∧ l = rOf t r :=
  ⟨⟨b.val * 8 + l.val / 512, by show _ < 16; omega⟩, ⟨l.val % 512, by omega⟩, Fin.ext (by show b.val = (b.val * 8 + l.val / 512) / 8; omega),
    Fin.ext (by show l.val = (b.val * 8 + l.val / 512) % 8 * 512 + l.val % 512; omega)⟩

/-- The block's output from its context `x`, its normalised rows, and the parameters. -/
def Y : Vec Ideal S2x4096x1024 .bf16 := fun i =>
  lnorm (lit 0x44800000#32)
    (fun o => dense (fun k => (V c main_v59 : Vec Ideal S2x4096x1024 .bf16) (ix3 (i 0) (i 1) k))
        (fun k o => (V c main_v60 : Vec Ideal S1024x1024 .bf16) (ix2 k o)) (fun o => (V c main_v61 : Vec Ideal S1x1024 .f32) (ix2 0 o)) o
      + (V c main_v55_1 : Vec Ideal S2x4096x1024 .f32) (ix3 (i 0) (i 1) o))
    (fun k => (V c main_v62 : Vec Ideal S1x1024 .f32) (ix2 0 k)) (fun k => (V c main_v63 : Vec Ideal S1x1024 .f32) (ix2 0 k)) (i 2)

/-- A load of a whole block is the block. -/
theorem ld0b (X : Vec Ideal S1x512x1024 .bf16) : View.ld X r4_0 = X := View.ld_unit_zero z3 _ X
/-- A load of a whole block is the block. -/
theorem ld0 (X : Vec Ideal S1x512x1024 .f32) : View.ld X r4_0 = X := View.ld_unit_zero z3 _ X
/-- A load of a whole block is the block. -/
theorem ld1 (X : Vec Ideal S1024x1024 .bf16) : View.ld X r4_1 = X := View.ld_unit_zero z2 _ X
/-- A load of a whole block is the block. -/
theorem ld2 (X : Vec Ideal S1x1024 .f32) : View.ld X r4_2 = X := View.ld_unit_zero z2 _ X

/-- What the body leaves in its output block, at a point. -/
theorem out_eq (t : Fin cfg4.N) (y : S1x512x1024.Idx) :
    out4_6 (iblk4 V c 0 t) (iblk4 V c 1 t) (iblk4 V c 2 t) (iblk4 V c 3 t) (iblk4 V c 4 t) (iblk4 V c 5 t) y = Y V c (ix3 (cOf t) (rOf t (y 1)) (y 2)) := by
  have hy : y = ix3 (0 : Fin 1) (y 1) (y 2) := by
    conv_lhs => rw [eq_ix3 y]
    congr 1; exact Fin.ext (by have : (y 0).val < 1 := (y 0).isLt; show (y 0).val = 0; omega)
  unfold out4_6
  rw [View.canon_unit_zero z3, ld0b, ld0, ld1, ld2, ld2, ld2, blk0, blk1, blk2, blk3, blk4, blk5]
  conv_lhs => rw [hy]
  exact PayA.k4_apply _ _ _ _ _ _ _ _

/-- What a grid point writes back is its block of the array named above. -/
theorem flushed (t : Fin cfg4.N) : (dat4 V c).flushed 6 t = ((cfg4.win 6).blk t).view.read (Elt Ideal) (Y V c) := by
  unfold Pipeline.Dat.flushed
  rw [after4_6]
  generalize hX : out4_6 (iblk4 V c 0 t) (iblk4 V c 1 t) (iblk4 V c 2 t) (iblk4 V c 3 t) (iblk4 V c 4 t) (iblk4 V c 5 t) = X
  funext y
  show X y = Y V c (((cfg4.win 6).blk t).view.emb y)
  rw [emb6, ← hX, out_eq]
  rfl

/-- Every index of the array lies in a block that some grid point writes back. -/
theorem cover (i : S2x4096x1024.Idx) : ∃ t : Fin cfg4.N, (cfg4.win 6).flush t = true ∧ i ∈ ((cfg4.win 6).blk t).view.set := by
  obtain ⟨t, r, h0, h1⟩ := at_point (i 0) (i 1)
  refine ⟨t, flush4_6 t, ?_⟩
  have h := ((cfg4.win 6).blk t).view.emb_mem_set (ix3 (0 : Fin 1) r (i 2) : S1x512x1024.Idx)
  rw [emb6] at h
  have e : ix3 (cOf t) (rOf t r) (i 2) = i := by rw [← h0, ← h1]; exact ix3_eta i
  exact e ▸ h

/-- The array that the call leaves. -/
theorem arr : (dat4 V c).arrAt 6 cfg4.N = Y V c :=
  (dat4 V c).arrAt_eq_of_cover 6 (Y V c) (fun t _ => flushed V c t) cover

end Cert.Proof.Arr4

end
-- ==== Proof.Arr5.lean ====
/-
  The last call (the MLP and its residual): what its output array holds.
-/
module

public import proofs.«01_k».proof.Proof.PayA
public import proofs.«01_k».proof.Proof.Gen.KernelIdeal.Frame
public import Idealize.ShloMosaic.Lib.Pipeline.Value

@[expose] public section

set_option maxRecDepth 16384

noncomputable section

namespace Cert.Proof.Arr5

open Idealize.ShloMosaic Idealize.ShloMosaic.TcCoe Idealize.SL.Sem Cert.KernelIdeal Cert.KernelIdeal.Gen Cert.Spec

variable (V : (c : Dev nD) → (b : Ref sig .tc) → Buf (Elt Ideal) ((c : Thread nD τ).loc b)) (c : Dev nD)

/-- The stream of a grid point. -/
def cOf (t : Fin cfg5.N) : Fin 2 := ⟨t.val / 16, by have : t.val < 32 := t.isLt; omega⟩
/-- A block's row, in the array. -/
def rOf (t : Fin cfg5.N) (r : Fin 256) : Fin 4096 := ⟨t.val % 16 * 256 + r.val, by omega⟩

/-! Where the windows' blocks lie, and what they hold. -/

/-- An index of the first window's block, as an index of its whole array. -/
theorem emb0 (t : Fin cfg5.N) (y : S1x256x1024.Idx) : ((cfg5.win 0).blk t).view.emb y = ix3 (cOf t) (rOf t (y 1)) (y 2) := by
  have h : ∀ t : Fin cfg5.N, win5_0.index t (0 : Fin 3) = t.val / 16 ∧ win5_0.index t (1 : Fin 3) = t.val % 16 ∧ win5_0.index t (2 : Fin 3) = 0 :=
    (by decide +kernel : ∀ t : Fin grid5.N, _)
  obtain ⟨e0, e1, e2⟩ := h t
  have hy : (y 0).val < 1 := (y 0).isLt
  funext a; apply Fin.ext
  match a with
  | ⟨0, _⟩ => show win5_0.index t (0 : Fin 3) * 1 + 1 * (y 0).val = t.val / 16; omega
  | ⟨1, _⟩ => show win5_0.index t (1 : Fin 3) * 256 + 1 * (y 1).val = t.val % 16 * 256 + (y 1).val; omega
  | ⟨2, _⟩ => show win5_0.index t (2 : Fin 3) * 1024 + 1 * (y 2).val = (y 2).val; omega

/-- An index of the tenth window's block, as an index of its whole array. -/
theorem emb9 (t : Fin cfg5.N) (y : S1x256x1024.Idx) : ((cfg5.win 9).blk t).view.emb y = ix3 (cOf t) (rOf t (y 1)) (y 2) := by
  have h : ∀ t : Fin cfg5.N, win5_9.index t (0 : Fin 3) = t.val / 16 ∧ win5_9.index t (1 : Fin 3) = t.val % 16 ∧ win5_9.index t (2 : Fin 3) = 0 :=
    (by decide +kernel : ∀ t : Fin grid5.N, _)
  obtain ⟨e0, e1, e2⟩ := h t
  have hy : (y 0).val < 1 := (y 0).isLt
  funext a; apply Fin.ext
  match a with
  | ⟨0, _⟩ => show win5_9.index t (0 : Fin 3) * 1 + 1 * (y 0).val = t.val / 16; omega
  | ⟨1, _⟩ => show win5_9.index t (1 : Fin 3) * 256 + 1 * (y 1).val = t.val % 16 * 256 + (y 1).val; omega
  | ⟨2, _⟩ => show win5_9.index t (2 : Fin 3) * 1024 + 1 * (y 2).val = (y 2).val; omega

/-- The first window's block at a grid point, read off its array. -/
theorem blk0 (t : Fin cfg5.N) : (iblk5 V c 0 t : Vec Ideal S1x256x1024 .bf16)
    = fun y => (V c main_v64 : Vec Ideal S2x4096x1024 .bf16) (ix3 (cOf t) (rOf t (y 1)) (y 2)) := by
  funext y; show (V c main_v64 : Vec Ideal S2x4096x1024 .bf16) (((cfg5.win 0).blk t).view.emb y) = _; rw [emb0]; rfl

/-- The second window's block at a grid point, read off its array. -/
theorem blk1 (t : Fin cfg5.N) : (iblk5 V c 1 t : Vec Ideal S1024x4096 .bf16) = V c main_v65 := by
  have h : ∀ t : Fin cfg5.N, win5_1.index t (0 : Fin 2) = 0 ∧ win5_1.index t (1 : Fin 2) = 0 := (by decide +kernel : ∀ t : Fin grid5.N, _)
  obtain ⟨e0, e1⟩ := h t
  funext y
  refine congrArg (V c main_v65 : Vec Ideal S1024x4096 .bf16) (funext fun a => Fin.ext ?_)
  match a with
  | ⟨0, _⟩ => show win5_1.index t (0 : Fin 2) * 1024 + 1 * (y 0).val = (y 0).val; omega
  | ⟨1, _⟩ => show win5_1.index t (1 : Fin 2) * 4096 + 1 * (y 1).val = (y 1).val; omega

/-- The third window's block at a grid point, read off its array. -/
theorem blk2 (t : Fin cfg5.N) : (iblk5 V c 2 t : Vec Ideal S1x4096 .f32) = V c main_v66 := by
  have h : ∀ t : Fin cfg5.N, win5_2.index t (0 : Fin 2) = 0 ∧ win5_2.index t (1 : Fin 2) = 0 := (by decide +kernel : ∀ t : Fin grid5.N, _)
  obtain ⟨e0, e1⟩ := h t
  funext y
  refine congrArg (V c main_v66 : Vec Ideal S1x4096 .f32) (funext fun a => Fin.ext ?_)
  match a with
  | ⟨0, _⟩ => show win5_2.index t (0 : Fin 2) * 1 + 1 * (y 0).val = (y 0).val; omega
  | ⟨1, _⟩ => show win5_2.index t (1 : Fin 2) * 4096 + 1 * (y 1).val = (y 1).val; omega

/-- The fourth window's block at a grid point, read off its array. -/
theorem blk3 (t : Fin cfg5.N) : (iblk5 V c 3 t : Vec Ideal S1x4096 .f32) = V c main_v67 := by
  have h : ∀ t : Fin cfg5.N, win5_3.index t (0 : Fin 2) = 0 ∧ win5_3.index t (1 : Fin 2) = 0 := (by decide +kernel : ∀ t : Fin grid5.N, _)
  obtain ⟨e0, e1⟩ := h t
  funext y
  refine congrArg (V c main_v67 : Vec Ideal S1x4096 .f32) (funext fun a => Fin.ext ?_)
  match a with
  | ⟨0, _⟩ => show win5_3.index t (0 : Fin 2) * 1 + 1 * (y 0).val = (y 0).val; omega
  | ⟨1, _⟩ => show win5_3.index t (1 : Fin 2) * 4096 + 1 * (y 1).val = (y 1).val; omega

/-- The fifth window's block at a grid point, read off its array. -/
theorem blk4 (t : Fin cfg5.N) : (iblk5 V c 4 t : Vec Ideal S1x4096 .f32) = V c main_v68 := by
  have h : ∀ t : Fin cfg5.N, win5_4.index t (0 : Fin 2) = 0 ∧ win5_4.index t (1 : Fin 2) = 0 := (by decide +kernel : ∀ t : Fin grid5.N, _)
  obtain ⟨e0, e1⟩ := h t
  funext y
  refine congrArg (V c main_v68 : Vec Ideal S1x4096 .f32) (funext fun a => Fin.ext ?_)
  match a with
  | ⟨0, _⟩ => show win5_4.index t (0 : Fin 2) * 1 + 1 * (y 0).val = (y 0).val; omega
  | ⟨1, _⟩ => show win5_4.index t (1 : Fin 2) * 4096 + 1 * (y 1).val = (y 1).val; omega

/-- The sixth window's block at a grid point, read off its array. -/
theorem blk5 (t : Fin cfg5.N) : (iblk5 V c 5 t : Vec Ideal S4096x1024 .bf16) = V c main_v69 := by
  have h : ∀ t : Fin cfg5.N, win5_5.index t (0 : Fin 2) = 0 ∧ win5_5.index t (1 : Fin 2) = 0 := (by decide +kernel : ∀ t : Fin grid5.N, _)
  obtain ⟨e0, e1⟩ := h t
  funext y
  refine congrArg (V c main_v69 : Vec Ideal S4096x1024 .bf16) (funext fun a => Fin.ext ?_)
  match a with
  | ⟨0, _⟩ => show win5_5.index t (0 : Fin 2) * 4096 + 1 * (y 0).val = (y 0).val; omega
  | ⟨1, _⟩ => show win5_5.index t (1 : Fin 2) * 1024 + 1 * (y 1).val = (y 1).val; omega

/-- The seventh window's block at a grid point, read off its array. -/
theorem blk6 (t : Fin cfg5.N) : (iblk5 V c 6 t : Vec Ideal S1x1024 .f32) = V c main_v70 := by
  have h : ∀ t : Fin cfg5.N, win5_6.index t (0 : Fin 2) = 0 ∧ win5_6.index t (1 : Fin 2) = 0 := (by decide +kernel : ∀ t : Fin grid5.N, _)
  obtain ⟨e0, e1⟩ := h t
  funext y
  refine congrArg (V c main_v70 : Vec Ideal S1x1024 .f32) (funext fun a => Fin.ext ?_)
  match a with
  | ⟨0, _⟩ => show win5_6.index t (0 : Fin 2) * 1 + 1 * (y 0).val = (y 0).val; omega
  | ⟨1, _⟩ => show win5_6.index t (1 : Fin 2) * 1024 + 1 * (y 1).val = (y 1).val; omega

/-- The eighth window's block at a grid point, read off its array. -/
theorem blk7 (t : Fin cfg5.N) : (iblk5 V c 7 t : Vec Ideal S1x1024 .f32) = V c main_v71 := by
  have h : ∀ t : Fin cfg5.N, win5_7.index t (0 : Fin 2) = 0 ∧ win5_7.index t (1 : Fin 2) = 0 := (by decide +kernel : ∀ t : Fin grid5.N, _)
  obtain ⟨e0, e1⟩ := h t
  funext y
  refine congrArg (V c main_v71 : Vec Ideal S1x1024 .f32) (funext fun a => Fin.ext ?_)
  match a with
  | ⟨0, _⟩ => show win5_7.index t (0 : Fin 2) * 1 + 1 * (y 0).val = (y 0).val; omega
  | ⟨1, _⟩ => show win5_7.index t (1 : Fin 2) * 1024 + 1 * (y 1).val = (y 1).val; omega

/-- The ninth window's block at a grid point, read off its array. -/
theorem blk8 (t : Fin cfg5.N) : (iblk5 V c 8 t : Vec Ideal S1x1024 .f32) = V c main_v72 := by
  have h : ∀ t : Fin cfg5.N, win5_8.index t (0 : Fin 2) = 0 ∧ win5_8.index t (1 : Fin 2) = 0 := (by decide +kernel : ∀ t : Fin grid5.N, _)
  obtain ⟨e0, e1⟩ := h t
  funext y
  refine congrArg (V c main_v72 : Vec Ideal S1x1024 .f32) (funext fun a => Fin.ext ?_)
  match a with
  | ⟨0, _⟩ => show win5_8.index t (0 : Fin 2) * 1 + 1 * (y 0).val = (y 0).val; omega
  | ⟨1, _⟩ => show win5_8.index t (1 : Fin 2) * 1024 + 1 * (y 1).val = (y 1).val; omega

/-- The point whose block holds a row, and the row's place in it. -/
theorem at_point (b : Fin 2) (l : Fin 4096) : ∃ (t : Fin cfg5.N) (r : Fin 256), b = cOf t ∧ l = rOf t r :=
  ⟨⟨b.val * 16 + l.val / 256, by show _ < 32; omega⟩, ⟨l.val % 256, by omega⟩, Fin.ext (by show b.val = (b.val * 16 + l.val / 256) / 16; omega),
    Fin.ext (by show l.val = (b.val * 16 + l.val / 256) % 16 * 256 + l.val % 256; omega)⟩

/-- The row plus its MLP. -/
def Z : Vec Ideal S2x4096x1024 .f32 := fun i =>
  @HAdd.hAdd EReal EReal EReal _ ((V c main_v64 : Vec Ideal S2x4096x1024 .bf16) (ix3 (i 0) (i 1) (i 2))) <| lnorm (lit 0x44800000#32)
    (dense (fun k => gelu (lnorm (lit 0x45800000#32)
        (dense (fun k => (V c main_v64 : Vec Ideal S2x4096x1024 .bf16) (ix3 (i 0) (i 1) k))
          (fun k o => (V c main_v65 : Vec Ideal S1024x4096 .bf16) (ix2 k o)) (fun o => (V c main_v66 : Vec Ideal S1x4096 .f32) (ix2 0 o)))
        (fun k => (V c main_v67 : Vec Ideal S1x4096 .f32) (ix2 0 k)) (fun k => (V c main_v68 : Vec Ideal S1x4096 .f32) (ix2 0 k)) k))
      (fun k o => (V c main_v69 : Vec Ideal S4096x1024 .bf16) (ix2 k o)) (fun o => (V c main_v70 : Vec Ideal S1x1024 .f32) (ix2 0 o)))
    (fun k => (V c main_v71 : Vec Ideal S1x1024 .f32) (ix2 0 k)) (fun k => (V c main_v72 : Vec Ideal S1x1024 .f32) (ix2 0 k)) (i 2)

/-- A load of a whole block is the block. -/
theorem ld0 (X : Vec Ideal S1x256x1024 .bf16) : View.ld X r5_0 = X := View.ld_unit_zero z3 _ X
/-- A load of a whole block is the block. -/
theorem ld1 (X : Vec Ideal S1024x4096 .bf16) : View.ld X r5_1 = X := View.ld_unit_zero z2 _ X
/-- A load of a whole block is the block. -/
theorem ld2 (X : Vec Ideal S1x4096 .f32) : View.ld X r5_2 = X := View.ld_unit_zero z2 _ X
/-- A load of a whole block is the block. -/
theorem ld3 (X : Vec Ideal S4096x1024 .bf16) : View.ld X r5_3 = X := View.ld_unit_zero z2 _ X
/-- A load of a whole block is the block. -/
theorem ld4 (X : Vec Ideal S1x1024 .f32) : View.ld X r5_4 = X := View.ld_unit_zero z2 _ X

/-- What the body leaves in its output block, at a point. -/
theorem out_eq (t : Fin cfg5.N) (y : S1x256x1024.Idx) :
    out5_9 (iblk5 V c 0 t) (iblk5 V c 1 t) (iblk5 V c 2 t) (iblk5 V c 3 t) (iblk5 V c 4 t) (iblk5 V c 5 t) (iblk5 V c 6 t) (iblk5 V c 7 t) (iblk5 V c 8 t) y = Z V c (ix3 (cOf t) (rOf t (y 1)) (y 2)) := by
  have hy : y = ix3 (0 : Fin 1) (y 1) (y 2) := by
    conv_lhs => rw [eq_ix3 y]
    congr 1; exact Fin.ext (by have : (y 0).val < 1 := (y 0).isLt; show (y 0).val = 0; omega)
  unfold out5_9
  rw [View.canon_unit_zero z3, ld0, ld1, ld2, ld2, ld2, ld3, ld4, ld4, ld4, blk0, blk1, blk2, blk3, blk4, blk5, blk6, blk7, blk8]
  conv_lhs => rw [hy]
  exact PayA.k5_apply _ _ _ _ _ _ _ _ _ _ _

/-- What a grid point writes back is its block of the array named above. -/
theorem flushed (t : Fin cfg5.N) : (dat5 V c).flushed 9 t = ((cfg5.win 9).blk t).view.read (Elt Ideal) (Z V c) := by
  unfold Pipeline.Dat.flushed
  rw [after5_9]
  generalize hX : out5_9 (iblk5 V c 0 t) (iblk5 V c 1 t) (iblk5 V c 2 t) (iblk5 V c 3 t) (iblk5 V c 4 t) (iblk5 V c 5 t) (iblk5 V c 6 t) (iblk5 V c 7 t) (iblk5 V c 8 t) = X
  funext y
  show X y = Z V c (((cfg5.win 9).blk t).view.emb y)
  rw [emb9, ← hX, out_eq]
  rfl

/-- Every index of the array lies in a block that some grid point writes back. -/
theorem cover (i : S2x4096x1024.Idx) : ∃ t : Fin cfg5.N, (cfg5.win 9).flush t = true ∧ i ∈ ((cfg5.win 9).blk t).view.set := by
  obtain ⟨t, r, h0, h1⟩ := at_point (i 0) (i 1)
  refine ⟨t, flush5_9 t, ?_⟩
  have h := ((cfg5.win 9).blk t).view.emb_mem_set (ix3 (0 : Fin 1) r (i 2) : S1x256x1024.Idx)
  rw [emb9] at h
  have e : ix3 (cOf t) (rOf t r) (i 2) = i := by rw [← h0, ← h1]; exact ix3_eta i
  exact e ▸ h

/-- The array that the call leaves. -/
theorem arr : (dat5 V c).arrAt 9 cfg5.N = Z V c :=
  (dat5 V c).arrAt_eq_of_cover 9 (Z V c) (fun t _ => flushed V c t) cover

end Cert.Proof.Arr5

end
-- ==== Proof.KRun.lean ====
/-
  The first program run: what each call finds and leaves, and the two results as the block's mathematics.
-/
module

public import proofs.«01_k».proof.Proof.Host
public import proofs.«01_k».proof.Proof.Host2
public import proofs.«01_k».proof.Proof.Model
public import proofs.«01_k».proof.Proof.Arr0
public import proofs.«01_k».proof.Proof.Arr1
public import proofs.«01_k».proof.Proof.Arr2
public import proofs.«01_k».proof.Proof.Arr3
public import proofs.«01_k».proof.Proof.Arr4
public import proofs.«01_k».proof.Proof.Arr5

@[expose] public section

set_option maxRecDepth 16384

noncomputable section

namespace Cert.Proof.KRun

open Idealize.ShloMosaic Idealize.ShloMosaic.TcCoe Idealize.SL.Sem Idealize.ShloMosaic.StableHlo Cert.KernelIdeal Cert.KernelIdeal.Gen Cert.Spec Cert.Select

variable (m : (ℓ : Loc nD τ sig) → Buf (Elt Ideal) ℓ) (ρ : Dev nD → PrngReg) (c : Dev nD)

/-- The operands as the launch memory holds them. -/
def par : Par where
  X d b l j := (m ((c : Thread nD τ).loc main_arg0) : Vec Ideal S2x2x2048x1024 .f32) (ix4 d b l j)
  g1 j := (m ((c : Thread nD τ).loc main_arg1) : Vec Ideal S1024 .f32) (ix1 j)
  b1 j := (m ((c : Thread nD τ).loc main_arg2) : Vec Ideal S1024 .f32) (ix1 j)
  g2 j := (m ((c : Thread nD τ).loc main_arg3) : Vec Ideal S1024 .f32) (ix1 j)
  b2 j := (m ((c : Thread nD τ).loc main_arg4) : Vec Ideal S1024 .f32) (ix1 j)
  Wq k j := (m ((c : Thread nD τ).loc main_arg5) : Vec Ideal S1024x1024 .f32) (ix2 k j)
  bq j := (m ((c : Thread nD τ).loc main_arg6) : Vec Ideal S1024 .f32) (ix1 j)
  Wk k j := (m ((c : Thread nD τ).loc main_arg7) : Vec Ideal S1024x1024 .f32) (ix2 k j)
  bk j := (m ((c : Thread nD τ).loc main_arg8) : Vec Ideal S1024 .f32) (ix1 j)
  Wv k j := (m ((c : Thread nD τ).loc main_arg9) : Vec Ideal S1024x1024 .f32) (ix2 k j)
  bv j := (m ((c : Thread nD τ).loc main_arg10) : Vec Ideal S1024 .f32) (ix1 j)
  Wo k j := (m ((c : Thread nD τ).loc main_arg11) : Vec Ideal S1024x1024 .f32) (ix2 k j)
  bo j := (m ((c : Thread nD τ).loc main_arg12) : Vec Ideal S1024 .f32) (ix1 j)
  F1 k j := (m ((c : Thread nD τ).loc main_arg13) : Vec Ideal S1024x4096 .f32) (ix2 k j)
  f1 j := (m ((c : Thread nD τ).loc main_arg14) : Vec Ideal S4096 .f32) (ix1 j)
  m1 j := (m ((c : Thread nD τ).loc main_arg15) : Vec Ideal S4096 .f32) (ix1 j)
  n1 j := (m ((c : Thread nD τ).loc main_arg16) : Vec Ideal S4096 .f32) (ix1 j)
  F2 k j := (m ((c : Thread nD τ).loc main_arg17) : Vec Ideal S4096x1024 .f32) (ix2 k j)
  f2 j := (m ((c : Thread nD τ).loc main_arg18) : Vec Ideal S1024 .f32) (ix1 j)
  m2 j := (m ((c : Thread nD τ).loc main_arg19) : Vec Ideal S1024 .f32) (ix1 j)
  n2 j := (m ((c : Thread nD τ).loc main_arg20) : Vec Ideal S1024 .f32) (ix1 j)
  idx d l u := ⟨((m ((c : Thread nD τ).loc main_arg21) : Vec Ideal S2x2048x40 .i32) (ix3 d l u)).toNat % 2048, by omega⟩

/-- The sampled keys are among the 2048. -/
def InRange : Prop := ∀ (d : Fin 2) (l : Fin 2048) (u : Fin 40),
  ((m ((c : Thread nD τ).loc main_arg21) : Vec Ideal S2x2048x40 .i32) (ix3 d l u)).toNat < 2048

/-- An array that the second and third host stretches leave alone holds what the first one left. -/
theorem W3_W1 (r : Ref sig .tc) (h2 : r ∉ hostOps0_2_W) (h1 : r ∉ hostOps0_1_W) : W3 m ρ c (Proc.devRef .tc r) = W1 m ρ c (Proc.devRef .tc r) :=
  (W3_of m ρ c r h2).trans (W2_of m ρ c r h1)

/-- The first call finds the input. -/
theorem V3_v0 (d b : Fin 2) (l : Fin 2048) (j : Fin 1024) : (V3 m ρ c main_v0 : Vec Ideal S2x4096x1024 .f32) (ix3 d (br b l) j) = (par m c).X d b l j :=
  (congrFun (W3_W1 m ρ c main_v0 (by decide) (by decide)) _).trans (Host.v0 (W0 m ρ c) d b l j)

/-- The first call finds the first normalisation's scale. -/
theorem V3_v53 (j : Fin 1024) : (V3 m ρ c main_v53 : Vec Ideal S1x1024 .f32) (ix2 0 j) = (par m c).g1 j :=
  (Host.v53 (W2 m ρ c) j).trans (congrFun (W2_args m ρ c main_arg1 (by decide)) _)

/-- The first call finds the first normalisation's shift. -/
theorem V3_v54 (j : Fin 1024) : (V3 m ρ c main_v54 : Vec Ideal S1x1024 .f32) (ix2 0 j) = (par m c).b1 j :=
  (Host.v54 (W2 m ρ c) j).trans (congrFun (W2_args m ρ c main_arg2 (by decide)) _)

/-- The first call leaves the normalised input. -/
theorem XN_eq (d b : Fin 2) (l : Fin 2048) (j : Fin 1024) : Arr0.XN (V3 m ρ) c (ix3 d (br b l) j) = xn (par m c) d b l j := by
  exact lnorm_congr _ _ (V3_v0 m ρ c d b l) (V3_v53 m ρ c) (V3_v54 m ρ c)

/-- The first third of the first call's product is the queries. -/
theorem QKV_0 (d b : Fin 2) (l : Fin 2048) (j : Fin 1024) : Arr0.QKV (V3 m ρ) c (ix3 d (br b l) (col 0 j)) = qq (par m c) d b l j := by
  have hw : ∀ k, (V3 m ρ c main_v2 : Vec Ideal S1024x3072 .bf16) (ix2 k (col 0 j)) = (par m c).Wq k j := fun k =>
    (congrFun (W3_W1 m ρ c main_v2 (by decide) (by decide)) _).trans (Host.v2_0 (W0 m ρ c) k j)
  have hb : (V3 m ρ c main_v4 : Vec Ideal S1x3072 .f32) (ix2 0 (col 0 j)) = (par m c).bq j :=
    (congrFun (W3_W1 m ρ c main_v4 (by decide) (by decide)) _).trans (Host.v4_0 (W0 m ρ c) j)
  exact dense_congr _ j (XN_eq m ρ c d b l) hw hb

/-- The second third of the first call's product is the keys. -/
theorem QKV_1 (d b : Fin 2) (l : Fin 2048) (j : Fin 1024) : Arr0.QKV (V3 m ρ) c (ix3 d (br b l) (col 1 j)) = kk (par m c) d b l j := by
  have hw : ∀ k, (V3 m ρ c main_v2 : Vec Ideal S1024x3072 .bf16) (ix2 k (col 1 j)) = (par m c).Wk k j := fun k =>
    (congrFun (W3_W1 m ρ c main_v2 (by decide) (by decide)) _).trans (Host.v2_1 (W0 m ρ c) k j)
  have hb : (V3 m ρ c main_v4 : Vec Ideal S1x3072 .f32) (ix2 0 (col 1 j)) = (par m c).bk j :=
    (congrFun (W3_W1 m ρ c main_v4 (by decide) (by decide)) _).trans (Host.v4_1 (W0 m ρ c) j)
  exact dense_congr _ j (XN_eq m ρ c d b l) hw hb

/-- The last third of the first call's product is the values. -/
theorem QKV_2 (d b : Fin 2) (l : Fin 2048) (j : Fin 1024) : Arr0.QKV (V3 m ρ) c (ix3 d (br b l) (col 2 j)) = vv (par m c) d b l j := by
  have hw : ∀ k, (V3 m ρ c main_v2 : Vec Ideal S1024x3072 .bf16) (ix2 k (col 2 j)) = (par m c).Wv k j := fun k =>
    (congrFun (W3_W1 m ρ c main_v2 (by decide) (by decide)) _).trans (Host.v2_2 (W0 m ρ c) k j)
  have hb : (V3 m ρ c main_v4 : Vec Ideal S1x3072 .f32) (ix2 0 (col 2 j)) = (par m c).bv j :=
    (congrFun (W3_W1 m ρ c main_v4 (by decide) (by decide)) _).trans (Host.v4_2 (W0 m ρ c) j)
  exact dense_congr _ j (XN_eq m ρ c d b l) hw hb

/-- What the later calls find of the first one's results. -/
theorem W4_qkv : W4 m ρ c (Proc.devRef .tc main_v55_0) = Arr0.QKV (V3 m ρ) c := (W4_arr m ρ c 5).trans (Arr0.arr5 (V3 m ρ) c)
/-- After the first call its second array is the normalised input. -/
theorem W4_xn : W4 m ρ c (Proc.devRef .tc main_v55_1) = Arr0.XN (V3 m ρ) c := (W4_arr m ρ c 6).trans (Arr0.arr6 (V3 m ρ) c)
/-- The calls that attend find the first call's product. -/
theorem W6_qkv : W6 m ρ c (Proc.devRef .tc main_v55_0) = Arr0.QKV (V3 m ρ) c :=
  ((W6_of m ρ c main_v55_0 (by decide +kernel)).trans (W5_of m ρ c main_v55_0 (by decide +kernel))).trans (W4_qkv m ρ c)
/-- The fifth call finds the normalised input. -/
theorem W8_xn : W8 m ρ c (Proc.devRef .tc main_v55_1) = Arr0.XN (V3 m ρ) c :=
  ((W8_of m ρ c main_v55_1 (by decide)).trans <| (W7_of m ρ c main_v55_1 (by decide +kernel)).trans <|
    (W6_of m ρ c main_v55_1 (by decide +kernel)).trans (W5_of m ρ c main_v55_1 (by decide +kernel))).trans (W4_xn m ρ c)

variable (hr : InRange m c)
include hr

/-- The samples as words: the key's number. -/
theorem smp (d : Fin 2) (l : Fin 2048) (u : Fin 40) : (W0 m ρ c (Proc.devRef .tc main_arg21) : Vec Ideal S2x2048x40 .i32) (ix3 d l u)
    = BitVec.ofNat 32 ((par m c).idx d l u).val := by
  have h := hr d l u
  show (m ((c : Thread nD τ).loc main_arg21) : Vec Ideal S2x2048x40 .i32) (ix3 d l u) = BitVec.ofNat 32 (((m ((c : Thread nD τ).loc main_arg21) : Vec Ideal S2x2048x40 .i32) (ix3 d l u)).toNat % 2048)
  generalize ((m ((c : Thread nD τ).loc main_arg21) : Vec Ideal S2x2048x40 .i32) (ix3 d l u)) = x at *
  rw [Nat.mod_eq_of_lt h]
  exact BitVec.eq_of_toNat_eq (by rw [BitVec.toNat_ofNat]; exact (Nat.mod_eq_of_lt x.isLt).symm)

/-- The first host stretch leaves the table of counts. -/
theorem W1_v47 (d : Fin 2) (l s : Fin 2048) : (W1 m ρ c (Proc.devRef .tc main_v47) : Vec Ideal S2x2048x2048 .f32) (ix3 d l s) = cnt (par m c) d l s :=
  Host.v47_apply (W0 m ρ c) (par m c).idx (smp m ρ c hr) d l s

/-- The second call finds the table of counts. -/
theorem V4_v51 (d : Fin 2) (l s : Fin 2048) : (V4 m ρ c main_v51 : Vec Ideal S2x2048x2048 .bf16) (ix3 d l s) = cnt (par m c) d l s :=
  (congrFun (W4_of m ρ c main_v51 (by decide +kernel)) _).trans <| (congrFun (Host.v51 (W2 m ρ c)) _).trans <|
    (congrFun (W2_of m ρ c main_v47 (by decide)) _).trans (W1_v47 m ρ c hr d l s)

/-- The second call finds the bias: zero at a sampled key, minus infinity elsewhere. -/
theorem V4_v52 (d : Fin 2) (l s : Fin 2048) : (V4 m ρ c main_v52 : Vec Ideal S2x2048x2048 .bf16) (ix3 d l s) = msk (par m c) d l s := by
  refine (congrFun (W4_of m ρ c main_v52 (by decide +kernel)) _).trans <| (congrFun (Host.v52 (W2 m ρ c)) _).trans <|
    (Host.bias_apply (W0 m ρ c) d l s).trans ?_
  have h := W1_v47 m ρ c hr d l s
  unfold msk
  rw [← h]

/-- The second call leaves the measure through the counts. -/
theorem M_eq (d b : Fin 2) (h : Fin 16) (l : Fin 2048) : Arr1.M (V4 m ρ) c (ix4 d b h l) = mK (par m c) d b h l := by
  exact mker_congr h (fun j => (congrFun (W4_qkv m ρ c) _).trans (QKV_0 m ρ c (other d) b l j))
    (fun s j => (congrFun (W4_qkv m ρ c) _).trans (QKV_1 m ρ c d b s j)) (fun s => V4_v51 m ρ c hr d l s) (fun s => V4_v52 m ρ c hr d l s)

/-- The third call leaves the positions taken. -/
theorem T_eq (d b : Fin 2) (h : Fin 16) (u : Fin 40) : (W6 m ρ c (Proc.devRef .tc main_v57) : Vec Ideal S2x2x16x40 .i32) (ix4 d b h u)
    = BitVec.ofNat 32 (pick (left (mK (par m c) d b h) u.val)).val := by
  refine (congrFun ((W6_arr m ρ c 1).trans (Arr2.arr (V5 m ρ) c)) _).trans ?_
  show BitVec.ofNat 32 (pick (left (fun s => ((V5 m ρ c main_v56 : Vec Ideal S2x2x16x2048 .f32) (ix4 d b h s) : EReal)) u.val)).val = _
  rw [show (fun s => ((V5 m ρ c main_v56 : Vec Ideal S2x2x16x2048 .f32) (ix4 d b h s) : EReal)) = mK (par m c) d b h from
    funext fun s => (congrFun ((W5_arr m ρ c 4).trans (Arr1.arr (V4 m ρ) c)) _).trans (M_eq m ρ c hr d b h s)]

/-- The fourth call leaves the context. -/
theorem C_eq (d b : Fin 2) (l : Fin 2048) (j : Fin 1024) : (W7 m ρ c (Proc.devRef .tc main_v58) : Vec Ideal S2x2x2048x1024 .bf16) (ix4 d b l j)
    = ctxK (par m c) d b l j := by
  refine (congrFun ((W7_arr m ρ c 4).trans (Arr3.arr (V6 m ρ) c)) _).trans ?_
  show Arr3.cat (V6 m ρ) c d b l (hOf j) (eOf j) = _
  unfold Arr3.cat ctxK
  exact ctxker_congr _ _ (fun u => T_eq m ρ c hr d b (hOf j) u)
    (fun r f => (congrFun (W6_qkv m ρ c) _).trans (QKV_0 m ρ c (other d) b r (hd (hOf j) f)))
    (fun r f => (congrFun (W6_qkv m ρ c) _).trans (QKV_1 m ρ c d b r (hd (hOf j) f)))
    (fun r f => (congrFun (W6_qkv m ρ c) _).trans (QKV_2 m ρ c d b r (hd (hOf j) f)))

/-- The fifth call leaves the normalised residual. -/
theorem Y_eq (d b : Fin 2) (l : Fin 2048) (j : Fin 1024) : (W10 m ρ c (Proc.devRef .tc main_v64) : Vec Ideal S2x4096x1024 .bf16) (ix3 d (br b l) j)
    = yrow (par m c) (xn (par m c) d b l) (ctxK (par m c) d b l) j := by
  refine (congrFun (((W10_of m ρ c main_v64 (by decide)).trans (W9_arr m ρ c 6)).trans (Arr4.arr (V8 m ρ) c)) _).trans ?_
  refine lnorm_congr _ _ (fun o => add_congr (dense_congr o o (fun k => ?_) (fun k => ?_) ?_) ?_) (fun k => ?_) (fun k => ?_)
  · exact (Host.v59 (W7 m ρ c) d b l k).trans (C_eq m ρ c hr d b l k)
  · exact (congrFun (Host.v60 (W7 m ρ c)) _).trans (congrFun (W7_args m ρ c main_arg11 (by decide)) _)
  · exact (Host.v61 (W7 m ρ c) o).trans (congrFun (W7_args m ρ c main_arg12 (by decide)) _)
  · exact (congrFun (W8_xn m ρ c) _).trans (XN_eq m ρ c d b l o)
  · exact (Host.v62 (W7 m ρ c) k).trans (congrFun (W7_args m ρ c main_arg3 (by decide)) _)
  · exact (Host.v63 (W7 m ρ c) k).trans (congrFun (W7_args m ρ c main_arg4 (by decide)) _)

/-- The sixth call leaves the block's result. -/
theorem Z_eq (d b : Fin 2) (l : Fin 2048) (j : Fin 1024) : (W11 m ρ c (Proc.devRef .tc main_v73) : Vec Ideal S2x4096x1024 .f32) (ix3 d (br b l) j)
    = outK (par m c) d b l j := by
  refine (congrFun ((W11_arr m ρ c 9).trans (Arr5.arr (V10 m ρ) c)) _).trans ?_
  have hy : (fun k => (V10 m ρ c main_v64 : Vec Ideal S2x4096x1024 .bf16) (ix3 d (br b l) k)) = yrow (par m c) (xn (par m c) d b l) (ctxK (par m c) d b l) :=
    funext fun k => Y_eq m ρ c hr d b l k
  refine add_congr (congrFun hy j) (lnorm_congr _ _ (fun o => dense_congr o o (fun k => congrArg gelu (lnorm_congr _ _
    (fun p => dense_congr p p (congrFun hy) (fun q => ?_) ?_) (fun p => ?_) (fun p => ?_))) (fun q => ?_) ?_) (fun p => ?_) (fun p => ?_))
  · exact (congrFun (Host.v65 (W9 m ρ c)) _).trans (congrFun (W9_args m ρ c main_arg13 (by decide)) _)
  · exact (Host.v66 (W9 m ρ c) p).trans (congrFun (W9_args m ρ c main_arg14 (by decide)) _)
  · exact (Host.v67 (W9 m ρ c) p).trans (congrFun (W9_args m ρ c main_arg15 (by decide)) _)
  · exact (Host.v68 (W9 m ρ c) p).trans (congrFun (W9_args m ρ c main_arg16 (by decide)) _)
  · exact (congrFun (Host.v69 (W9 m ρ c)) _).trans (congrFun (W9_args m ρ c main_arg17 (by decide)) _)
  · exact (Host.v70 (W9 m ρ c) o).trans (congrFun (W9_args m ρ c main_arg18 (by decide)) _)
  · exact (Host.v71 (W9 m ρ c) p).trans (congrFun (W9_args m ρ c main_arg19 (by decide)) _)
  · exact (Host.v72 (W9 m ρ c) p).trans (congrFun (W9_args m ρ c main_arg20 (by decide)) _)

/-- The two results. -/
theorem v76_eq (b : Fin 2) (l : Fin 2048) (j : Fin 1024) : (W12 m ρ c (Proc.devRef .tc main_v76) : Vec Ideal S2x2048x1024 .f32) (ix3 b l j)
    = outK (par m c) 0 b l j := (Host.v76 (W11 m ρ c) b l j).trans (Z_eq m ρ c hr 0 b l j)
/-- The kernel's second result is the block's mathematics of the second stream. -/
theorem v78_eq (b : Fin 2) (l : Fin 2048) (j : Fin 1024) : (W12 m ρ c (Proc.devRef .tc main_v78) : Vec Ideal S2x2048x1024 .f32) (ix3 b l j)
    = outK (par m c) 1 b l j := (Host.v78 (W11 m ρ c) b l j).trans (Z_eq m ρ c hr 1 b l j)

end Cert.Proof.KRun

end
-- ==== Proof.KOut.lean ====
/-
  The kernel's launch read at its two results: every final state holds, at both result arrays, the contents that the last
  boundary of the program names, and the arguments as launched.
-/
module

public import proofs.«01_k».proof.Proof.KRun

@[expose] public section

set_option maxRecDepth 16384

noncomputable section

namespace Cert.Proof.KOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

variable (m : (ℓ : Loc nD τ sig) → Buf (Elt Ideal) ℓ) (ρ : Dev nD → PrngReg)

set_option backward.isDefEq.respectTransparency.types false in
/-- Every execution of the kernel ends with the two result arrays at the contents of the program's last boundary. -/
theorem results : θ_run defs (onTc (τ := τ) (main (F := Ideal))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_v78) = W12 m ρ c (Proc.devRef .tc main_v78)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c => ⟨h c _ (mem_uc main_v76 (by decide)), h c _ (mem_uc main_v78 (by decide))⟩)

end Cert.Proof.KOut

end
-- ==== Proof.PreK.lean ====
/-
  The precondition read: the operands of the sampled scores are real numbers, and the sampled keys are among the 2048.
-/
module

public import proofs.«01_k».proof.Defs
public import proofs.«01_k».proof.Proof.KRun
public import proofs.«01_k».proof.Proof.Finite
public import proofs.«01_k».proof.Proof.Gen.Pre_reals_and_rows
public import Idealize.ShloMosaic.Lib.StableHlo.Predicate
public import Idealize.ShloMosaic.Lib.KernelVsHost

@[expose] public section

set_option maxRecDepth 16384

noncomputable section

namespace Cert.Proof.PreK

open Idealize.ShloMosaic Idealize.ShloMosaic.TcCoe Idealize.ShloMosaic.StableHlo Cert.KernelIdeal Cert.Spec

/-- A value whose magnitude is below the infinity is a real number. -/
theorem isR_of_lt {x : Ideal .f32} (h : FloatOps.cmpf .olt (FloatOps.hostAbsf x) (FloatOps.ofBits (F := Ideal) .f32 0x7F800000#32) = 1#1) :
    IsR (x : EReal) := by
  rw [← Idealize.ShloMosaic.Ideal.xori_weird_eq_hostAbsf_olt_inf] at h
  have hn : ¬ ((x : EReal) = ⊤ ∨ (x : EReal) = ⊥) := fun hw => by
    have e : FloatOps.weird x = 1#1 := by
      show BitVec.ofBool (decide ((x : EReal) = ⊤ ∨ (x : EReal) = ⊥)) = 1#1
      rw [decide_eq_true hw]; rfl
    rw [e] at h
    exact absurd h (by decide)
  push Not at hn
  exact ⟨(x : EReal).toReal, (EReal.coe_toReal hn.1 hn.2).symm⟩

/-- A word at least zero and below 2048, both in the signed order, is below 2048 as a natural number. -/
theorem small_of {x : BitVec 32} (h0 : IntOp.cmpi .sge x 0#32 = 1#1) (h1 : IntOp.cmpi .slt x 2048#32 = 1#1) : x.toNat < 2048 := by
  have h0' : (0#32).sle x = true := (Predicate.ofBool_eq_one_iff _).1 h0
  have h1' : x.slt 2048#32 = true := (Predicate.ofBool_eq_one_iff _).1 h1
  simp only [BitVec.sle, BitVec.slt, decide_eq_true_eq] at h0' h1'
  have e0 : (0#32).toInt = 0 := by decide
  have e1 : (2048#32).toInt = 2048 := by decide
  rw [e0] at h0'; rw [e1] at h1'
  have hx := BitVec.toInt_eq_toNat_cond x
  have hl := x.isLt
  split at hx <;> omega

variable (m : (ℓ : Loc nD τ sig) → Buf (Elt Ideal) ℓ) (c : Dev nD)

variable {m}

/-- What the precondition says of the memory of one device. -/
theorem inRange (h : Cert.Pre_KernelIdeal_reals_and_rows (hPre_reals_and_rows := Cert.Pre_reals_and_rows.Gen.facts) m) : KRun.InRange m c := fun d l u => by
  obtain ⟨-, -, -, -, -, -, -, h0, h1⟩ := h c
  exact small_of (congrFun h0 (ix3 d l u)) (congrFun h1 (ix3 d l u))

/-- Under the precondition the operands of the sampled scores are real numbers. -/
theorem real (h : Cert.Pre_KernelIdeal_reals_and_rows (hPre_reals_and_rows := Cert.Pre_reals_and_rows.Gen.facts) m) : Cert.Spec.Real (KRun.par m c) := by
  obtain ⟨h0, h1, h2, h5, h6, h7, h8, -, -⟩ := h c
  exact { X := fun d b l j => isR_of_lt (congrFun h0 (ix4 d b l j))
          g1 := fun j => isR_of_lt (congrFun h1 (ix1 j))
          b1 := fun j => isR_of_lt (congrFun h2 (ix1 j))
          Wq := fun k j => isR_of_lt (congrFun h5 (ix2 k j))
          bq := fun j => isR_of_lt (congrFun h6 (ix1 j))
          Wk := fun k j => isR_of_lt (congrFun h7 (ix2 k j))
          bk := fun j => isR_of_lt (congrFun h8 (ix1 j)) }

end Cert.Proof.PreK

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_reals_and_rows
public import proofs.«01_k».proof.Proof.Gen.Reference.Run
public import proofs.«01_k».proof.Proof.Gen.ReferenceIdeal.Run
public import proofs.«01_k».proof.Proof.RefE
public import Idealize.ShloMosaic.Lib.Claim
public import proofs.«01_k».proof.Proof.KOut
public import proofs.«01_k».proof.Proof.PreK
public import Idealize.ShloMosaic.Adequacy
public import Idealize.ShloMosaic.Init

@[expose] public section

noncomputable section

namespace Cert.Proof

open Idealize.ShloMosaic Idealize.SL.Sem Cert.Kernel

/-- The reference terminates without fault and leaves its arguments; it has no semaphore. -/
theorem frame_Reference : Cert.quiescent_Reference := fun m ρ _ =>
  (θ_run (Cert.Reference.defs (F := Bits)) _ _).mono
    (fun r h => ⟨fun c => (h c).2.2, Idealize.ShloMosaic.sem_eq_zero_of_no_sems (by decide) r.2⟩)
    (Cert.Reference.Value.run m ρ)

/-- The ideal reference terminates without fault and leaves its arguments; it has no semaphore. -/
theorem frame_ReferenceIdeal : Cert.quiescent_ReferenceIdeal := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run m ρ)

section Value

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The reference's launch contents hold the operands of the kernel's launch memory. -/
theorem holds (c : Dev Cert.KernelIdeal.nD) (hr : KRun.InRange m c)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) :
    Ref.Holds (Idealize.ShloMosaic.StableHlo.launchContents m' c) (KRun.par m c) := by
  obtain ⟨h0, h1, h2, h3, h4, h5, h6, h7, h8, h9, h10, h11, h12, h13, h14, h15, h16, h17, h18, h19, h20, h21⟩ := h
  exact
  { X := fun d b l j => congrFun h0 (ix4 d b l j)
    g1 := fun j => congrFun h1 (ix1 j)
    b1 := fun j => congrFun h2 (ix1 j)
    g2 := fun j => congrFun h3 (ix1 j)
    b2 := fun j => congrFun h4 (ix1 j)
    Wq := fun k j => congrFun h5 (ix2 k j)
    bq := fun j => congrFun h6 (ix1 j)
    Wk := fun k j => congrFun h7 (ix2 k j)
    bk := fun j => congrFun h8 (ix1 j)
    Wv := fun k j => congrFun h9 (ix2 k j)
    bv := fun j => congrFun h10 (ix1 j)
    Wo := fun k j => congrFun h11 (ix2 k j)
    bo := fun j => congrFun h12 (ix1 j)
    F1 := fun k j => congrFun h13 (ix2 k j)
    f1 := fun j => congrFun h14 (ix1 j)
    m1 := fun j => congrFun h15 (ix1 j)
    n1 := fun j => congrFun h16 (ix1 j)
    F2 := fun k j => congrFun h17 (ix2 k j)
    f2 := fun j => congrFun h18 (ix1 j)
    m2 := fun j => congrFun h19 (ix1 j)
    n2 := fun j => congrFun h20 (ix1 j)
    idx := fun d l u => (congrFun h21 (ix3 d l u)).trans (KRun.smp m (fun _ => default) c hr d l u) }

end Value

/-- Under the precondition the kernel and the reference, run from equal arguments, leave equal results. -/
theorem value : Cert.algebraic_KernelIdeal_ReferenceIdeal_pre_reals_and_rows (hKernelIdeal := Cert.KernelIdeal.Gen.facts)
    (hReferenceIdeal := Cert.ReferenceIdeal.Gen.facts) (hPre_reals_and_rows := Cert.Pre_reals_and_rows.Gen.facts) := by
  intro m g m' g' hp hm
  have e0 : ∀ c, Cert.KernelIdeal.Gen.W12 m g c (Proc.devRef .tc Cert.KernelIdeal.main_v76) = Ref.out0 (Idealize.ShloMosaic.StableHlo.launchContents m' c) := fun c => by
    funext i
    obtain ⟨b, l, j, rfl⟩ : ∃ b l j, i = ix3 b l j := ⟨_, _, _, eq_ix3 i⟩
    exact (KRun.v76_eq m g c (PreK.inRange c hp) b l j).trans (Ref.out0_apply (holds c (PreK.inRange c hp) (hm c)) (PreK.real c hp) b l j).symm
  have e1 : ∀ c, Cert.KernelIdeal.Gen.W12 m g c (Proc.devRef .tc Cert.KernelIdeal.main_v78) = Ref.out1 (Idealize.ShloMosaic.StableHlo.launchContents m' c) := fun c => by
    funext i
    obtain ⟨b, l, j, rfl⟩ : ∃ b l j, i = ix3 b l j := ⟨_, _, _, eq_ix3 i⟩
    exact (KRun.v78_eq m g c (PreK.inRange c hp) b l j).trans (Ref.out1_apply (holds c (PreK.inRange c hp) (hm c)) (PreK.real c hp) b l j).symm
  refine ⟨fun c => Cert.KernelIdeal.Gen.W12 m g c (Proc.devRef .tc Cert.KernelIdeal.main_v76),
    fun c => Cert.KernelIdeal.Gen.W12 m g c (Proc.devRef .tc Cert.KernelIdeal.main_v78), ?_, ?_⟩
  · exact (θ_run _ _ _).mono (fun r h c => ⟨(h.1 c).1, (h.1 c).2, h.2.1 c⟩) (θ_run_and (KOut.results m g) (Cert.KernelIdeal.Gen.frame m g))
  · exact (θ_run _ _ _).mono (fun r h c => ⟨(h c).1.trans (e0 c).symm, (h c).2.1.trans (e1 c).symm, (h c).2.2⟩) (Cert.ReferenceIdeal.Value.run m' g')

/-- The claim: the frames, the named constant's statement and the value. -/
theorem claim : Cert.Claim :=
  ⟨Cert.Kernel.Gen.facts, Cert.KernelIdeal.Gen.facts, Cert.ReferenceIdeal.Gen.facts, Cert.Reference.Gen.facts, Cert.Pre_reals_and_rows.Gen.facts,
    fun m ρ _ => Cert.Kernel.Gen.frame m ρ, fun m ρ _ => Cert.KernelIdeal.Gen.frame m ρ, fun m ρ _ => Cert.KernelIdeal.Gen.frame m ρ,
    frame_ReferenceIdeal, fun m ρ _ => frame_ReferenceIdeal m ρ trivial, frame_Reference,
    IdealRules.named_const.statement Cert.KernelIdeal.κ "root_half" .f32 0x3F3504F3#32 (((Real.sqrt 2)⁻¹ : ℝ) : EReal) rfl,
    trivial, value⟩

end Cert.Proof

end
